-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v111) = v0 c
          ∧ r.2.mem ((c.tc : Thread Cert.Reference4Ideal.nD Cert.Reference4Ideal.τ).loc Cert.Reference4Ideal.main_v112) = v1 c
          ∧ r.2.mem ((c.tc : Thread Cert.Reference4Ideal.nD Cert.Reference4Ideal.τ).loc Cert.Reference4Ideal.main_v119) = v2 c
          ∧ r.2.mem ((c.tc : Thread Cert.Reference4Ideal.nD Cert.Reference4Ideal.τ).loc Cert.Reference4Ideal.main_v123) = v3 c
          ∧ r.2.mem ((c.tc : Thread Cert.Reference4Ideal.nD Cert.Reference4Ideal.τ).loc Cert.Reference4Ideal.main_v107) = v4 c
          ∧ r.2.mem ((c.tc : Thread Cert.Reference4Ideal.nD Cert.Reference4Ideal.τ).loc Cert.Reference4Ideal.main_v126) = v5 c
          ∧ r.2.mem ((c.tc : Thread Cert.Reference4Ideal.nD Cert.Reference4Ideal.τ).loc Cert.Reference4Ideal.main_v129) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x2048x2048 : Shape := ⟨3, ![4, 2048, 2048]⟩
abbrev S4x12288 : Shape := ⟨2, ![4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x2048x4616 : Shape := ⟨3, ![2, 2048, 4616]⟩
abbrev S2x2048x2048 : Shape := ⟨3, ![2, 2048, 2048]⟩
abbrev S4x8192 : Shape := ⟨2, ![4, 8192]⟩
abbrev S_ : Shape := ⟨0, ![]⟩
abbrev S8x8192 : Shape := ⟨2, ![8, 8192]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2x4616x2048 : Shape := ⟨3, ![2, 4616, 2048]⟩
abbrev S2048x4736 : Shape := ⟨2, ![2048, 4736]⟩
abbrev S2048x2048 : Shape := ⟨2, ![2048, 2048]⟩
abbrev S1x128x2048 : Shape := ⟨3, ![1, 128, 2048]⟩
abbrev S8x2048 : Shape := ⟨2, ![8, 2048]⟩
abbrev S2048x1024 : Shape := ⟨2, ![2048, 1024]⟩
abbrev S1024x2048 : Shape := ⟨2, ![1024, 2048]⟩
abbrev S1x32x2048 : Shape := ⟨3, ![1, 32, 2048]⟩
abbrev S2048x128 : Shape := ⟨2, ![2048, 128]⟩
abbrev S32x2048 : Shape := ⟨2, ![32, 2048]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1024x1024 : Shape := ⟨2, ![1024, 1024]⟩

abbrev nBuf : Space → Nat
  | .hbm => 22
  | .vmem => 27
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S2x2048x4616, .f32⟩
  | .hbm, ⟨7, _⟩ => ⟨S2x2048x2048, .f32⟩
  | .hbm, ⟨8, _⟩ => ⟨S4x8192, .f32⟩
  | .hbm, ⟨9, _⟩ => ⟨S_, .i32⟩
  | .hbm, ⟨10, _⟩ => ⟨S_, .f32⟩
  | .hbm, ⟨11, _⟩ => ⟨S8x8192, .f32⟩
  | .hbm, ⟨12, _⟩ => ⟨S1x2048x8192, .f32⟩
  | .hbm, ⟨13, _⟩ => ⟨S2048x8192, .f32⟩
  | .hbm, ⟨14, _⟩ => ⟨S2048x8192, .bf16⟩
  | .hbm, ⟨15, _⟩ => ⟨S1x8192x2048, .f32⟩
  | .hbm, ⟨16, _⟩ => ⟨S8192x2048, .f32⟩
  | .hbm, ⟨17, _⟩ => ⟨S8192x2048, .bf16⟩
  | .hbm, ⟨18, _⟩ => ⟨S2x4616x2048, .f32⟩
  | .hbm, ⟨19, _⟩ => ⟨S4x2048x2048, .f32⟩
  | .hbm, ⟨20, _⟩ => ⟨S2048x4736, .bf16⟩
  | .hbm, ⟨21, _⟩ => ⟨S2048x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S2x2048, .f32⟩
  | .local _ .vmem, ⟨8, _⟩ => ⟨S2x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x128x2048, .f32⟩
  | .local _ .vmem, ⟨14, _⟩ => ⟨S1x128x2048, .f32⟩
  | .local _ .vmem, ⟨15, _⟩ => ⟨S1x32x2048, .f32⟩
  | .local _ .vmem, ⟨16, _⟩ => ⟨S1x32x2048, .f32⟩
  | .local _ .vmem, ⟨17, _⟩ => ⟨S1x128x2048, .f32⟩
  | .local _ .vmem, ⟨18, _⟩ => ⟨S1x128x2048, .f32⟩
  | .local _ .vmem, ⟨19, _⟩ => ⟨S2048x128, .bf16⟩
  | .local _ .vmem, ⟨20, _⟩ => ⟨S2048x128, .bf16⟩
  | .local _ .vmem, ⟨21, _⟩ => ⟨S32x2048, .bf16⟩
  | .local _ .vmem, ⟨22, _⟩ => ⟨S32x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .f32⟩
  | .local _ .vmem, ⟨26, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c7_i32 : BitVec 32 := 7#32
  let v62 : BitVec 32 := Scalar.minsi arg0 c7_i32
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let v95 : Index := Scalar.indexCast v79
  let c0_46 : Index := 0#32
  ![v95.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v108 : Index := Scalar.indexCast v1
  let c0_49 : Index := 0#32
  ![v108.toNat, 0]
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c7_i32 : BitVec 32 := 7#32
  let v62 : BitVec 32 := Scalar.minsi arg0 c7_i32
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let v95 : Index := Scalar.indexCast v79
  let c0_46 : Index := 0#32
  ![v95.toNat, 0]
def k0_off4 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v108 : Index := Scalar.indexCast v1
  let c0_49 : Index := 0#32
  ![v108.toNat, 0]
def k0_cond3 (i : grid0.Coords) : BitVec 1 :=
  let arg0 : BitVec 32 := BitVec.ofNat 32 (i 0).val
  let c2_i32 : BitVec 32 := 2#32
  let v8 : BitVec 1 := Scalar.cmpi .sge arg0 c2_i32
  let c8_i32 : BitVec 32 := 8#32
  let v9 : BitVec 1 := Scalar.cmpi .sle arg0 c8_i32
  let v10 : BitVec 1 := Scalar.andi v8 v9
  let c2_i32_2 : BitVec 32 := 2#32
  let c0_i32_3 : BitVec 32 := 0#32
  let v11 : BitVec 1 := Scalar.cmpi .eq c2_i32_2 c0_i32_3
  let c1_i32_4 : BitVec 32 := 1#32
  let v12 : BitVec 32 := Scalar.select v11 c1_i32_4 c2_i32_2
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_8 : BitVec 32 := 0#32
  let v21 : BitVec 1 := Scalar.cmpi .eq v20 c0_i32_8
  let v22 : BitVec 1 := Scalar.andi v10 v21
  let v23 : BitVec 32 := Scalar.extui v22
  let c0_i32_9 : BitVec 32 := 0#32
  let v24 : BitVec 1 := Scalar.cmpi .ne v23 c0_i32_9
  v24

def k0_off5 (i : grid0.Coords) : Fin 2 → Nat :=
  let arg0 : BitVec 32 := BitVec.ofNat 32 (i 0).val
  let c7_i32 : BitVec 32 := 7#32
  let v62 : BitVec 32 := Scalar.minsi arg0 c7_i32
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let v95 : Index := Scalar.indexCast v79
  let c0_46 : Index := 0#32
  ![v95.toNat, 0]
def k0_off6 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v108 : Index := Scalar.indexCast v1
  let c0_49 : Index := 0#32
  ![v108.toNat, 0]
def k0_off7 (i : grid0.Coords) : Fin 2 → Nat :=
  let arg0 : BitVec 32 := BitVec.ofNat 32 (i 0).val
  let c2_i32_50 : BitVec 32 := 2#32
  let v112 : BitVec 32 := Scalar.subi arg0 c2_i32_50
  let c0_i32_51 : BitVec 32 := 0#32
  let v113 : BitVec 32 := Scalar.maxsi v112 c0_i32_51
  let c0_i32_53 : BitVec 32 := 0#32
  let v115 : BitVec 1 := Scalar.cmpi .sgt v113 c0_i32_53
  let v116 : BitVec 32 := Scalar.extui v115
  let c0_i32_54 : BitVec 32 := 0#32
  let v117 : BitVec 1 := Scalar.cmpi .slt v113 c0_i32_54
  let v118 : BitVec 32 := Scalar.extui v117
  let v119 : BitVec 32 := Scalar.subi v116 v118
  let c2_i32_52 : BitVec 32 := 2#32
  let c0_i32_55 : BitVec 32 := 0#32
  let v120 : BitVec 1 := Scalar.cmpi .sgt c2_i32_52 c0_i32_55
  let v121 : BitVec 32 := Scalar.extui v120
  let c0_i32_56 : BitVec 32 := 0#32
  let v122 : BitVec 1 := Scalar.cmpi .slt c2_i32_52 c0_i32_56
  let v123 : BitVec 32 := Scalar.extui v122
  let v124 : BitVec 32 := Scalar.subi v121 v123
  let v125 : BitVec 1 := Scalar.cmpi .ne v119 v124
  let v126 : BitVec 32 := Scalar.remsi v113 c2_i32_52
  let c0_i32_57 : BitVec 32 := 0#32
  let v127 : BitVec 1 := Scalar.cmpi .ne v126 c0_i32_57
  let v128 : BitVec 1 := Scalar.andi v125 v127
  let v114 : BitVec 32 := Scalar.divsi v113 c2_i32_52
  let c1_i32_58 : BitVec 32 := 1#32
  let v129 : BitVec 32 := Scalar.subi v114 c1_i32_58
  let v130 : BitVec 32 := Scalar.select v128 v129 v114
  let v133 : Index := Scalar.indexCast v130
  let c0_62 : Index := 0#32
  ![v133.toNat, 0]
def k0_cond4 (i : grid0.Coords) : BitVec 1 :=
  let arg0 : BitVec 32 := BitVec.ofNat 32 (i 0).val
  let c2_i32 : BitVec 32 := 2#32
  let v8 : BitVec 1 := Scalar.cmpi .sge arg0 c2_i32
  let c8_i32 : BitVec 32 := 8#32
  let v9 : BitVec 1 := Scalar.cmpi .sle arg0 c8_i32
  let v10 : BitVec 1 := Scalar.andi v8 v9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_16 : BitVec 32 := 1#32
  let v35 : BitVec 1 := Scalar.cmpi .eq v34 c1_i32_16
  let v36 : BitVec 1 := Scalar.andi v10 v35
  let v37 : BitVec 32 := Scalar.extui v36
  let c0_i32_17 : BitVec 32 := 0#32
  let v38 : BitVec 1 := Scalar.cmpi .ne v37 c0_i32_17
  v38

def k0_off8 (i : grid0.Coords) : Fin 2 → Nat :=
  let arg0 : BitVec 32 := BitVec.ofNat 32 (i 0).val
  let c7_i32 : BitVec 32 := 7#32
  let v62 : BitVec 32 := Scalar.minsi arg0 c7_i32
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let v95 : Index := Scalar.indexCast v79
  let c0_46 : Index := 0#32
  ![v95.toNat, 0]
def k0_off9 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v108 : Index := Scalar.indexCast v1
  let c0_49 : Index := 0#32
  ![v108.toNat, 0]
def k0_off10 (i : grid0.Coords) : Fin 2 → Nat :=
  let arg0 : BitVec 32 := BitVec.ofNat 32 (i 0).val
  let c2_i32_50 : BitVec 32 := 2#32
  let v112 : BitVec 32 := Scalar.subi arg0 c2_i32_50
  let c0_i32_51 : BitVec 32 := 0#32
  let v113 : BitVec 32 := Scalar.maxsi v112 c0_i32_51
  let c0_i32_53 : BitVec 32 := 0#32
  let v115 : BitVec 1 := Scalar.cmpi .sgt v113 c0_i32_53
  let v116 : BitVec 32 := Scalar.extui v115
  let c0_i32_54 : BitVec 32 := 0#32
  let v117 : BitVec 1 := Scalar.cmpi .slt v113 c0_i32_54
  let v118 : BitVec 32 := Scalar.extui v117
  let v119 : BitVec 32 := Scalar.subi v116 v118
  let c2_i32_52 : BitVec 32 := 2#32
  let c0_i32_55 : BitVec 32 := 0#32
  let v120 : BitVec 1 := Scalar.cmpi .sgt c2_i32_52 c0_i32_55
  let v121 : BitVec 32 := Scalar.extui v120
  let c0_i32_56 : BitVec 32 := 0#32
  let v122 : BitVec 1 := Scalar.cmpi .slt c2_i32_52 c0_i32_56
  let v123 : BitVec 32 := Scalar.extui v122
  let v124 : BitVec 32 := Scalar.subi v121 v123
  let v125 : BitVec 1 := Scalar.cmpi .ne v119 v124
  let v126 : BitVec 32 := Scalar.remsi v113 c2_i32_52
  let c0_i32_57 : BitVec 32 := 0#32
  let v127 : BitVec 1 := Scalar.cmpi .ne v126 c0_i32_57
  let v128 : BitVec 1 := Scalar.andi v125 v127
  let v114 : BitVec 32 := Scalar.divsi v113 c2_i32_52
  let c1_i32_58 : BitVec 32 := 1#32
  let v129 : BitVec 32 := Scalar.subi v114 c1_i32_58
  let v130 : BitVec 32 := Scalar.select v128 v129 v114
  let v133 : Index := Scalar.indexCast v130
  let c0_62 : Index := 0#32
  ![v133.toNat, 0]
def k0_cond5 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_18 : BitVec 32 := 0#32
  let v41 : BitVec 1 := Scalar.cmpi .ne v40 c0_i32_18
  v41

def k0_off11 (i : grid0.Coords) : Fin 2 → Nat :=
  let arg0 : BitVec 32 := BitVec.ofNat 32 (i 0).val
  let c2_i32_31 : BitVec 32 := 2#32
  let v62 : BitVec 32 := Scalar.subi arg0 c2_i32_31
  let c0_i32_32 : BitVec 32 := 0#32
  let v63 : BitVec 32 := Scalar.maxsi v62 c0_i32_32
  let c0_i32_34 : BitVec 32 := 0#32
  let v65 : BitVec 1 := Scalar.cmpi .sgt v63 c0_i32_34
  let v66 : BitVec 32 := Scalar.extui v65
  let c0_i32_35 : BitVec 32 := 0#32
  let v67 : BitVec 1 := Scalar.cmpi .slt v63 c0_i32_35
  let v68 : BitVec 32 := Scalar.extui v67
  let v69 : BitVec 32 := Scalar.subi v66 v68
  let c2_i32_33 : BitVec 32 := 2#32
  let c0_i32_36 : BitVec 32 := 0#32
  let v70 : BitVec 1 := Scalar.cmpi .sgt c2_i32_33 c0_i32_36
  let v71 : BitVec 32 := Scalar.extui v70
  let c0_i32_37 : BitVec 32 := 0#32
  let v72 : BitVec 1 := Scalar.cmpi .slt c2_i32_33 c0_i32_37
  let v73 : BitVec 32 := Scalar.extui v72
  let v74 : BitVec 32 := Scalar.subi v71 v73
  let v75 : BitVec 1 := Scalar.cmpi .ne v69 v74
  let v76 : BitVec 32 := Scalar.remsi v63 c2_i32_33
  let c0_i32_38 : BitVec 32 := 0#32
  let v77 : BitVec 1 := Scalar.cmpi .ne v76 c0_i32_38
  let v78 : BitVec 1 := Scalar.andi v75 v77
  let v64 : BitVec 32 := Scalar.divsi v63 c2_i32_33
  let c1_i32_39 : BitVec 32 := 1#32
  let v79 : BitVec 32 := Scalar.subi v64 c1_i32_39
  let v80 : BitVec 32 := Scalar.select v78 v79 v64
  let v83 : Index := Scalar.indexCast v80
  let c0_43 : Index := 0#32
  ![v83.toNat, 0]
def k0_off12 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v86 : Index := Scalar.indexCast v1
  let c0_44 : Index := 0#32
  ![v86.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 32 := Scalar.muli v0 c8_i32
  let v2 : BitVec 32 := Scalar.addi v1 arg1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, v29.toNat, c0_i32_10.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.subi arg0 c2_i32_0
  let c8_i32 : BitVec 32 := 8#32
  let v2 : BitVec 32 := Scalar.muli v1 c8_i32
  let v3 : BitVec 32 := Scalar.addi v2 arg1
  let c0_i32 : BitVec 32 := 0#32
  let v4 : BitVec 32 := Scalar.select v0 c0_i32 v3
  let c16_i32 : BitVec 32 := 16#32
  let v5 : BitVec 32 := Scalar.divsi v4 c16_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c16_i32_6 : BitVec 32 := 16#32
  let c0_i32_7 : BitVec 32 := 0#32
  let v22 : BitVec 1 := Scalar.cmpi .eq c16_i32_6 c0_i32_7
  let c1_i32_8 : BitVec 32 := 1#32
  let v23 : BitVec 32 := Scalar.select v22 c1_i32_8 c16_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  ![v21.toNat, v31.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 1 := Scalar.cmpi .eq arg0 c9_i32
  let c7_i32 : BitVec 32 := 7#32
  let v2 : BitVec 32 := Scalar.select v1 c7_i32 arg1
  let c0_i32_0 : BitVec 32 := 0#32
  let v3 : BitVec 32 := Scalar.select v0 c0_i32_0 v2
  let c0_i32_1 : BitVec 32 := 0#32
  let c0_i32_2 : BitVec 32 := 0#32
  ![c0_i32_1.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 1 := Scalar.cmpi .eq arg0 c9_i32
  let c7_i32 : BitVec 32 := 7#32
  let v2 : BitVec 32 := Scalar.select v1 c7_i32 arg1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c36_i32 : BitVec 32 := 36#32
  let v2 : BitVec 32 := Scalar.minsi v1 c36_i32
  let c16_i32 : BitVec 32 := 16#32
  let v3 : BitVec 32 := Scalar.muli v2 c16_i32
  let c1_i32 : BitVec 32 := 1#32
  let v4 : BitVec 32 := Scalar.addi v3 c1_i32
  let c24_i32 : BitVec 32 := 24#32
  let v5 : BitVec 1 := Scalar.cmpi .slt v2 c24_i32
  let c16_i32_0 : BitVec 32 := 16#32
  let v6 : BitVec 32 := Scalar.muli v2 c16_i32_0
  let c36_i32_1 : BitVec 32 := 36#32
  let v7 : BitVec 1 := Scalar.cmpi .slt v2 c36_i32_1
  let c384_i32 : BitVec 32 := 384#32
  let v8 : BitVec 32 := Scalar.select v7 v4 c384_i32
  let v9 : BitVec 32 := Scalar.select v5 v6 v8
  let c8_i32_2 : BitVec 32 := 8#32
  let v10 : BitVec 32 := Scalar.muli v9 c8_i32_2
  let c1_i32_3 : BitVec 32 := 1#32
  let c0_i32 : BitVec 32 := 0#32
  let c0_i32_4 : BitVec 32 := 0#32
  ![c1_i32_3.toNat, v10.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c1_i32 : BitVec 32 := 1#32
  let c0_i32 : BitVec 32 := 0#32
  let c0_i32_0 : BitVec 32 := 0#32
  ![c1_i32.toNat, v2.toNat, c0_i32.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.subi arg0 c2_i32_0
  let c8_i32 : BitVec 32 := 8#32
  let v2 : BitVec 32 := Scalar.muli v1 c8_i32
  let v3 : BitVec 32 := Scalar.addi v2 arg1
  let c0_i32 : BitVec 32 := 0#32
  let v4 : BitVec 32 := Scalar.select v0 c0_i32 v3
  let c16_i32 : BitVec 32 := 16#32
  let v5 : BitVec 32 := Scalar.divsi v4 c16_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c16_i32_6 : BitVec 32 := 16#32
  let c0_i32_7 : BitVec 32 := 0#32
  let v22 : BitVec 1 := Scalar.cmpi .eq c16_i32_6 c0_i32_7
  let c1_i32_8 : BitVec 32 := 1#32
  let v23 : BitVec 32 := Scalar.select v22 c1_i32_8 c16_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  ![v21.toNat, v31.toNat, c0_i32_12.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c36_i32 : BitVec 32 := 36#32
  let v2 : BitVec 32 := Scalar.minsi v1 c36_i32
  let c0_i32 : BitVec 32 := 0#32
  let c0_i32_0 : BitVec 32 := 0#32
  ![c0_i32.toNat, v2.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x2048x2048 : Shape := ⟨3, ![4, 2048, 2048]⟩
abbrev S4x12288 : Shape := ⟨2, ![4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x2048x4616 : Shape := ⟨3, ![2, 2048, 4616]⟩
abbrev S2x2048x2048 : Shape := ⟨3, ![2, 2048, 2048]⟩
abbrev S4x2048 : Shape := ⟨2, ![4, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S1x8192x2048 : Shape := ⟨3, ![1, 8192, 2048]⟩
abbrev S8192x2048 : Shape := ⟨2, ![8192, 2048]⟩
abbrev S1x2048x4616 : Shape := ⟨3, ![1, 2048, 4616]⟩
abbrev S2048x4616 : Shape := ⟨2, ![2048, 4616]⟩
abbrev S2048x512 : Shape := ⟨2, ![2048, 512]⟩
abbrev S2048x1024 : Shape := ⟨2, ![2048, 1024]⟩
abbrev S2048x8 : Shape := ⟨2, ![2048, 8]⟩
abbrev S2048x1536 : Shape := ⟨2, ![2048, 1536]⟩
abbrev S2048x120 : Shape := ⟨2, ![2048, 120]⟩
abbrev S2048x4736 : Shape := ⟨2, ![2048, 4736]⟩
abbrev S1x2048x2048 : Shape := ⟨3, ![1, 2048, 2048]⟩
abbrev S2048x2048 : Shape := ⟨2, ![2048, 2048]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S2x2048x4616, .f32⟩
  | .hbm, ⟨7, _⟩ => ⟨S2x2048x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x2048x8192, .f32⟩
  | .hbm, ⟨43, _⟩ => ⟨S2048x8192, .f32⟩
  | .hbm, ⟨44, _⟩ => ⟨S4x2048x8192, .f32⟩
  | .hbm, ⟨45, _⟩ => ⟨S_, .f32⟩
  | .hbm, ⟨46, _⟩ => ⟨S4x2048x8192, .f32⟩
  | .hbm, ⟨47, _⟩ => ⟨S4x2048x8192, .f32⟩
  | .hbm, ⟨48, _⟩ => ⟨S4x2048x8192, .f32⟩
  | .hbm, ⟨49, _⟩ => ⟨S1x8192x2048, .f32⟩
  | .hbm, ⟨50, _⟩ => ⟨S8192x2048, .f32⟩
  | .hbm, ⟨51, _⟩ => ⟨S4x2048x2048, .f32⟩
  | .hbm, ⟨52, _⟩ => ⟨S1x2048x4616, .f32⟩
  | .hbm, ⟨53, _⟩ => ⟨S2048x4616, .f32⟩
  | .hbm, ⟨54, _⟩ => ⟨S2048x512, .f32⟩
  | .hbm, ⟨55, _⟩ => ⟨S2048x512, .f32⟩
  | .hbm, ⟨56, _⟩ => ⟨S2048x1024, .f32⟩
  | .hbm, ⟨57, _⟩ => ⟨S2048x1024, .f32⟩
  | .hbm, ⟨58, _⟩ => ⟨S2048x8, .f32⟩
  | .hbm, ⟨59, _⟩ => ⟨S2048x1536, .f32⟩
  | .hbm, ⟨60, _⟩ => ⟨S_, .f32⟩
  | .hbm, ⟨61, _⟩ => ⟨S2048x120, .f32⟩
  | .hbm, ⟨62, _⟩ => ⟨S2048x4736, .f32⟩
  | .hbm, ⟨63, _⟩ => ⟨S1x2048, .f32⟩
  | .hbm, ⟨64, _⟩ => ⟨S2048, .f32⟩
  | .hbm, ⟨65, _⟩ => ⟨S4x2048x2048, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048x1, .f32⟩
  | .hbm, ⟨74, _⟩ => ⟨S4x2048x1, .f32⟩
  | .hbm, ⟨75, _⟩ => ⟨S4x2048x1, .f32⟩
  | .hbm, ⟨76, _⟩ => ⟨S4x2048x2048, .f32⟩
  | .hbm, ⟨77, _⟩ => ⟨S4x2048x2048, .f32⟩
  | .hbm, ⟨78, _⟩ => ⟨S1x1x2048, .f32⟩
  | .hbm, ⟨79, _⟩ => ⟨S4x2048x2048, .f32⟩
  | .hbm, ⟨80, _⟩ => ⟨S4x2048x2048, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S2048x4736, .bf16⟩
  | .hbm, ⟨85, _⟩ => ⟨S1x2048x2048, .f32⟩
  | .hbm, ⟨86, _⟩ => ⟨S2048x2048, .f32⟩
  | .hbm, ⟨87, _⟩ => ⟨S2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x12288 : Shape := ⟨2, ![4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S_ : Shape := ⟨0, ![]⟩
abbrev S8x12288 : Shape := ⟨2, ![8, 12288]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x128x2048 : Shape := ⟨3, ![1, 128, 2048]⟩
abbrev S8x2048 : Shape := ⟨2, ![8, 2048]⟩
abbrev S2048x1024 : Shape := ⟨2, ![2048, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1024x1024 : Shape := ⟨2, ![1024, 1024]⟩

abbrev nBuf : Space → Nat
  | .hbm => 16
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S_, .i32⟩
  | .hbm, ⟨7, _⟩ => ⟨S_, .f32⟩
  | .hbm, ⟨8, _⟩ => ⟨S8x12288, .f32⟩
  | .hbm, ⟨9, _⟩ => ⟨S1x2048x8192, .f32⟩
  | .hbm, ⟨10, _⟩ => ⟨S2048x8192, .f32⟩
  | .hbm, ⟨11, _⟩ => ⟨S2048x8192, .bf16⟩
  | .hbm, ⟨12, _⟩ => ⟨S1x8192x2048, .f32⟩
  | .hbm, ⟨13, _⟩ => ⟨S8192x2048, .f32⟩
  | .hbm, ⟨14, _⟩ => ⟨S8192x2048, .bf16⟩
  | .hbm, ⟨15, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S2x2048, .f32⟩
  | .local _ .vmem, ⟨8, _⟩ => ⟨S2x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x128x2048, .f32⟩
  | .local _ .vmem, ⟨14, _⟩ => ⟨S1x128x2048, .f32⟩
  | .local _ .vmem, ⟨15, _⟩ => ⟨S1024x2048, .bf16⟩
  | .local _ .vmem, ⟨16, _⟩ => ⟨S1024x2048, .bf16⟩
  | .local _ .vmem, ⟨17, _⟩ => ⟨S1024x2048, .f32⟩
  | .local _ .vmem, ⟨18, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c7_i32 : BitVec 32 := 7#32
  let v42 : BitVec 32 := Scalar.minsi arg0 c7_i32
  let c0_i32_20 : BitVec 32 := 0#32
  let v44 : BitVec 1 := Scalar.cmpi .sgt v42 c0_i32_20
  let v45 : BitVec 32 := Scalar.extui v44
  let c0_i32_21 : BitVec 32 := 0#32
  let v46 : BitVec 1 := Scalar.cmpi .slt v42 c0_i32_21
  let v47 : BitVec 32 := Scalar.extui v46
  let v48 : BitVec 32 := Scalar.subi v45 v47
  let c2_i32_19 : BitVec 32 := 2#32
  let c0_i32_22 : BitVec 32 := 0#32
  let v49 : BitVec 1 := Scalar.cmpi .sgt c2_i32_19 c0_i32_22
  let v50 : BitVec 32 := Scalar.extui v49
  let c0_i32_23 : BitVec 32 := 0#32
  let v51 : BitVec 1 := Scalar.cmpi .slt c2_i32_19 c0_i32_23
  let v52 : BitVec 32 := Scalar.extui v51
  let v53 : BitVec 32 := Scalar.subi v50 v52
  let v54 : BitVec 1 := Scalar.cmpi .ne v48 v53
  let v55 : BitVec 32 := Scalar.remsi v42 c2_i32_19
  let c0_i32_24 : BitVec 32 := 0#32
  let v56 : BitVec 1 := Scalar.cmpi .ne v55 c0_i32_24
  let v57 : BitVec 1 := Scalar.andi v54 v56
  let v43 : BitVec 32 := Scalar.divsi v42 c2_i32_19
  let c1_i32_25 : BitVec 32 := 1#32
  let v58 : BitVec 32 := Scalar.subi v43 c1_i32_25
  let v59 : BitVec 32 := Scalar.select v57 v58 v43
  let v75 : Index := Scalar.indexCast v59
  let c0_31 : Index := 0#32
  ![v75.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v88 : Index := Scalar.indexCast v1
  let c0_34 : Index := 0#32
  ![v88.toNat, 0]
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c7_i32 : BitVec 32 := 7#32
  let v42 : BitVec 32 := Scalar.minsi arg0 c7_i32
  let c0_i32_20 : BitVec 32 := 0#32
  let v44 : BitVec 1 := Scalar.cmpi .sgt v42 c0_i32_20
  let v45 : BitVec 32 := Scalar.extui v44
  let c0_i32_21 : BitVec 32 := 0#32
  let v46 : BitVec 1 := Scalar.cmpi .slt v42 c0_i32_21
  let v47 : BitVec 32 := Scalar.extui v46
  let v48 : BitVec 32 := Scalar.subi v45 v47
  let c2_i32_19 : BitVec 32 := 2#32
  let c0_i32_22 : BitVec 32 := 0#32
  let v49 : BitVec 1 := Scalar.cmpi .sgt c2_i32_19 c0_i32_22
  let v50 : BitVec 32 := Scalar.extui v49
  let c0_i32_23 : BitVec 32 := 0#32
  let v51 : BitVec 1 := Scalar.cmpi .slt c2_i32_19 c0_i32_23
  let v52 : BitVec 32 := Scalar.extui v51
  let v53 : BitVec 32 := Scalar.subi v50 v52
  let v54 : BitVec 1 := Scalar.cmpi .ne v48 v53
  let v55 : BitVec 32 := Scalar.remsi v42 c2_i32_19
  let c0_i32_24 : BitVec 32 := 0#32
  let v56 : BitVec 1 := Scalar.cmpi .ne v55 c0_i32_24
  let v57 : BitVec 1 := Scalar.andi v54 v56
  let v43 : BitVec 32 := Scalar.divsi v42 c2_i32_19
  let c1_i32_25 : BitVec 32 := 1#32
  let v58 : BitVec 32 := Scalar.subi v43 c1_i32_25
  let v59 : BitVec 32 := Scalar.select v57 v58 v43
  let v75 : Index := Scalar.indexCast v59
  let c0_31 : Index := 0#32
  ![v75.toNat, 0]
def k0_off4 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v88 : Index := Scalar.indexCast v1
  let c0_34 : Index := 0#32
  ![v88.toNat, 0]
def k0_cond3 (i : grid0.Coords) : BitVec 1 :=
  let arg0 : BitVec 32 := BitVec.ofNat 32 (i 0).val
  let c2_i32 : BitVec 32 := 2#32
  let v8 : BitVec 1 := Scalar.cmpi .sge arg0 c2_i32
  let c8_i32 : BitVec 32 := 8#32
  let v9 : BitVec 1 := Scalar.cmpi .sle arg0 c8_i32
  let v10 : BitVec 1 := Scalar.andi v8 v9
  let c2_i32_2 : BitVec 32 := 2#32
  let c0_i32_3 : BitVec 32 := 0#32
  let v11 : BitVec 1 := Scalar.cmpi .eq c2_i32_2 c0_i32_3
  let c1_i32_4 : BitVec 32 := 1#32
  let v12 : BitVec 32 := Scalar.select v11 c1_i32_4 c2_i32_2
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_8 : BitVec 32 := 0#32
  let v21 : BitVec 1 := Scalar.cmpi .eq v20 c0_i32_8
  let v22 : BitVec 1 := Scalar.andi v10 v21
  let v23 : BitVec 32 := Scalar.extui v22
  let c0_i32_9 : BitVec 32 := 0#32
  let v24 : BitVec 1 := Scalar.cmpi .ne v23 c0_i32_9
  v24

def k0_off5 (i : grid0.Coords) : Fin 2 → Nat :=
  let arg0 : BitVec 32 := BitVec.ofNat 32 (i 0).val
  let c7_i32 : BitVec 32 := 7#32
  let v42 : BitVec 32 := Scalar.minsi arg0 c7_i32
  let c0_i32_20 : BitVec 32 := 0#32
  let v44 : BitVec 1 := Scalar.cmpi .sgt v42 c0_i32_20
  let v45 : BitVec 32 := Scalar.extui v44
  let c0_i32_21 : BitVec 32 := 0#32
  let v46 : BitVec 1 := Scalar.cmpi .slt v42 c0_i32_21
  let v47 : BitVec 32 := Scalar.extui v46
  let v48 : BitVec 32 := Scalar.subi v45 v47
  let c2_i32_19 : BitVec 32 := 2#32
  let c0_i32_22 : BitVec 32 := 0#32
  let v49 : BitVec 1 := Scalar.cmpi .sgt c2_i32_19 c0_i32_22
  let v50 : BitVec 32 := Scalar.extui v49
  let c0_i32_23 : BitVec 32 := 0#32
  let v51 : BitVec 1 := Scalar.cmpi .slt c2_i32_19 c0_i32_23
  let v52 : BitVec 32 := Scalar.extui v51
  let v53 : BitVec 32 := Scalar.subi v50 v52
  let v54 : BitVec 1 := Scalar.cmpi .ne v48 v53
  let v55 : BitVec 32 := Scalar.remsi v42 c2_i32_19
  let c0_i32_24 : BitVec 32 := 0#32
  let v56 : BitVec 1 := Scalar.cmpi .ne v55 c0_i32_24
  let v57 : BitVec 1 := Scalar.andi v54 v56
  let v43 : BitVec 32 := Scalar.divsi v42 c2_i32_19
  let c1_i32_25 : BitVec 32 := 1#32
  let v58 : BitVec 32 := Scalar.subi v43 c1_i32_25
  let v59 : BitVec 32 := Scalar.select v57 v58 v43
  let v75 : Index := Scalar.indexCast v59
  let c0_31 : Index := 0#32
  ![v75.toNat, 0]
def k0_off6 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v88 : Index := Scalar.indexCast v1
  let c0_34 : Index := 0#32
  ![v88.toNat, 0]
def k0_off7 (i : grid0.Coords) : Fin 2 → Nat :=
  let arg0 : BitVec 32 := BitVec.ofNat 32 (i 0).val
  let c2_i32_35 : BitVec 32 := 2#32
  let v92 : BitVec 32 := Scalar.subi arg0 c2_i32_35
  let c0_i32_36 : BitVec 32 := 0#32
  let v93 : BitVec 32 := Scalar.maxsi v92 c0_i32_36
  let c0_i32_38 : BitVec 32 := 0#32
  let v95 : BitVec 1 := Scalar.cmpi .sgt v93 c0_i32_38
  let v96 : BitVec 32 := Scalar.extui v95
  let c0_i32_39 : BitVec 32 := 0#32
  let v97 : BitVec 1 := Scalar.cmpi .slt v93 c0_i32_39
  let v98 : BitVec 32 := Scalar.extui v97
  let v99 : BitVec 32 := Scalar.subi v96 v98
  let c2_i32_37 : BitVec 32 := 2#32
  let c0_i32_40 : BitVec 32 := 0#32
  let v100 : BitVec 1 := Scalar.cmpi .sgt c2_i32_37 c0_i32_40
  let v101 : BitVec 32 := Scalar.extui v100
  let c0_i32_41 : BitVec 32 := 0#32
  let v102 : BitVec 1 := Scalar.cmpi .slt c2_i32_37 c0_i32_41
  let v103 : BitVec 32 := Scalar.extui v102
  let v104 : BitVec 32 := Scalar.subi v101 v103
  let v105 : BitVec 1 := Scalar.cmpi .ne v99 v104
  let v106 : BitVec 32 := Scalar.remsi v93 c2_i32_37
  let c0_i32_42 : BitVec 32 := 0#32
  let v107 : BitVec 1 := Scalar.cmpi .ne v106 c0_i32_42
  let v108 : BitVec 1 := Scalar.andi v105 v107
  let v94 : BitVec 32 := Scalar.divsi v93 c2_i32_37
  let c1_i32_43 : BitVec 32 := 1#32
  let v109 : BitVec 32 := Scalar.subi v94 c1_i32_43
  let v110 : BitVec 32 := Scalar.select v108 v109 v94
  let v113 : Index := Scalar.indexCast v110
  let c0_47 : Index := 0#32
  ![v113.toNat, 0]
def k0_cond4 (i : grid0.Coords) : BitVec 1 :=
  let arg0 : BitVec 32 := BitVec.ofNat 32 (i 0).val
  let c2_i32 : BitVec 32 := 2#32
  let v8 : BitVec 1 := Scalar.cmpi .sge arg0 c2_i32
  let c8_i32 : BitVec 32 := 8#32
  let v9 : BitVec 1 := Scalar.cmpi .sle arg0 c8_i32
  let v10 : BitVec 1 := Scalar.andi v8 v9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_16 : BitVec 32 := 1#32
  let v35 : BitVec 1 := Scalar.cmpi .eq v34 c1_i32_16
  let v36 : BitVec 1 := Scalar.andi v10 v35
  let v37 : BitVec 32 := Scalar.extui v36
  let c0_i32_17 : BitVec 32 := 0#32
  let v38 : BitVec 1 := Scalar.cmpi .ne v37 c0_i32_17
  v38

def k0_off8 (i : grid0.Coords) : Fin 2 → Nat :=
  let arg0 : BitVec 32 := BitVec.ofNat 32 (i 0).val
  let c7_i32 : BitVec 32 := 7#32
  let v42 : BitVec 32 := Scalar.minsi arg0 c7_i32
  let c0_i32_20 : BitVec 32 := 0#32
  let v44 : BitVec 1 := Scalar.cmpi .sgt v42 c0_i32_20
  let v45 : BitVec 32 := Scalar.extui v44
  let c0_i32_21 : BitVec 32 := 0#32
  let v46 : BitVec 1 := Scalar.cmpi .slt v42 c0_i32_21
  let v47 : BitVec 32 := Scalar.extui v46
  let v48 : BitVec 32 := Scalar.subi v45 v47
  let c2_i32_19 : BitVec 32 := 2#32
  let c0_i32_22 : BitVec 32 := 0#32
  let v49 : BitVec 1 := Scalar.cmpi .sgt c2_i32_19 c0_i32_22
  let v50 : BitVec 32 := Scalar.extui v49
  let c0_i32_23 : BitVec 32 := 0#32
  let v51 : BitVec 1 := Scalar.cmpi .slt c2_i32_19 c0_i32_23
  let v52 : BitVec 32 := Scalar.extui v51
  let v53 : BitVec 32 := Scalar.subi v50 v52
  let v54 : BitVec 1 := Scalar.cmpi .ne v48 v53
  let v55 : BitVec 32 := Scalar.remsi v42 c2_i32_19
  let c0_i32_24 : BitVec 32 := 0#32
  let v56 : BitVec 1 := Scalar.cmpi .ne v55 c0_i32_24
  let v57 : BitVec 1 := Scalar.andi v54 v56
  let v43 : BitVec 32 := Scalar.divsi v42 c2_i32_19
  let c1_i32_25 : BitVec 32 := 1#32
  let v58 : BitVec 32 := Scalar.subi v43 c1_i32_25
  let v59 : BitVec 32 := Scalar.select v57 v58 v43
  let v75 : Index := Scalar.indexCast v59
  let c0_31 : Index := 0#32
  ![v75.toNat, 0]
def k0_off9 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v88 : Index := Scalar.indexCast v1
  let c0_34 : Index := 0#32
  ![v88.toNat, 0]
def k0_off10 (i : grid0.Coords) : Fin 2 → Nat :=
  let arg0 : BitVec 32 := BitVec.ofNat 32 (i 0).val
  let c2_i32_35 : BitVec 32 := 2#32
  let v92 : BitVec 32 := Scalar.subi arg0 c2_i32_35
  let c0_i32_36 : BitVec 32 := 0#32
  let v93 : BitVec 32 := Scalar.maxsi v92 c0_i32_36
  let c0_i32_38 : BitVec 32 := 0#32
  let v95 : BitVec 1 := Scalar.cmpi .sgt v93 c0_i32_38
  let v96 : BitVec 32 := Scalar.extui v95
  let c0_i32_39 : BitVec 32 := 0#32
  let v97 : BitVec 1 := Scalar.cmpi .slt v93 c0_i32_39
  let v98 : BitVec 32 := Scalar.extui v97
  let v99 : BitVec 32 := Scalar.subi v96 v98
  let c2_i32_37 : BitVec 32 := 2#32
  let c0_i32_40 : BitVec 32 := 0#32
  let v100 : BitVec 1 := Scalar.cmpi .sgt c2_i32_37 c0_i32_40
  let v101 : BitVec 32 := Scalar.extui v100
  let c0_i32_41 : BitVec 32 := 0#32
  let v102 : BitVec 1 := Scalar.cmpi .slt c2_i32_37 c0_i32_41
  let v103 : BitVec 32 := Scalar.extui v102
  let v104 : BitVec 32 := Scalar.subi v101 v103
  let v105 : BitVec 1 := Scalar.cmpi .ne v99 v104
  let v106 : BitVec 32 := Scalar.remsi v93 c2_i32_37
  let c0_i32_42 : BitVec 32 := 0#32
  let v107 : BitVec 1 := Scalar.cmpi .ne v106 c0_i32_42
  let v108 : BitVec 1 := Scalar.andi v105 v107
  let v94 : BitVec 32 := Scalar.divsi v93 c2_i32_37
  let c1_i32_43 : BitVec 32 := 1#32
  let v109 : BitVec 32 := Scalar.subi v94 c1_i32_43
  let v110 : BitVec 32 := Scalar.select v108 v109 v94
  let v113 : Index := Scalar.indexCast v110
  let c0_47 : Index := 0#32
  ![v113.toNat, 0]
def k0_cond5 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_18 : BitVec 32 := 0#32
  let v41 : BitVec 1 := Scalar.cmpi .ne v40 c0_i32_18
  v41

def k0_off11 (i : grid0.Coords) : Fin 2 → Nat :=
  let arg0 : BitVec 32 := BitVec.ofNat 32 (i 0).val
  let c2_i32_19 : BitVec 32 := 2#32
  let v42 : BitVec 32 := Scalar.subi arg0 c2_i32_19
  let c0_i32_20 : BitVec 32 := 0#32
  let v43 : BitVec 32 := Scalar.maxsi v42 c0_i32_20
  let c0_i32_22 : BitVec 32 := 0#32
  let v45 : BitVec 1 := Scalar.cmpi .sgt v43 c0_i32_22
  let v46 : BitVec 32 := Scalar.extui v45
  let c0_i32_23 : BitVec 32 := 0#32
  let v47 : BitVec 1 := Scalar.cmpi .slt v43 c0_i32_23
  let v48 : BitVec 32 := Scalar.extui v47
  let v49 : BitVec 32 := Scalar.subi v46 v48
  let c2_i32_21 : BitVec 32 := 2#32
  let c0_i32_24 : BitVec 32 := 0#32
  let v50 : BitVec 1 := Scalar.cmpi .sgt c2_i32_21 c0_i32_24
  let v51 : BitVec 32 := Scalar.extui v50
  let c0_i32_25 : BitVec 32 := 0#32
  let v52 : BitVec 1 := Scalar.cmpi .slt c2_i32_21 c0_i32_25
  let v53 : BitVec 32 := Scalar.extui v52
  let v54 : BitVec 32 := Scalar.subi v51 v53
  let v55 : BitVec 1 := Scalar.cmpi .ne v49 v54
  let v56 : BitVec 32 := Scalar.remsi v43 c2_i32_21
  let c0_i32_26 : BitVec 32 := 0#32
  let v57 : BitVec 1 := Scalar.cmpi .ne v56 c0_i32_26
  let v58 : BitVec 1 := Scalar.andi v55 v57
  let v44 : BitVec 32 := Scalar.divsi v43 c2_i32_21
  let c1_i32_27 : BitVec 32 := 1#32
  let v59 : BitVec 32 := Scalar.subi v44 c1_i32_27
  let v60 : BitVec 32 := Scalar.select v58 v59 v44
  let v63 : Index := Scalar.indexCast v60
  let c0_30 : Index := 0#32
  ![v63.toNat, 0]
def k0_off12 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v66 : Index := Scalar.indexCast v1
  let c0_31 : Index := 0#32
  ![v66.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 32 := Scalar.muli v0 c8_i32
  let v2 : BitVec 32 := Scalar.addi v1 arg1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, v29.toNat, c0_i32_10.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.subi arg0 c2_i32_0
  let c8_i32 : BitVec 32 := 8#32
  let v2 : BitVec 32 := Scalar.muli v1 c8_i32
  let v3 : BitVec 32 := Scalar.addi v2 arg1
  let c0_i32 : BitVec 32 := 0#32
  let v4 : BitVec 32 := Scalar.select v0 c0_i32 v3
  let c16_i32 : BitVec 32 := 16#32
  let v5 : BitVec 32 := Scalar.divsi v4 c16_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c16_i32_6 : BitVec 32 := 16#32
  let c0_i32_7 : BitVec 32 := 0#32
  let v22 : BitVec 1 := Scalar.cmpi .eq c16_i32_6 c0_i32_7
  let c1_i32_8 : BitVec 32 := 1#32
  let v23 : BitVec 32 := Scalar.select v22 c1_i32_8 c16_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  ![v21.toNat, v31.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 1 := Scalar.cmpi .eq arg0 c9_i32
  let c7_i32 : BitVec 32 := 7#32
  let v2 : BitVec 32 := Scalar.select v1 c7_i32 arg1
  let c0_i32_0 : BitVec 32 := 0#32
  let v3 : BitVec 32 := Scalar.select v0 c0_i32_0 v2
  let c0_i32_1 : BitVec 32 := 0#32
  let c0_i32_2 : BitVec 32 := 0#32
  ![c0_i32_1.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 1 := Scalar.cmpi .eq arg0 c9_i32
  let c7_i32 : BitVec 32 := 7#32
  let v2 : BitVec 32 := Scalar.select v1 c7_i32 arg1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.subi arg0 c2_i32_0
  let c8_i32 : BitVec 32 := 8#32
  let v2 : BitVec 32 := Scalar.muli v1 c8_i32
  let v3 : BitVec 32 := Scalar.addi v2 arg1
  let c0_i32 : BitVec 32 := 0#32
  let v4 : BitVec 32 := Scalar.select v0 c0_i32 v3
  let c16_i32 : BitVec 32 := 16#32
  let v5 : BitVec 32 := Scalar.divsi v4 c16_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c16_i32 c0_i32_3
  let v12 : BitVec 32 := Scalar.extui v11
  let c0_i32_4 : BitVec 32 := 0#32
  let v13 : BitVec 1 := Scalar.cmpi .slt c16_i32 c0_i32_4
  let v14 : BitVec 32 := Scalar.extui v13
  let v15 : BitVec 32 := Scalar.subi v12 v14
  let v16 : BitVec 1 := Scalar.cmpi .ne v10 v15
  let v17 : BitVec 32 := Scalar.remsi v4 c16_i32
  let c0_i32_5 : BitVec 32 := 0#32
  let v18 : BitVec 1 := Scalar.cmpi .ne v17 c0_i32_5
  let v19 : BitVec 1 := Scalar.andi v16 v18
  let c1_i32 : BitVec 32 := 1#32
  let v20 : BitVec 32 := Scalar.subi v5 c1_i32
  let v21 : BitVec 32 := Scalar.select v19 v20 v5
  let c16_i32_6 : BitVec 32 := 16#32
  let c0_i32_7 : BitVec 32 := 0#32
  let v22 : BitVec 1 := Scalar.cmpi .eq c16_i32_6 c0_i32_7
  let c1_i32_8 : BitVec 32 := 1#32
  let v23 : BitVec 32 := Scalar.select v22 c1_i32_8 c16_i32_6
  let v24 : BitVec 32 := Scalar.remsi v4 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c0_i32_12 : BitVec 32 := 0#32
  let c0_i32_13 : BitVec 32 := 0#32
  ![v21.toNat, v31.toNat, c0_i32_12.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x2048x2048 : Shape := ⟨3, ![4, 2048, 2048]⟩
abbrev S4x12288 : Shape := ⟨2, ![4, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S4x2048 : Shape := ⟨2, ![4, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S1x8192x2048 : Shape := ⟨3, ![1, 8192, 2048]⟩
abbrev S8192x2048 : Shape := ⟨2, ![8192, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S1x2048, .f32⟩
  | .hbm, ⟨16, _⟩ => ⟨S2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S1x2048x8192, .f32⟩
  | .hbm, ⟨41, _⟩ => ⟨S2048x8192, .f32⟩
  | .hbm, ⟨42, _⟩ => ⟨S4x2048x8192, .f32⟩
  | .hbm, ⟨43, _⟩ => ⟨S_, .f32⟩
  | .hbm, ⟨44, _⟩ => ⟨S4x2048x8192, .f32⟩
  | .hbm, ⟨45, _⟩ => ⟨S4x2048x8192, .f32⟩
  | .hbm, ⟨46, _⟩ => ⟨S4x2048x8192, .f32⟩
  | .hbm, ⟨47, _⟩ => ⟨S1x8192x2048, .f32⟩
  | .hbm, ⟨48, _⟩ => ⟨S8192x2048, .f32⟩
  | .hbm, ⟨49, _⟩ => ⟨S4x2048x2048, .f32⟩
  | .hbm, ⟨50, _⟩ => ⟨S1x2048, .f32⟩
  | .hbm, ⟨51, _⟩ => ⟨S2048, .f32⟩
  | .hbm, ⟨52, _⟩ => ⟨S4x2048x2048, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x2048, .f32⟩
  | .hbm, ⟨64, _⟩ => ⟨S4x2048x2048, .f32⟩
  | .hbm, ⟨65, _⟩ => ⟨S1x1x2048, .f32⟩
  | .hbm, ⟨66, _⟩ => ⟨S4x2048x2048, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel3.lean ====
abbrev S4x2048x1024 : Shape := ⟨3, ![4, 2048, 1024]⟩
abbrev S2x2048x2048 : Shape := ⟨3, ![2, 2048, 2048]⟩
abbrev S4x2048x2048 : Shape := ⟨3, ![4, 2048, 2048]⟩
abbrev S4x12288 : Shape := ⟨2, ![4, 12288]⟩
abbrev S2x2048 : Shape := ⟨2, ![2, 2048]⟩
abbrev S4x8192 : Shape := ⟨2, ![4, 8192]⟩
abbrev S_ : Shape := ⟨0, ![]⟩
abbrev S8x8192 : Shape := ⟨2, ![8, 8192]⟩
abbrev S1x2048x2048 : Shape := ⟨3, ![1, 2048, 2048]⟩
abbrev S2048x2048 : Shape := ⟨2, ![2048, 2048]⟩
abbrev S1x512x1024 : Shape := ⟨3, ![1, 512, 1024]⟩
abbrev S1x512x2048 : Shape := ⟨3, ![1, 512, 2048]⟩
abbrev S8x2048 : Shape := ⟨2, ![8, 2048]⟩
abbrev S512x2048 : Shape := ⟨2, ![512, 2048]⟩
abbrev S512x1024 : Shape := ⟨2, ![512, 1024]⟩
abbrev S1024x2048 : Shape := ⟨2, ![1024, 2048]⟩
abbrev S1x2048 : Shape := ⟨2, ![1, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2x2048x2048, .f32⟩
  | .hbm, ⟨3, _⟩ => ⟨S4x2048x2048, .f32⟩
  | .hbm, ⟨4, _⟩ => ⟨S4x12288, .f32⟩
  | .hbm, ⟨5, _⟩ => ⟨S2x2048, .f32⟩
  | .hbm, ⟨6, _⟩ => ⟨S4x8192, .f32⟩
  | .hbm, ⟨7, _⟩ => ⟨S_, .i32⟩
  | .hbm, ⟨8, _⟩ => ⟨S_, .f32⟩
  | .hbm, ⟨9, _⟩ => ⟨S8x8192, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S4x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x2048, .bf16⟩
  | .local _ .vmem, ⟨5, _⟩ => ⟨S1x512x2048, .f32⟩
  | .local _ .vmem, ⟨6, _⟩ => ⟨S1x512x2048, .f32⟩
  | .local _ .vmem, ⟨7, _⟩ => ⟨S8x2048, .f32⟩
  | .local _ .vmem, ⟨8, _⟩ => ⟨S2x2048, .f32⟩
  | .local _ .vmem, ⟨9, _⟩ => ⟨S1x512x2048, .f32⟩
  | .local _ .vmem, ⟨10, _⟩ => ⟨S1x512x2048, .f32⟩
  | .local _ .vmem, ⟨11, _⟩ => ⟨S512x2048, .f32⟩
  | .local _ .vmem, ⟨12, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off1 (i : grid0.Coords) : Fin 2 → Nat :=
  let arg0 : BitVec 32 := BitVec.ofNat 32 (i 0).val
  let c1_i32_18 : BitVec 32 := 1#32
  let v37 : BitVec 32 := Scalar.subi arg0 c1_i32_18
  let c0_i32_19 : BitVec 32 := 0#32
  let v38 : BitVec 32 := Scalar.maxsi v37 c0_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c4_i32 : BitVec 32 := 4#32
  let c0_i32_22 : BitVec 32 := 0#32
  let v45 : BitVec 1 := Scalar.cmpi .sgt c4_i32 c0_i32_22
  let v46 : BitVec 32 := Scalar.extui v45
  let c0_i32_23 : BitVec 32 := 0#32
  let v47 : BitVec 1 := Scalar.cmpi .slt c4_i32 c0_i32_23
  let v48 : BitVec 32 := Scalar.extui v47
  let v49 : BitVec 32 := Scalar.subi v46 v48
  let v50 : BitVec 1 := Scalar.cmpi .ne v44 v49
  let v51 : BitVec 32 := Scalar.remsi v38 c4_i32
  let c0_i32_24 : BitVec 32 := 0#32
  let v52 : BitVec 1 := Scalar.cmpi .ne v51 c0_i32_24
  let v53 : BitVec 1 := Scalar.andi v50 v52
  let v39 : BitVec 32 := Scalar.divsi v38 c4_i32
  let c1_i32_25 : BitVec 32 := 1#32
  let v54 : BitVec 32 := Scalar.subi v39 c1_i32_25
  let v55 : BitVec 32 := Scalar.select v53 v54 v39
  let v58 : Index := Scalar.indexCast v55
  let c0_28 : Index := 0#32
  ![v58.toNat, 0]
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .eq v29 c0_i32_14
  let v31 : BitVec 1 := Scalar.andi v5 v30
  let v32 : BitVec 32 := Scalar.extui v31
  let c0_i32_15 : BitVec 32 := 0#32
  let v33 : BitVec 1 := Scalar.cmpi .ne v32 c0_i32_15
  v33

def k0_off2 (i : grid0.Coords) : Fin 2 → Nat :=
  let arg0 : BitVec 32 := BitVec.ofNat 32 (i 0).val
  let c1_i32_18 : BitVec 32 := 1#32
  let v37 : BitVec 32 := Scalar.subi arg0 c1_i32_18
  let c0_i32_19 : BitVec 32 := 0#32
  let v38 : BitVec 32 := Scalar.maxsi v37 c0_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c4_i32 : BitVec 32 := 4#32
  let c0_i32_22 : BitVec 32 := 0#32
  let v45 : BitVec 1 := Scalar.cmpi .sgt c4_i32 c0_i32_22
  let v46 : BitVec 32 := Scalar.extui v45
  let c0_i32_23 : BitVec 32 := 0#32
  let v47 : BitVec 1 := Scalar.cmpi .slt c4_i32 c0_i32_23
  let v48 : BitVec 32 := Scalar.extui v47
  let v49 : BitVec 32 := Scalar.subi v46 v48
  let v50 : BitVec 1 := Scalar.cmpi .ne v44 v49
  let v51 : BitVec 32 := Scalar.remsi v38 c4_i32
  let c0_i32_24 : BitVec 32 := 0#32
  let v52 : BitVec 1 := Scalar.cmpi .ne v51 c0_i32_24
  let v53 : BitVec 1 := Scalar.andi v50 v52
  let v39 : BitVec 32 := Scalar.divsi v38 c4_i32
  let c1_i32_25 : BitVec 32 := 1#32
  let v54 : BitVec 32 := Scalar.subi v39 c1_i32_25
  let v55 : BitVec 32 := Scalar.select v53 v54 v39
  let v58 : Index := Scalar.indexCast v55
  let c0_28 : Index := 0#32
  ![v58.toNat, 0]
def k0_cond4 (i : grid0.Coords) : BitVec 1 :=
  let arg0 : BitVec 32 := BitVec.ofNat 32 (i 0).val
  let c16_i32_16 : BitVec 32 := 16#32
  let v34 : BitVec 1 := Scalar.cmpi .eq arg0 c16_i32_16
  let v35 : BitVec 32 := Scalar.extui v34
  let c0_i32_17 : BitVec 32 := 0#32
  let v36 : BitVec 1 := Scalar.cmpi .ne v35 c0_i32_17
  v36

def k0_off3 (i : grid0.Coords) : Fin 2 → Nat :=
  let arg0 : BitVec 32 := BitVec.ofNat 32 (i 0).val
  let c1_i32_18 : BitVec 32 := 1#32
  let v37 : BitVec 32 := Scalar.subi arg0 c1_i32_18
  let c0_i32_19 : BitVec 32 := 0#32
  let v38 : BitVec 32 := Scalar.maxsi v37 c0_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c4_i32 : BitVec 32 := 4#32
  let c0_i32_22 : BitVec 32 := 0#32
  let v45 : BitVec 1 := Scalar.cmpi .sgt c4_i32 c0_i32_22
  let v46 : BitVec 32 := Scalar.extui v45
  let c0_i32_23 : BitVec 32 := 0#32
  let v47 : BitVec 1 := Scalar.cmpi .slt c4_i32 c0_i32_23
  let v48 : BitVec 32 := Scalar.extui v47
  let v49 : BitVec 32 := Scalar.subi v46 v48
  let v50 : BitVec 1 := Scalar.cmpi .ne v44 v49
  let v51 : BitVec 32 := Scalar.remsi v38 c4_i32
  let c0_i32_24 : BitVec 32 := 0#32
  let v52 : BitVec 1 := Scalar.cmpi .ne v51 c0_i32_24
  let v53 : BitVec 1 := Scalar.andi v50 v52
  let v39 : BitVec 32 := Scalar.divsi v38 c4_i32
  let c1_i32_25 : BitVec 32 := 1#32
  let v54 : BitVec 32 := Scalar.subi v39 c1_i32_25
  let v55 : BitVec 32 := Scalar.select v53 v54 v39
  let v58 : Index := Scalar.indexCast v55
  let c0_28 : Index := 0#32
  ![v58.toNat, 0]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x2048x1024 : Shape := ⟨3, ![4, 2048, 1024]⟩
abbrev S2x2048x2048 : Shape := ⟨3, ![2, 2048, 2048]⟩
abbrev S4x2048x2048 : Shape := ⟨3, ![4, 2048, 2048]⟩
abbrev S4x12288 : Shape := ⟨2, ![4, 12288]⟩
abbrev S2x2048 : Shape := ⟨2, ![2, 2048]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2x2048x2048, .f32⟩
  | .hbm, ⟨3, _⟩ => ⟨S4x2048x2048, .f32⟩
  | .hbm, ⟨4, _⟩ => ⟨S4x12288, .f32⟩
  | .hbm, ⟨5, _⟩ => ⟨S2x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x2048x1024, .f32⟩
  | .hbm, ⟨14, _⟩ => ⟨S4x2048x1024, .f32⟩
  | .hbm, ⟨15, _⟩ => ⟨S4x2048x2048, .f32⟩
  | .hbm, ⟨16, _⟩ => ⟨S1x2048x2048, .f32⟩
  | .hbm, ⟨17, _⟩ => ⟨S2048x2048, .f32⟩
  | .hbm, ⟨18, _⟩ => ⟨S4x2048x2048, .f32⟩
  | .hbm, ⟨19, _⟩ => ⟨S1x2048, .f32⟩
  | .hbm, ⟨20, _⟩ => ⟨S2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S1x1x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel4.lean ====
abbrev S4x2048x2048 : Shape := ⟨3, ![4, 2048, 2048]⟩
abbrev S4x12288 : Shape := ⟨2, ![4, 12288]⟩
abbrev S2x2048 : Shape := ⟨2, ![2, 2048]⟩
abbrev S2048x4736 : Shape := ⟨2, ![2048, 4736]⟩
abbrev S2x4x1024 : Shape := ⟨3, ![2, 4, 1024]⟩
abbrev S2x1024 : Shape := ⟨2, ![2, 1024]⟩
abbrev S2x4 : Shape := ⟨2, ![2, 4]⟩
abbrev S2x2048x8192 : Shape := ⟨3, ![2, 2048, 8192]⟩
abbrev S2x8192x2048 : Shape := ⟨3, ![2, 8192, 2048]⟩
abbrev S_ : Shape := ⟨0, ![]⟩
abbrev S8x12288 : Shape := ⟨2, ![8, 12288]⟩
abbrev S4x2048x1024 : Shape := ⟨3, ![4, 2048, 1024]⟩
abbrev S4x2048x1536 : Shape := ⟨3, ![4, 2048, 1536]⟩
abbrev S4x24x2048 : Shape := ⟨3, ![4, 24, 2048]⟩
abbrev S2048x8192 : Shape := ⟨2, ![2048, 8192]⟩
abbrev S8192x2048 : Shape := ⟨2, ![8192, 2048]⟩
abbrev S1x256x2048 : Shape := ⟨3, ![1, 256, 2048]⟩
abbrev S8x2048 : Shape := ⟨2, ![8, 2048]⟩
abbrev S1x4x1024 : Shape := ⟨3, ![1, 4, 1024]⟩
abbrev S1x64x8192 : Shape := ⟨3, ![1, 64, 8192]⟩
abbrev S1x256x1024 : Shape := ⟨3, ![1, 256, 1024]⟩
abbrev S1x256x1536 : Shape := ⟨3, ![1, 256, 1536]⟩
abbrev S1x24x256 : Shape := ⟨3, ![1, 24, 256]⟩
abbrev S64x8192 : Shape := ⟨2, ![64, 8192]⟩
abbrev S256x2048 : Shape := ⟨2, ![256, 2048]⟩
abbrev S8x1024 : Shape := ⟨2, ![8, 1024]⟩
abbrev S264x1024 : Shape := ⟨2, ![264, 1024]⟩
abbrev S256 : Shape := ⟨1, ![256]⟩
abbrev S256x1 : Shape := ⟨2, ![256, 1]⟩
abbrev S1x2048 : Shape := ⟨2, ![1, 2048]⟩
abbrev S1x1 : Shape := ⟨2, ![1, 1]⟩
abbrev S1x1024 : Shape := ⟨2, ![1, 1024]⟩
abbrev S2048x128 : Shape := ⟨2, ![2048, 128]⟩
abbrev S256x128 : Shape := ⟨2, ![256, 128]⟩
abbrev S128x256 : Shape := ⟨2, ![128, 256]⟩
abbrev S8x256 : Shape := ⟨2, ![8, 256]⟩
abbrev S1x8x256 : Shape := ⟨3, ![1, 8, 256]⟩
abbrev S2048x1024 : Shape := ⟨2, ![2048, 1024]⟩
abbrev S256x1024 : Shape := ⟨2, ![256, 1024]⟩
abbrev S4x1024 : Shape := ⟨2, ![4, 1024]⟩
abbrev S256x512 : Shape := ⟨2, ![256, 512]⟩
abbrev S1x256x512 : Shape := ⟨3, ![1, 256, 512]⟩
abbrev S2048x1536 : Shape := ⟨2, ![2048, 1536]⟩
abbrev S256x1536 : Shape := ⟨2, ![256, 1536]⟩

abbrev nBuf : Space → Nat
  | .hbm => 20
  | .vmem => 30
  | .smem => 2
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2x2048, .f32⟩
  | .hbm, ⟨3, _⟩ => ⟨S2048x4736, .bf16⟩
  | .hbm, ⟨4, _⟩ => ⟨S2x4x1024, .f32⟩
  | .hbm, ⟨5, _⟩ => ⟨S2x1024, .f32⟩
  | .hbm, ⟨6, _⟩ => ⟨S2x4, .f32⟩
  | .hbm, ⟨7, _⟩ => ⟨S2x4, .f32⟩
  | .hbm, ⟨8, _⟩ => ⟨S2x2048x8192, .f32⟩
  | .hbm, ⟨9, _⟩ => ⟨S2x8192x2048, .f32⟩
  | .hbm, ⟨10, _⟩ => ⟨S_, .i32⟩
  | .hbm, ⟨11, _⟩ => ⟨S_, .f32⟩
  | .hbm, ⟨12, _⟩ => ⟨S8x12288, .f32⟩
  | .hbm, ⟨13, _⟩ => ⟨S4x2048x1024, .bf16⟩
  | .hbm, ⟨14, _⟩ => ⟨S4x2048x1024, .bf16⟩
  | .hbm, ⟨15, _⟩ => ⟨S4x2048x1024, .bf16⟩
  | .hbm, ⟨16, _⟩ => ⟨S4x2048x1536, .bf16⟩
  | .hbm, ⟨17, _⟩ => ⟨S4x24x2048, .f32⟩
  | .hbm, ⟨18, _⟩ => ⟨S2048x8192, .bf16⟩
  | .hbm, ⟨19, _⟩ => ⟨S8192x2048, .bf16⟩
  | .local _ .vmem, ⟨0, _⟩ => ⟨S1x256x2048, .f32⟩
  | .local _ .vmem, ⟨1, _⟩ => ⟨S1x256x2048, .f32⟩
  | .local _ .vmem, ⟨2, _⟩ => ⟨S8x2048, .f32⟩
  | .local _ .vmem, ⟨3, _⟩ => ⟨S8x2048, .f32⟩
  | .local _ .vmem, ⟨4, _⟩ => ⟨S2x2048, .f32⟩
  | .local _ .vmem, ⟨5, _⟩ => ⟨S2048x4736, .bf16⟩
  | .local _ .vmem, ⟨6, _⟩ => ⟨S1x4x1024, .f32⟩
  | .local _ .vmem, ⟨7, _⟩ => ⟨S2x1024, .f32⟩
  | .local _ .vmem, ⟨8, _⟩ => ⟨S1x64x8192, .f32⟩
  | .local _ .vmem, ⟨9, _⟩ => ⟨S1x64x8192, .f32⟩
  | .local _ .vmem, ⟨10, _⟩ => ⟨S1x256x2048, .f32⟩
  | .local _ .vmem, ⟨11, _⟩ => ⟨S1x256x2048, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1536, .bf16⟩
  | .local _ .vmem, ⟨19, _⟩ => ⟨S1x256x1536, .bf16⟩
  | .local _ .vmem, ⟨20, _⟩ => ⟨S1x24x256, .f32⟩
  | .local _ .vmem, ⟨21, _⟩ => ⟨S1x24x256, .f32⟩
  | .local _ .vmem, ⟨22, _⟩ => ⟨S64x8192, .bf16⟩
  | .local _ .vmem, ⟨23, _⟩ => ⟨S64x8192, .bf16⟩
  | .local _ .vmem, ⟨24, _⟩ => ⟨S256x2048, .bf16⟩
  | .local _ .vmem, ⟨25, _⟩ => ⟨S256x2048, .bf16⟩
  | .local _ .vmem, ⟨26, _⟩ => ⟨S8x1024, .f32⟩
  | .local _ .vmem, ⟨27, _⟩ => ⟨S264x1024, .f32⟩
  | .local _ .vmem, ⟨28, _⟩ => ⟨S256x2048, .bf16⟩
  | .local _ .vmem, ⟨29, _⟩ => ⟨S256x2048, .bf16⟩
  | .local _ .smem, ⟨0, _⟩ => ⟨S2x4, .f32⟩
  | .local _ .smem, ⟨1, _⟩ => ⟨S2x4, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c31_i32 : BitVec 32 := 31#32
  let v35 : BitVec 32 := Scalar.minsi arg0 c31_i32
  let c0_i32_17 : BitVec 32 := 0#32
  let v37 : BitVec 1 := Scalar.cmpi .sgt v35 c0_i32_17
  let v38 : BitVec 32 := Scalar.extui v37
  let c0_i32_18 : BitVec 32 := 0#32
  let v39 : BitVec 1 := Scalar.cmpi .slt v35 c0_i32_18
  let v40 : BitVec 32 := Scalar.extui v39
  let v41 : BitVec 32 := Scalar.subi v38 v40
  let c8_i32 : BitVec 32 := 8#32
  let c0_i32_19 : BitVec 32 := 0#32
  let v42 : BitVec 1 := Scalar.cmpi .sgt c8_i32 c0_i32_19
  let v43 : BitVec 32 := Scalar.extui v42
  let c0_i32_20 : BitVec 32 := 0#32
  let v44 : BitVec 1 := Scalar.cmpi .slt c8_i32 c0_i32_20
  let v45 : BitVec 32 := Scalar.extui v44
  let v46 : BitVec 32 := Scalar.subi v43 v45
  let v47 : BitVec 1 := Scalar.cmpi .ne v41 v46
  let v48 : BitVec 32 := Scalar.remsi v35 c8_i32
  let c0_i32_21 : BitVec 32 := 0#32
  let v49 : BitVec 1 := Scalar.cmpi .ne v48 c0_i32_21
  let v50 : BitVec 1 := Scalar.andi v47 v49
  let v36 : BitVec 32 := Scalar.divsi v35 c8_i32
  let c1_i32_22 : BitVec 32 := 1#32
  let v51 : BitVec 32 := Scalar.subi v36 c1_i32_22
  let v52 : BitVec 32 := Scalar.select v50 v51 v36
  let v68 : Index := Scalar.indexCast v52
  let c0_30 : Index := 0#32
  ![v68.toNat, 0]
def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c1_i32_5 : BitVec 32 := 1#32
  let v13 : BitVec 1 := Scalar.cmpi .eq v12 c1_i32_5
  let v14 : BitVec 32 := Scalar.extui v13
  let c0_i32_6 : BitVec 32 := 0#32
  let v15 : BitVec 1 := Scalar.cmpi .ne v14 c0_i32_6
  v15

def k0_off2 (i : grid0.Coords) : Fin 2 → Nat :=
  let arg0 : BitVec 32 := BitVec.ofNat 32 (i 0).val
  let c31_i32 : BitVec 32 := 31#32
  let v31 : BitVec 32 := Scalar.minsi arg0 c31_i32
  let c0_i32_16 : BitVec 32 := 0#32
  let v33 : BitVec 1 := Scalar.cmpi .sgt v31 c0_i32_16
  let v34 : BitVec 32 := Scalar.extui v33
  let c0_i32_17 : BitVec 32 := 0#32
  let v35 : BitVec 1 := Scalar.cmpi .slt v31 c0_i32_17
  let v36 : BitVec 32 := Scalar.extui v35
  let v37 : BitVec 32 := Scalar.subi v34 v36
  let c8_i32 : BitVec 32 := 8#32
  let c0_i32_18 : BitVec 32 := 0#32
  let v38 : BitVec 1 := Scalar.cmpi .sgt c8_i32 c0_i32_18
  let v39 : BitVec 32 := Scalar.extui v38
  let c0_i32_19 : BitVec 32 := 0#32
  let v40 : BitVec 1 := Scalar.cmpi .slt c8_i32 c0_i32_19
  let v41 : BitVec 32 := Scalar.extui v40
  let v42 : BitVec 32 := Scalar.subi v39 v41
  let v43 : BitVec 1 := Scalar.cmpi .ne v37 v42
  let v44 : BitVec 32 := Scalar.remsi v31 c8_i32
  let c0_i32_20 : BitVec 32 := 0#32
  let v45 : BitVec 1 := Scalar.cmpi .ne v44 c0_i32_20
  let v46 : BitVec 1 := Scalar.andi v43 v45
  let v32 : BitVec 32 := Scalar.divsi v31 c8_i32
  let c1_i32_21 : BitVec 32 := 1#32
  let v47 : BitVec 32 := Scalar.subi v32 c1_i32_21
  let v48 : BitVec 32 := Scalar.select v46 v47 v32
  let v64 : Index := Scalar.indexCast v48
  let c0_27 : Index := 0#32
  ![v64.toNat, 0]
def k0_cond3 (i : grid0.Coords) : BitVec 1 :=
  let arg0 : BitVec 32 := BitVec.ofNat 32 (i 0).val
  let c0_i32_7 : BitVec 32 := 0#32
  let v16 : BitVec 1 := Scalar.cmpi .sgt arg0 c0_i32_7
  let c2_i32_8 : BitVec 32 := 2#32
  let c0_i32_9 : BitVec 32 := 0#32
  let v17 : BitVec 1 := Scalar.cmpi .eq c2_i32_8 c0_i32_9
  let c1_i32_10 : BitVec 32 := 1#32
  let v18 : BitVec 32 := Scalar.select v17 c1_i32_10 c2_i32_8
  let v19 : BitVec 32 := Scalar.remsi arg0 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c0_i32_14 : BitVec 32 := 0#32
  let v27 : BitVec 1 := Scalar.cmpi .eq v26 c0_i32_14
  let v28 : BitVec 1 := Scalar.andi v16 v27
  let v29 : BitVec 32 := Scalar.extui v28
  let c0_i32_15 : BitVec 32 := 0#32
  let v30 : BitVec 1 := Scalar.cmpi .ne v29 c0_i32_15
  v30

def k0_off3 (i : grid0.Coords) : Fin 2 → Nat :=
  let arg0 : BitVec 32 := BitVec.ofNat 32 (i 0).val
  let c31_i32 : BitVec 32 := 31#32
  let v31 : BitVec 32 := Scalar.minsi arg0 c31_i32
  let c0_i32_16 : BitVec 32 := 0#32
  let v33 : BitVec 1 := Scalar.cmpi .sgt v31 c0_i32_16
  let v34 : BitVec 32 := Scalar.extui v33
  let c0_i32_17 : BitVec 32 := 0#32
  let v35 : BitVec 1 := Scalar.cmpi .slt v31 c0_i32_17
  let v36 : BitVec 32 := Scalar.extui v35
  let v37 : BitVec 32 := Scalar.subi v34 v36
  let c8_i32 : BitVec 32 := 8#32
  let c0_i32_18 : BitVec 32 := 0#32
  let v38 : BitVec 1 := Scalar.cmpi .sgt c8_i32 c0_i32_18
  let v39 : BitVec 32 := Scalar.extui v38
  let c0_i32_19 : BitVec 32 := 0#32
  let v40 : BitVec 1 := Scalar.cmpi .slt c8_i32 c0_i32_19
  let v41 : BitVec 32 := Scalar.extui v40
  let v42 : BitVec 32 := Scalar.subi v39 v41
  let v43 : BitVec 1 := Scalar.cmpi .ne v37 v42
  let v44 : BitVec 32 := Scalar.remsi v31 c8_i32
  let c0_i32_20 : BitVec 32 := 0#32
  let v45 : BitVec 1 := Scalar.cmpi .ne v44 c0_i32_20
  let v46 : BitVec 1 := Scalar.andi v43 v45
  let v32 : BitVec 32 := Scalar.divsi v31 c8_i32
  let c1_i32_21 : BitVec 32 := 1#32
  let v47 : BitVec 32 := Scalar.subi v32 c1_i32_21
  let v48 : BitVec 32 := Scalar.select v46 v47 v32
  let v64 : Index := Scalar.indexCast v48
  let c0_27 : Index := 0#32
  ![v64.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, c0_i32_14.toNat, v30.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4736 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x24x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S4x2048x2048 : Shape := ⟨3, ![4, 2048, 2048]⟩
abbrev S4x12288 : Shape := ⟨2, ![4, 12288]⟩
abbrev S2x2048 : Shape := ⟨2, ![2, 2048]⟩
abbrev S2048x4736 : Shape := ⟨2, ![2048, 4736]⟩
abbrev S2x4x1024 : Shape := ⟨3, ![2, 4, 1024]⟩
abbrev S2x1024 : Shape := ⟨2, ![2, 1024]⟩
abbrev S2x4 : Shape := ⟨2, ![2, 4]⟩
abbrev S2x2048x8192 : Shape := ⟨3, ![2, 2048, 8192]⟩
abbrev S2x8192x2048 : Shape := ⟨3, ![2, 8192, 2048]⟩
abbrev S4x2048 : Shape := ⟨2, ![4, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x2048x4736 : Shape := ⟨3, ![4, 2048, 4736]⟩
abbrev S4x2048x1024 : Shape := ⟨3, ![4, 2048, 1024]⟩
abbrev S4x2048x1536 : Shape := ⟨3, ![4, 2048, 1536]⟩
abbrev S4x2048x8 : Shape := ⟨3, ![4, 2048, 8]⟩
abbrev S4x2048x120 : Shape := ⟨3, ![4, 2048, 120]⟩
abbrev S4x2051x1024 : Shape := ⟨3, ![4, 2051, 1024]⟩
abbrev S1x1024 : Shape := ⟨2, ![1, 1024]⟩
abbrev S1024 : Shape := ⟨1, ![1024]⟩
abbrev S1x1x1024 : Shape := ⟨3, ![1, 1, 1024]⟩
abbrev S4x2048x512 : Shape := ⟨3, ![4, 2048, 512]⟩
abbrev S4x2048x4 : Shape := ⟨3, ![4, 2048, 4]⟩
abbrev S1x4 : Shape := ⟨2, ![1, 4]⟩
abbrev S4 : Shape := ⟨1, ![4]⟩
abbrev S1x1x4 : Shape := ⟨3, ![1, 1, 4]⟩
abbrev S4x8x2048 : Shape := ⟨3, ![4, 8, 2048]⟩
abbrev S4x8x8x256 : Shape := ⟨4, ![4, 8, 8, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x8x8x1x256 : Shape := ⟨5, ![4, 8, 8, 1, 256]⟩
abbrev S4x8x8x256x256 : Shape := ⟨5, ![4, 8, 8, 256, 256]⟩
abbrev S4x4x8x256 : Shape := ⟨4, ![4, 4, 8, 256]⟩
abbrev S4x24x8x256 : Shape := ⟨4, ![4, 24, 8, 256]⟩
abbrev S4x24x2048 : Shape := ⟨3, ![4, 24, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩

abbrev nBuf : Space → Nat
  | .hbm => 187
  | .vmem => 0
  | .smem => 0
  | _ => 0

abbrev hbmTy0_0 (i : Nat) : BufTy := match i % 128 with
  | 0 => ⟨S4x2048x2048, .f32⟩
  | 1 => ⟨S4x12288, .f32⟩
  | 2 => ⟨S2x2048, .f32⟩
  | 3 => ⟨S2048x4736, .bf16⟩
  | 4 => ⟨S2x4x1024, .f32⟩
  | 5 => ⟨S2x1024, .f32⟩
  | 6 => ⟨S2x4, .f32⟩
  | 7 => ⟨S2x4, .f32⟩
  | 8 => ⟨S2x2048x8192, .f32⟩
  | 9 => ⟨S2x8192x2048, .f32⟩
  | 10 => ⟨S4x2048, .f32⟩
  | 11 => ⟨S4x2048, .f32⟩
  | 12 => ⟨S4x2048, .f32⟩
  | 13 => ⟨S4x2048, .f32⟩
  | 14 => ⟨S4x2048, .f32⟩
  | 15 => ⟨S4x2048, .f32⟩
  | 16 => ⟨S4x1x2048, .f32⟩
  | 17 => ⟨S4x1x2048, .f32⟩
  | 18 => ⟨S1x2048, .f32⟩
  | 19 => ⟨S2048, .f32⟩
  | 20 => ⟨S4x2048x2048, .f32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x1, .f32⟩
  | 31 => ⟨S4x2048x2048, .f32⟩
  | 32 => ⟨S4x2048x2048, .f32⟩
  | 33 => ⟨S1x1x2048, .f32⟩
  | 34 => ⟨S4x2048x2048, .f32⟩
  | 35 => ⟨S4x2048x2048, .f32⟩
  | 36 => ⟨S_, .f32⟩
  | 37 => ⟨S4x1x2048, .f32⟩
  | 38 => ⟨S4x1x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S2048x4736, .f32⟩
  | 44 => ⟨S4x2048x4736, .f32⟩
  | 45 => ⟨S4x2048x1024, .f32⟩
  | 46 => ⟨S4x2048x1024, .f32⟩
  | 47 => ⟨S4x2048x1024, .f32⟩
  | 48 => ⟨S4x2048x1536, .f32⟩
  | 49 => ⟨S4x2048x8, .f32⟩
  | 50 => ⟨S4x2048x120, .f32⟩
  | 51 => ⟨S_, .i32⟩
  | 52 => ⟨S_, .f32⟩
  | 53 => ⟨S4x2051x1024, .f32⟩
  | 54 => ⟨S1x1024, .f32⟩
  | 55 => ⟨S1024, .f32⟩
  | 56 => ⟨S1x1x1024, .f32⟩
  | 57 => ⟨S1024, .f32⟩
  | 58 => ⟨S4x2048x1024, .f32⟩
  | 59 => ⟨S1x1x1024, .f32⟩
  | 60 => ⟨S4x2048x1024, .f32⟩
  | 61 => ⟨S4x2048x1024, .f32⟩
  | 62 => ⟨S1x1x1024, .f32⟩
  | 63 => ⟨S4x2048x1024, .f32⟩
  | 64 => ⟨S4x2048x1024, .f32⟩
  | 65 => ⟨S1x1x1024, .f32⟩
  | 66 => ⟨S1024, .f32⟩
  | 67 => ⟨S4x2048x1024, .f32⟩
  | 68 => ⟨S1x1x1024, .f32⟩
  | 69 => ⟨S4x2048x1024, .f32⟩
  | 70 => ⟨S4x2048x1024, .f32⟩
  | 71 => ⟨S4x2048x1024, .f32⟩
  | 72 => ⟨S1x1x1024, .f32⟩
  | 73 => ⟨S1024, .f32⟩
  | 74 => ⟨S4x2048x1024, .f32⟩
  | 75 => ⟨S1x1x1024, .f32⟩
  | 76 => ⟨S4x2048x1024, .f32⟩
  | 77 => ⟨S4x2048x1024, .f32⟩
  | 78 => ⟨S4x2048x1024, .f32⟩
  | 79 => ⟨S1x1x1024, .f32⟩
  | 80 => ⟨S1024, .f32⟩
  | 81 => ⟨S4x2048x1024, .f32⟩
  | 82 => ⟨S1x1x1024, .f32⟩
  | 83 => ⟨S4x2048x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S_, .f32⟩
  | 89 => ⟨S4x2048x1024, .f32⟩
  | 90 => ⟨S4x2048x1024, .f32⟩
  | 91 => ⟨S_, .f32⟩
  | 92 => ⟨S4x2048x1024, .f32⟩
  | 93 => ⟨S4x2048x1024, .f32⟩
  | 94 => ⟨S4x2048x1024, .f32⟩
  | 95 => ⟨S4x2048x512, .f32⟩
  | 96 => ⟨S4x2048x512, .f32⟩
  | 97 => ⟨S4x2048x1024, .f32⟩
  | 98 => ⟨S4x2048x512, .f32⟩
  | 99 => ⟨S4x2048x4, .f32⟩
  | 100 => ⟨S4x2048x4, .f32⟩
  | 101 => ⟨S1x4, .f32⟩
  | 102 => ⟨S4, .f32⟩
  | 103 => ⟨S1x1x4, .f32⟩
  | 104 => ⟨S4x2048x4, .f32⟩
  | 105 => ⟨S4x2048x4, .f32⟩
  | 106 => ⟨S1x4, .f32⟩
  | 107 => ⟨S4, .f32⟩
  | 108 => ⟨S1x1x4, .f32⟩
  | 109 => ⟨S4x2048x4, .f32⟩
  | 110 => ⟨S4x2048x4, .f32⟩
  | 111 => ⟨S4x2048x4, .f32⟩
  | 112 => ⟨S_, .f32⟩
  | 113 => ⟨S4x2048x4, .f32⟩
  | 114 => ⟨S4x2048x4, .f32⟩
  | 115 => ⟨S4x2048x4, .f32⟩
  | 116 => ⟨S4x2048x4, .f32⟩
  | 117 => ⟨S4x2048x4, .i1⟩
  | 118 => ⟨S4x2048x4, .f32⟩
  | 119 => ⟨S4x2048x4, .f32⟩
  | 120 => ⟨S4x2048x4, .f32⟩
  | 121 => ⟨S4x2048x4, .f32⟩
  | 122 => ⟨S4x2048x4, .f32⟩
  | 123 => ⟨S4x2048x4, .f32⟩
  | 124 => ⟨S4x2048x4, .f32⟩
  | 125 => ⟨S4x2048x4, .f32⟩
  | 126 => ⟨S4x2048x4, .f32⟩
  | 127 => ⟨S4x2048x8, .f32⟩
  | _ => ⟨S4x2048x2048, .f32⟩

abbrev hbmTy0_1 (i : Nat) : BufTy := match i % 128 with
  | 0 => ⟨S4x8x2048, .f32⟩
  | 1 => ⟨S4x8x8x256, .f32⟩
  | 2 => ⟨S256, .i32⟩
  | 3 => ⟨S256x1, .i32⟩
  | 4 => ⟨S256, .i32⟩
  | 5 => ⟨S1x256, .i32⟩
  | 6 => ⟨S256x256, .i32⟩
  | 7 => ⟨S256x256, .i32⟩
  | 8 => ⟨S256x256, .i1⟩
  | 9 => ⟨S4x8x8x1x256, .f32⟩
  | 10 => ⟨S_, .f32⟩
  | 11 => ⟨S_, .f32⟩
  | 12 => ⟨S4x8x8x256x256, .i1⟩
  | 13 => ⟨S4x8x8x256x256, .f32⟩
  | 14 => ⟨S4x8x8x256x256, .f32⟩
  | 15 => ⟨S4x8x8x256x256, .f32⟩
  | 16 => ⟨S_, .f32⟩
  | 17 => ⟨S4x8x8x256, .f32⟩
  | 18 => ⟨S4x4x8x256, .f32⟩
  | 19 => ⟨S4x4x8x256, .f32⟩
  | 20 => ⟨S4x8x8x256, .f32⟩
  | 21 => ⟨S4x8x8x256, .f32⟩
  | 22 => ⟨S4x8x8x1x256, .f32⟩
  | 23 => ⟨S_, .f32⟩
  | 24 => ⟨S_, .f32⟩
  | 25 => ⟨S4x8x8x256x256, .i1⟩
  | 26 => ⟨S4x8x8x256x256, .f32⟩
  | 27 => ⟨S4x8x8x256x256, .f32⟩
  | 28 => ⟨S4x8x8x256x256, .f32⟩
  | 29 => ⟨S_, .f32⟩
  | 30 => ⟨S4x8x8x256, .f32⟩
  | 31 => ⟨S4x24x8x256, .f32⟩
  | 32 => ⟨S4x24x2048, .f32⟩
  | 33 => ⟨S_, .f32⟩
  | 34 => ⟨S4x2048x512, .f32⟩
  | 35 => ⟨S4x2048x512, .f32⟩
  | 36 => ⟨S4x2048x1024, .f32⟩
  | 37 => ⟨S4x2048x1024, .bf16⟩
  | 38 => ⟨S4x2048x1024, .bf16⟩
  | 39 => ⟨S4x2048x1024, .f32⟩
  | 40 => ⟨S4x2048x1024, .f32⟩
  | 41 => ⟨S_, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S4x2048x1024, .bf16⟩
  | 48 => ⟨S_, .f32⟩
  | 49 => ⟨S4x2048x1024, .f32⟩
  | 50 => ⟨S4x2048x1024, .f32⟩
  | 51 => ⟨S4x2048x1536, .f32⟩
  | 52 => ⟨S4x2048x1536, .bf16⟩
  | 53 => ⟨S1x2048x8192, .f32⟩
  | 54 => ⟨S2048x8192, .f32⟩
  | 55 => ⟨S2048x8192, .bf16⟩
  | 56 => ⟨S1x8192x2048, .f32⟩
  | 57 => ⟨S8192x2048, .f32⟩
  | 58 => ⟨S8192x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call2_v0 : Ref sig .tc := ⟨.hbm, 111, rfl⟩
abbrev main_call2_call0_cst : Ref sig .tc := ⟨.hbm, 112, rfl⟩
abbrev main_call2_call0_v0 : Ref sig .tc := ⟨.hbm, 113, rfl⟩
abbrev main_call2_call0_v1 : Ref sig .tc := ⟨.hbm, 114, rfl⟩
abbrev main_call2_call0_v2 : Ref sig .tc := ⟨.hbm, 115, rfl⟩
abbrev main_call2_call0_v3 : Ref sig .tc := ⟨.hbm, 116, rfl⟩
abbrev main_call2_call0_v4 : Ref sig .tc := ⟨.hbm, 117, rfl⟩
abbrev main_call2_call0_v5 : Ref sig .tc := ⟨.hbm, 118, rfl⟩
abbrev main_call2_call0_v6 : Ref sig .tc := ⟨.hbm, 119, rfl⟩
abbrev main_call2_call0_v7 : Ref sig .tc := ⟨.hbm, 120, rfl⟩
abbrev main_call2_call0_v8 : Ref sig .tc := ⟨.hbm, 121, rfl⟩
abbrev main_call2_call0_v9 : Ref sig .tc := ⟨.hbm, 122, rfl⟩
abbrev main_call2_call0_v10 : Ref sig .tc := ⟨.hbm, 123, rfl⟩
abbrev main_call2_call0_v11 : Ref sig .tc := ⟨.hbm, 124, rfl⟩
abbrev main_call2_v1 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_3 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_v99 : Ref sig .tc := ⟨.hbm, 143, rfl⟩
abbrev main_cst_4 : Ref sig .tc := ⟨.hbm, 144, rfl⟩
abbrev main_v100 : Ref sig .tc := ⟨.hbm, 145, rfl⟩
abbrev main_call4_v0 : Ref sig .tc := ⟨.hbm, 146, rfl⟩
abbrev main_call4_v1 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_5 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_v104 : Ref sig .tc := ⟨.hbm, 156, rfl⟩
abbrev main_cst_6 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_7 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_8 : Ref sig .tc := ⟨.hbm, 169, rfl⟩
abbrev main_v115 : Ref sig .tc := ⟨.hbm, 170, rfl⟩
abbrev main_v116 : Ref sig .tc := ⟨.hbm, 171, rfl⟩
abbrev main_cst_9 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_10 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩

abbrev nD : Nat := 1
abbrev τ : Topo := Topo.v7x

variable {F : FTy → Type} [FloatOps F]
-- ==== Proof.Mlp.Base.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow

@[expose] public section

set_option maxRecDepth 16384

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No loop of the program needs a variant. -/
abbrev 𝒱₀ : Variants := Variants.none

/-! ## The values the body computes -/

/-- A block of rows normed, scaled and shifted. -/
def pNorm (x : Vec F S1x128x2048 .f32) (g sc sh : Vec F S1x2048 .f32) : Vec F S128x2048 .bf16 := k0_pay7 x g sc sh
/-- The accumulator after one slab of the hidden axis. -/
def pStep (h : Vec F S1024x2048 .bf16) (wu : Vec F S2048x1024 .bf16) (a : Vec F S1024x2048 .f32) (wd : Vec F S1024x2048 .bf16) :
    Vec F S1024x2048 .f32 := k0_pay29 h wu a wd
/-- A block of rows of the result. -/
def pOut (x : Vec F S1x128x2048 .f32) (gate : Vec F S1x2048 .f32) (a : Vec F S128x2048 .f32) (g : Vec F S1x2048 .f32) :
    Vec F S1x128x2048 .f32 := k0_pay17 x gate a g
/-- A block of rows of zeros. -/
def pZero : Vec F S128x2048 .f32 := k0_pay8
/-- A block of packed columns. -/
def pPack (i : grid0.Coords) (x : Vec F S1x128x2048 .f32) : Vec F S2048x128 .bf16 :=
  k0_pay5 (BitVec.ofNat 32 (i 0).val) (BitVec.ofNat 32 (i 1).val) x
/-- A block of rows cast. -/
def pCast (x : Vec F S1x32x2048 .f32) : Vec F S32x2048 .bf16 := k0_pay6 x

/-- A load at a unit-stride rectangle reads the window of what the view reads. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = VecWindow.window (v.read Val f) off size inb :=
  View.readAt_unit v f inb rfl inb

/-- A store at a unit-stride rectangle leaves the payload put there. -/
theorem read_put {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) :
    v.read Val (v.writes Val f [⟨Rect.unit off size inb, w⟩]) = VecWindow.put (v.read Val f) off size w := by
  rw [View.read_writes_cons_put v f inb w [] rfl, View.writes_nil]

/-- The window of the whole shape is the contents. -/
theorem window_whole {s : Shape} {α : Type} (x : s.Idx → α) (off : Fin s.rank → ℕ) (inb : ∀ a, off a + s.size a ≤ s.size a) :
    VecWindow.window x off s.size inb = x := by
  funext y
  refine congrArg x (funext fun a => Fin.ext ?_)
  show off a + 1 * (y a).val = (y a).val
  have := inb a
  omega

theorem whole_S1x128x2048 {α : Type} (x : S1x128x2048.Idx → α) (inb : ∀ a, (![0, 0, 0] : Fin 3 → ℕ) a + (![1, 128, 2048] : Fin 3 → ℕ) a ≤ S1x128x2048.size a) :
    VecWindow.window (s := S1x128x2048) x ![0, 0, 0] ![1, 128, 2048] inb = x := window_whole x _ inb
theorem whole_S1x32x2048 {α : Type} (x : S1x32x2048.Idx → α) (inb : ∀ a, (![0, 0, 0] : Fin 3 → ℕ) a + (![1, 32, 2048] : Fin 3 → ℕ) a ≤ S1x32x2048.size a) :
    VecWindow.window (s := S1x32x2048) x ![0, 0, 0] ![1, 32, 2048] inb = x := window_whole x _ inb
theorem whole_S1024x2048 {α : Type} (x : S1024x2048.Idx → α) (inb : ∀ a, (![0, 0] : Fin 2 → ℕ) a + (![1024, 2048] : Fin 2 → ℕ) a ≤ S1024x2048.size a) :
    VecWindow.window (s := S1024x2048) x ![0, 0] ![1024, 2048] inb = x := window_whole x _ inb
theorem whole_S2048x1024 {α : Type} (x : S2048x1024.Idx → α) (inb : ∀ a, (![0, 0] : Fin 2 → ℕ) a + (![2048, 1024] : Fin 2 → ℕ) a ≤ S2048x1024.size a) :
    VecWindow.window (s := S2048x1024) x ![0, 0] ![2048, 1024] inb = x := window_whole x _ inb

/-- A put of the whole shape leaves what is put. -/
theorem put_whole_at {s : Shape} {α : Type} (x w : s.Idx → α) (off : Fin s.rank → ℕ) (h : ∀ a, off a = 0) :
    VecWindow.put x off s.size w = w := by
  funext y
  have hy : ∀ a, off a ≤ (y a).val ∧ (y a).val < off a + s.size a := fun a => by
    rw [h a]; exact ⟨Nat.zero_le _, by have := (y a).isLt; omega⟩
  unfold VecWindow.put
  rw [dif_pos hy]
  refine congrArg w (funext fun a => Fin.ext ?_)
  show (y a).val - off a = (y a).val
  rw [h a, Nat.sub_zero]

theorem putw_S1x128x2048 {α : Type} (x w : S1x128x2048.Idx → α) :
    VecWindow.put (s := S1x128x2048) x ![0, 0, 0] ![1, 128, 2048] w = w := put_whole_at x w _ (by decide)
theorem putw_S32x2048 {α : Type} (x w : S32x2048.Idx → α) :
    VecWindow.put (s := S32x2048) x ![0, 0] ![32, 2048] w = w := put_whole_at x w _ (by decide)
theorem putw_S1024x2048 {α : Type} (x w : S1024x2048.Idx → α) :
    VecWindow.put (s := S1024x2048) x ![0, 0] ![1024, 2048] w = w := put_whole_at x w _ (by decide)
theorem putw_S2048x128 {α : Type} (x w : S2048x128.Idx → α) :
    VecWindow.put (s := S2048x128) x ![0, 0] ![2048, 128] w = w := put_whole_at x w _ (by decide)

/-! ## The body on any staging memrefs -/

section
variable (c : Dev nD) (i : grid0.Coords)
  (M2 : Memref sig .tc .vmem S1x128x2048 .f32) (h2 : M2.IsWhole)
  (M3 : Memref sig .tc .vmem S1x128x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S8x2048 .f32) (h6 : M6.IsWhole)
  (M7 : Memref sig .tc .vmem S2x2048 .f32) (h7 : M7.IsWhole)
  (M8 : Memref sig .tc .vmem S2x2048 .f32) (h8 : M8.IsWhole)
  (M9 : Memref sig .tc .vmem S2048x1024 .bf16) (h9 : M9.IsWhole)
  (M10 : Memref sig .tc .vmem S1024x2048 .bf16) (h10 : M10.IsWhole)
  (M11 : Memref sig .tc .vmem S1x128x2048 .f32) (h11 : M11.IsWhole)
  (M12 : Memref sig .tc .vmem S1x32x2048 .f32) (h12 : M12.IsWhole)
  (M13 : Memref sig .tc .vmem S1x128x2048 .f32) (h13 : M13.IsWhole)
  (M14 : Memref sig .tc .vmem S2048x128 .bf16) (h14 : M14.IsWhole)
  (M15 : Memref sig .tc .vmem S32x2048 .bf16) (h15 : M15.IsWhole)
  (M16 : Memref sig .tc .vmem S1024x2048 .bf16) (h16 : M16.IsWhole)
  (M17 : Memref sig .tc .vmem S1024x2048 .bf16) (h17 : M17.IsWhole)
  (M18 : Memref sig .tc .vmem S1024x2048 .f32) (h18 : M18.IsWhole)
  (M19 : Memref sig .tc .vmem S1024x2048 .f32) (h19 : M19.IsWhole)
  (X2 : Vec F S1x128x2048 .f32)  (X3 : Vec F S1x128x2048 .f32)
  (X4 : Vec F S8x2048 .f32)  (X5 : Vec F S8x2048 .f32)  (X6 : Vec F S8x2048 .f32)
  (X7 : Vec F S2x2048 .f32)  (X8 : Vec F S2x2048 .f32)  (X9 : Vec F S2048x1024 .bf16)
  (X10 : Vec F S1024x2048 .bf16)  (X11 : Vec F S1x128x2048 .f32)  (X12 : Vec F S1x32x2048 .f32)

/-- The eleven input buffers, each at its block. -/
def ins : sProp 𝕄 :=
  iprop(owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10
    ∗ owns (c : Thread nD τ) M11 fullShare X11
    ∗ owns (c : Thread nD τ) M12 fullShare X12)

/-- The three output buffers and the four scratch buffers. -/
def outs (Y13 : Vec F S1x128x2048 .f32) (Y14 : Vec F S2048x128 .bf16) (Y15 : Vec F S32x2048 .bf16) (Y16 : Vec F S1024x2048 .bf16) (Y17 : Vec F S1024x2048 .bf16) (Y18 : Vec F S1024x2048 .f32) (Y19 : Vec F S1024x2048 .f32) : sProp 𝕄 :=
  iprop(owns (c : Thread nD τ) M13 fullShare Y13
    ∗ owns (c : Thread nD τ) M14 fullShare Y14
    ∗ owns (c : Thread nD τ) M15 fullShare Y15
    ∗ owns (c : Thread nD τ) M16 fullShare Y16
    ∗ owns (c : Thread nD τ) M17 fullShare Y17
    ∗ owns (c : Thread nD τ) M18 fullShare Y18
    ∗ owns (c : Thread nD τ) M19 fullShare Y19)

end

end Cert.Proof.Mlp

end
-- ==== Proof.Mlp.Inv.lean ====
module

public import proofs.«01_k».proof.Proof.Mlp.Base
public import Idealize.ShloMosaic.Lib.Pointwise.Index

@[expose] public section

set_option maxRecDepth 16384

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: tile `t / 8`, step `t % 8` -/

theorem hN : grid0.N = 80 := N_0

/-- The point of tile `q` and step `j`. -/
def pt (q j : ℕ) : Fin grid0.N := ⟨min (8 * q + j) 79, by rw [hN]; omega⟩

theorem pt_eq (t : Fin grid0.N) : pt (t.val / 8) (t.val % 8) = t := by
  have := t.isLt.trans_eq hN
  apply Fin.ext
  show min (8 * (t.val / 8) + t.val % 8) 79 = t.val
  omega

theorem cond1_iff (t : Fin grid0.N) : k0_cond1 (grid0.coords t) = 1#1 ↔ t.val / 8 = 0 :=
  (by decide +kernel : ∀ t : Fin grid0.N, k0_cond1 (grid0.coords t) = 1#1 ↔ t.val / 8 = 0) t
theorem cond2_iff (t : Fin grid0.N) : k0_cond2 (grid0.coords t) = 1#1 ↔ t.val / 8 = 1 :=
  (by decide +kernel : ∀ t : Fin grid0.N, k0_cond2 (grid0.coords t) = 1#1 ↔ t.val / 8 = 1) t
theorem cond3_iff (t : Fin grid0.N) : k0_cond3 (grid0.coords t) = 1#1 ↔ (2 ≤ t.val / 8 ∧ t.val / 8 ≤ 8) ∧ t.val / 8 % 2 = 0 :=
  (by decide +kernel : ∀ t : Fin grid0.N, k0_cond3 (grid0.coords t) = 1#1 ↔ (2 ≤ t.val / 8 ∧ t.val / 8 ≤ 8) ∧ t.val / 8 % 2 = 0) t
theorem cond4_iff (t : Fin grid0.N) : k0_cond4 (grid0.coords t) = 1#1 ↔ (2 ≤ t.val / 8 ∧ t.val / 8 ≤ 8) ∧ t.val / 8 % 2 = 1 :=
  (by decide +kernel : ∀ t : Fin grid0.N, k0_cond4 (grid0.coords t) = 1#1 ↔ (2 ≤ t.val / 8 ∧ t.val / 8 ≤ 8) ∧ t.val / 8 % 2 = 1) t
theorem cond5_iff (t : Fin grid0.N) : k0_cond5 (grid0.coords t) = 1#1 ↔ t.val / 8 = 9 :=
  (by decide +kernel : ∀ t : Fin grid0.N, k0_cond5 (grid0.coords t) = 1#1 ↔ t.val / 8 = 9) t

theorem off1_eq (t : Fin grid0.N) : k0_off1 (grid0.coords t) = ![min (t.val / 8) 7 / 2, 0] :=
  (by decide +kernel : ∀ t : Fin grid0.N, k0_off1 (grid0.coords t) = ![min (t.val / 8) 7 / 2, 0]) t
theorem off3_eq (t : Fin grid0.N) : k0_off3 (grid0.coords t) = ![min (t.val / 8) 7 / 2, 0] :=
  (by decide +kernel : ∀ t : Fin grid0.N, k0_off3 (grid0.coords t) = ![min (t.val / 8) 7 / 2, 0]) t
theorem off5_eq (t : Fin grid0.N) : k0_off5 (grid0.coords t) = ![min (t.val / 8) 7 / 2, 0] :=
  (by decide +kernel : ∀ t : Fin grid0.N, k0_off5 (grid0.coords t) = ![min (t.val / 8) 7 / 2, 0]) t
theorem off8_eq (t : Fin grid0.N) : k0_off8 (grid0.coords t) = ![min (t.val / 8) 7 / 2, 0] :=
  (by decide +kernel : ∀ t : Fin grid0.N, k0_off8 (grid0.coords t) = ![min (t.val / 8) 7 / 2, 0]) t
theorem off2_eq (t : Fin grid0.N) : k0_off2 (grid0.coords t) = ![128 * (t.val % 8), 0] :=
  (by decide +kernel : ∀ t : Fin grid0.N, k0_off2 (grid0.coords t) = ![128 * (t.val % 8), 0]) t
theorem off4_eq (t : Fin grid0.N) : k0_off4 (grid0.coords t) = ![128 * (t.val % 8), 0] :=
  (by decide +kernel : ∀ t : Fin grid0.N, k0_off4 (grid0.coords t) = ![128 * (t.val % 8), 0]) t
theorem off6_eq (t : Fin grid0.N) : k0_off6 (grid0.coords t) = ![128 * (t.val % 8), 0] :=
  (by decide +kernel : ∀ t : Fin grid0.N, k0_off6 (grid0.coords t) = ![128 * (t.val % 8), 0]) t
theorem off9_eq (t : Fin grid0.N) : k0_off9 (grid0.coords t) = ![128 * (t.val % 8), 0] :=
  (by decide +kernel : ∀ t : Fin grid0.N, k0_off9 (grid0.coords t) = ![128 * (t.val % 8), 0]) t
theorem off12_eq (t : Fin grid0.N) : k0_off12 (grid0.coords t) = ![128 * (t.val % 8), 0] :=
  (by decide +kernel : ∀ t : Fin grid0.N, k0_off12 (grid0.coords t) = ![128 * (t.val % 8), 0]) t
theorem off7_eq (t : Fin grid0.N) (h : 2 ≤ t.val / 8) : k0_off7 (grid0.coords t) = ![(t.val / 8 - 2) / 2, 0] :=
  (by decide +kernel : ∀ t : Fin grid0.N, 2 ≤ t.val / 8 → k0_off7 (grid0.coords t) = ![(t.val / 8 - 2) / 2, 0]) t h
theorem off10_eq (t : Fin grid0.N) (h : 2 ≤ t.val / 8) : k0_off10 (grid0.coords t) = ![(t.val / 8 - 2) / 2, 0] :=
  (by decide +kernel : ∀ t : Fin grid0.N, 2 ≤ t.val / 8 → k0_off10 (grid0.coords t) = ![(t.val / 8 - 2) / 2, 0]) t h
theorem off11_eq (t : Fin grid0.N) (h : 2 ≤ t.val / 8) : k0_off11 (grid0.coords t) = ![(t.val / 8 - 2) / 2, 0] :=
  (by decide +kernel : ∀ t : Fin grid0.N, 2 ≤ t.val / 8 → k0_off11 (grid0.coords t) = ![(t.val / 8 - 2) / 2, 0]) t h

/-! ## Rows of the buffers -/

/-- Row `b` of eight. -/
def row8 (x : Vec F S8x2048 .f32) (b : ℕ) : Vec F S1x2048 .f32 := fun y => x (ix2 (n0 := 8) (n1 := 2048) ⟨b % 8, Nat.mod_lt _ (by decide)⟩ (y 1))
/-- The first row of two. -/
def row2 (x : Vec F S2x2048 .f32) : Vec F S1x2048 .f32 := fun y => x (ix2 (n0 := 2) (n1 := 2048) ⟨0, by decide⟩ (y 1))
/-- The `j`-th block of 128 rows. -/
def rows128 (x : Vec F S1024x2048 .f32) (j : ℕ) : Vec F S128x2048 .f32 :=
  fun y => x (ix2 (n0 := 1024) (n1 := 2048) ⟨(128 * j + (y 0).val) % 1024, Nat.mod_lt _ (by decide)⟩ (y 1))

theorem window_row8 (x : Vec F S8x2048 .f32) (off : Fin 2 → ℕ) (b : ℕ) (h : off = ![b, 0]) (inb : ∀ a, off a + S1x2048.size a ≤ S8x2048.size a) :
    VecWindow.window x off S1x2048.size inb = row8 x b := by
  subst h
  have h0 : b + 1 ≤ 8 := inb 0
  funext y
  unfold VecWindow.window row8
  refine congrArg x (funext fun a => ?_)
  have hy : (y 0).val < 1 := (y 0).isLt
  match a with
  | ⟨0, _⟩ => exact Fin.ext (show b + 1 * (y 0).val = b % 8 by omega)
  | ⟨1, _⟩ => exact Fin.ext (show 0 + 1 * (y 1).val = (y 1).val by omega)

theorem window_row2 (x : Vec F S2x2048 .f32) (inb : ∀ a, (![0, 0] : Fin 2 → ℕ) a + S1x2048.size a ≤ S2x2048.size a) :
    VecWindow.window x (![0, 0]) S1x2048.size inb = row2 x := by
  funext y
  unfold VecWindow.window row2
  refine congrArg x (funext fun a => ?_)
  have hy : (y 0).val < 1 := (y 0).isLt
  match a with
  | ⟨0, _⟩ => exact Fin.ext (show 0 + 1 * (y 0).val = 0 by omega)
  | ⟨1, _⟩ => exact Fin.ext (show 0 + 1 * (y 1).val = (y 1).val by omega)

theorem window_rows128 (x : Vec F S1024x2048 .f32) (off : Fin 2 → ℕ) (j : ℕ) (h : off = ![128 * j, 0])
    (inb : ∀ a, off a + S128x2048.size a ≤ S1024x2048.size a) :
    VecWindow.window x off S128x2048.size inb = rows128 x j := by
  subst h
  have h0 : 128 * j + 128 ≤ 1024 := inb 0
  funext y
  unfold VecWindow.window rows128
  refine congrArg x (funext fun a => ?_)
  have hy : (y 0).val < 128 := (y 0).isLt
  match a with
  | ⟨0, _⟩ => exact Fin.ext (show 128 * j + 1 * (y 0).val = (128 * j + (y 0).val) % 1024 by omega)
  | ⟨1, _⟩ => exact Fin.ext (show 0 + 1 * (y 1).val = (y 1).val by omega)

/-- A row of 1024 within its block of 128. -/
def loc128 (y : S1024x2048.Idx) : S128x2048.Idx := ix2 (n0 := 128) (n1 := 2048) ⟨(y 0).val % 128, Nat.mod_lt _ (by decide)⟩ (y 1)

theorem put_rows_in {α : Type} (x : S1024x2048.Idx → α) (off : Fin 2 → ℕ) (j : ℕ) (h : off = ![128 * j, 0]) (w : S128x2048.Idx → α) (y : S1024x2048.Idx)
    (h1 : 128 * j ≤ (y 0).val) (h2 : (y 0).val < 128 * (j + 1)) : VecWindow.put x off S128x2048.size w y = w (loc128 y) := by
  subst h
  have hy : ∀ a, (![128 * j, 0] : Fin 2 → ℕ) a ≤ (y a).val ∧ (y a).val < (![128 * j, 0] : Fin 2 → ℕ) a + S128x2048.size a := fun a => by
    match a with
    | ⟨0, _⟩ => exact ⟨h1, show (y 0).val < 128 * j + 128 by omega⟩
    | ⟨1, _⟩ => exact ⟨Nat.zero_le _, show (y 1).val < 0 + 2048 by have : (y 1).val < 2048 := (y 1).isLt; omega⟩
  unfold VecWindow.put
  rw [dif_pos hy]
  refine congrArg w (funext fun a => ?_)
  match a with
  | ⟨0, _⟩ => exact Fin.ext (show (y 0).val - 128 * j = (y 0).val % 128 by omega)
  | ⟨1, _⟩ => exact Fin.ext (show (y 1).val - 0 = (y 1).val by omega)

theorem put_rows_out {α : Type} (x : S1024x2048.Idx → α) (off : Fin 2 → ℕ) (j : ℕ) (h : off = ![128 * j, 0]) (w : S128x2048.Idx → α) (y : S1024x2048.Idx)
    (h1 : (y 0).val < 128 * j ∨ 128 * (j + 1) ≤ (y 0).val) : VecWindow.put x off S128x2048.size w y = x y := by
  subst h
  unfold VecWindow.put
  rw [dif_neg fun hy => ?_]
  have e0 : 128 * j ≤ (y 0).val ∧ (y 0).val < 128 * j + 128 := hy 0
  omega

/-! ## What the body computes, over the input blocks at the points -/

/-- The input blocks at each point of the grid. -/
structure Blk (F : FTy → Type) where
  /-- The rows to norm. -/
  x : Fin grid0.N → Vec F S1x128x2048 .f32
  /-- The rows to finish. -/
  xd : Fin grid0.N → Vec F S1x128x2048 .f32
  /-- The shift. -/
  shift : Fin grid0.N → Vec F S8x2048 .f32
  /-- The scale. -/
  scale : Fin grid0.N → Vec F S8x2048 .f32
  /-- The gate. -/
  gate : Fin grid0.N → Vec F S8x2048 .f32
  /-- The weight of the first norm. -/
  gpre : Fin grid0.N → Vec F S2x2048 .f32
  /-- The weight of the second norm. -/
  gpost : Fin grid0.N → Vec F S2x2048 .f32
  /-- The slab of the first product. -/
  wup : Fin grid0.N → Vec F S2048x1024 .bf16
  /-- The slab of the second product. -/
  wdn : Fin grid0.N → Vec F S1024x2048 .bf16

variable (B : Blk F)

/-- The zero the accumulators start from. -/
def zf : F .f32 := Scalar.ofBits .f32 0x00000000#32

theorem pZero_at (y : S128x2048.Idx) : pZero (F := F) y = zf := rfl

/-- The rows normed at a point. -/
def nrm (t : Fin grid0.N) : Vec F S128x2048 .bf16 :=
  pNorm (B.x t) (row2 (B.gpre t)) (row8 (B.scale t) (min (t.val / 8) 7 / 2)) (row8 (B.shift t) (min (t.val / 8) 7 / 2))

/-- Tile `q` normed. -/
def H (q : ℕ) : Vec F S1024x2048 .bf16 := fun y => nrm B (pt q ((y 0).val / 128)) (loc128 y)

/-- Tile `q`'s accumulator after `n` slabs. -/
def A (q : ℕ) : ℕ → Vec F S1024x2048 .f32
  | 0 => fun _ => zf
  | n + 1 => pStep (H B q) (B.wup (pt (q + 1) n)) (A q n) (B.wdn (pt (q + 1) n))

/-- The result's rows at a point of the third tile on. -/
def outB (t : Fin grid0.N) : Vec F S1x128x2048 .f32 :=
  pOut (B.xd t) (row8 (B.gate t) ((t.val / 8 - 2) / 2)) (rows128 (A B (t.val / 8 - 2) 8) (t.val % 8)) (row2 (B.gpost t))

/-! ## The invariant -/

/-- What the four scratch buffers hold before step `j` of tile `p`: the buffers in turn and the others. -/
def InvC (p j : ℕ) (hc hp : Vec F S1024x2048 .bf16) (ac ap : Vec F S1024x2048 .f32) : Prop :=
  (p ≤ 7 → ∀ y : S1024x2048.Idx, (y 0).val < 128 * j → hc y = H B p y)
  ∧ (1 ≤ p → p ≤ 8 → hp = H B (p - 1) ∧ ap = A B (p - 1) j)
  ∧ (2 ≤ p → p ≤ 9 → ∀ y : S1024x2048.Idx, ac y = if (y 0).val < 128 * j then zf else A B (p - 2) 8 y)
  ∧ (p = 0 → ∀ y : S1024x2048.Idx, (y 0).val < 128 * j → ac y = zf ∧ ap y = zf)
  ∧ (p = 1 → ∀ y : S1024x2048.Idx, ac y = zf)

/-- What the four scratch buffers hold before point `t`. -/
def Inv (t : ℕ) (h0 h1 : Vec F S1024x2048 .bf16) (a0 a1 : Vec F S1024x2048 .f32) : Prop :=
  if t / 8 % 2 = 0 then InvC B (t / 8) (t % 8) h0 h1 a0 a1 else InvC B (t / 8) (t % 8) h1 h0 a1 a0

theorem inv_zero (h0 h1 : Vec F S1024x2048 .bf16) (a0 a1 : Vec F S1024x2048 .f32) : Inv B 0 h0 h1 a0 a1 := by
  unfold Inv
  rw [if_pos (by decide)]
  exact ⟨fun _ y hy => absurd hy (by omega), fun h => absurd h (by omega), fun h => absurd h (by omega), fun _ y hy => absurd hy (by omega),
    fun h => absurd h (by omega)⟩

theorem row_lt (y : S1024x2048.Idx) : (y 0).val < 1024 := (y 0).isLt

/-- After a tile's last step the buffers change turns. -/
theorem invC_wrap (p : ℕ) (hc hp : Vec F S1024x2048 .bf16) (ac ap : Vec F S1024x2048 .f32) (h : InvC B p 8 hc hp ac ap) :
    InvC B (p + 1) 0 hp hc ap ac := by
  obtain ⟨i1, i2, i3, i4, i5⟩ := h
  refine ⟨fun _ y hy => absurd hy (by omega), fun _ h8 => ⟨?_, ?_⟩, fun h2 h9 y => ?_, fun h0 => absurd h0 (by omega), fun h1 y => ?_⟩
  · funext y
    exact i1 (by omega) y (by have := row_lt y; omega)
  · funext y
    have hy := row_lt y
    show ac y = zf
    rcases Nat.lt_or_ge p 2 with hp2 | hp2
    · rcases Nat.lt_or_ge p 1 with hp1 | hp1
      · exact (i4 (by omega) y (by omega)).1
      · exact i5 (by omega) y
    · rw [i3 hp2 (by omega) y, if_pos (by omega)]
  · rw [if_neg (by omega), (i2 (by omega) (by omega)).2, show p - 1 = p + 1 - 2 by omega]
  · exact (i4 (by omega) y (by have := row_lt y; omega)).2

/-- The invariant before the next point, from the step within an even tile. -/
theorem inv_succ_even (t : ℕ) (he : t / 8 % 2 = 0) (h0 h1 : Vec F S1024x2048 .bf16) (a0 a1 : Vec F S1024x2048 .f32)
    (h : InvC B (t / 8) (t % 8 + 1) h0 h1 a0 a1) : Inv B (t + 1) h0 h1 a0 a1 := by
  unfold Inv
  rcases Nat.lt_or_ge (t % 8) 7 with hj | hj
  · rw [show (t + 1) / 8 = t / 8 by omega, show (t + 1) % 8 = t % 8 + 1 by omega, if_pos he]
    exact h
  · rw [show (t + 1) / 8 = t / 8 + 1 by omega, show (t + 1) % 8 = 0 by omega, if_neg (by omega)]
    exact invC_wrap B _ _ _ _ _ (by rw [show t % 8 + 1 = 8 by omega] at h; exact h)

/-- The invariant before the next point, from the step within an odd tile. -/
theorem inv_succ_odd (t : ℕ) (he : t / 8 % 2 = 1) (h0 h1 : Vec F S1024x2048 .bf16) (a0 a1 : Vec F S1024x2048 .f32)
    (h : InvC B (t / 8) (t % 8 + 1) h1 h0 a1 a0) : Inv B (t + 1) h0 h1 a0 a1 := by
  unfold Inv
  rcases Nat.lt_or_ge (t % 8) 7 with hj | hj
  · rw [show (t + 1) / 8 = t / 8 by omega, show (t + 1) % 8 = t % 8 + 1 by omega, if_neg (by omega)]
    exact h
  · rw [show (t + 1) / 8 = t / 8 + 1 by omega, show (t + 1) % 8 = 0 by omega, if_pos (by omega)]
    exact invC_wrap B _ _ _ _ _ (by rw [show t % 8 + 1 = 8 by omega] at h; exact h)

/-- Rows normed and put: the tile agrees up to the next step. -/
theorem put_nrm (t : Fin grid0.N) (off : Fin 2 → ℕ) (ho : off = ![128 * (t.val % 8), 0]) (hc : Vec F S1024x2048 .bf16)
    (h : ∀ y : S1024x2048.Idx, (y 0).val < 128 * (t.val % 8) → hc y = H B (t.val / 8) y) (y : S1024x2048.Idx) (hy : (y 0).val < 128 * (t.val % 8 + 1)) :
    VecWindow.put hc off S128x2048.size (nrm B t) y = H B (t.val / 8) y := by
  rcases Nat.lt_or_ge (y 0).val (128 * (t.val % 8)) with hlt | hge
  · rw [put_rows_out hc off _ ho _ y (.inl hlt)]
    exact h y hlt
  · rw [put_rows_in hc off _ ho _ y hge hy]
    unfold H
    rw [show (y 0).val / 128 = t.val % 8 by omega, pt_eq]

/-- Zeros put: the accumulator is zero up to the next step and what it was from there. -/
theorem put_zero (off : Fin 2 → ℕ) (j : ℕ) (ho : off = ![128 * j, 0]) (ac : Vec F S1024x2048 .f32) (y : S1024x2048.Idx) (hy : ¬(y 0).val < 128 * j) :
    VecWindow.put ac off S128x2048.size (pZero (F := F)) y = if (y 0).val < 128 * (j + 1) then zf else ac y := by
  by_cases h : (y 0).val < 128 * (j + 1)
  · rw [if_pos h, put_rows_in ac off _ ho _ y (by omega) h, pZero_at]
  · rw [if_neg h, put_rows_out ac off _ ho _ y (.inr (by omega))]

theorem put_zero_below (off : Fin 2 → ℕ) (j : ℕ) (ho : off = ![128 * j, 0]) (ac : Vec F S1024x2048 .f32) (y : S1024x2048.Idx)
    (h : (y 0).val < 128 * j → ac y = zf) (hy : (y 0).val < 128 * (j + 1)) :
    VecWindow.put ac off S128x2048.size (pZero (F := F)) y = zf := by
  by_cases hlt : (y 0).val < 128 * j
  · rw [put_rows_out ac off _ ho _ y (.inl hlt), h hlt]
  · rw [put_zero off j ho ac y hlt, if_pos hy]

variable (t : Fin grid0.N) (off off' off'' : Fin 2 → ℕ) (ho : off = ![128 * (t.val % 8), 0])
  (hc hp : Vec F S1024x2048 .bf16) (ac ap : Vec F S1024x2048 .f32) (h : InvC B (t.val / 8) (t.val % 8) hc hp ac ap)

include ho h

theorem step_first (hp0 : t.val / 8 = 0) :
    InvC B (t.val / 8) (t.val % 8 + 1) (VecWindow.put hc off S128x2048.size (nrm B t)) hp
      (VecWindow.put ac off S128x2048.size (pZero (F := F))) (VecWindow.put ap off S128x2048.size (pZero (F := F))) := by
  obtain ⟨i1, i2, i3, i4, i5⟩ := h
  refine ⟨fun h7 y hy => put_nrm B t off ho hc (i1 h7) y hy, fun h => absurd h (by omega), fun h => absurd h (by omega),
    fun _ y hy => ⟨?_, ?_⟩, fun h => absurd h (by omega)⟩
  · exact put_zero_below off _ ho ac y (fun hlt => (i4 hp0 y hlt).1) hy
  · exact put_zero_below off _ ho ap y (fun hlt => (i4 hp0 y hlt).2) hy

/-- The other accumulator after its slab. -/
theorem step_acc (h1 : 1 ≤ t.val / 8) (h8 : t.val / 8 ≤ 8) :
    hp = H B (t.val / 8 - 1) ∧ pStep hp (B.wup t) ap (B.wdn t) = A B (t.val / 8 - 1) (t.val % 8 + 1) := by
  obtain ⟨i1, i2, i3, i4, i5⟩ := h
  obtain ⟨e1, e2⟩ := i2 h1 h8
  refine ⟨e1, ?_⟩
  rw [A, ← e2, ← e1, show t.val / 8 - 1 + 1 = t.val / 8 by omega, pt_eq]

theorem step_second (hp1 : t.val / 8 = 1) :
    InvC B (t.val / 8) (t.val % 8 + 1) (VecWindow.put hc off S128x2048.size (nrm B t)) hp
      ac (pStep hp (B.wup t) ap (B.wdn t)) := by
  have hacc := step_acc B t off ho hc hp ac ap h (by omega) (by omega)
  obtain ⟨i1, i2, i3, i4, i5⟩ := h
  exact ⟨fun h7 y hy => put_nrm B t off ho hc (i1 h7) y hy, fun _ _ => hacc, fun h => absurd h (by omega),
    fun h => absurd h (by omega), fun _ y => i5 hp1 y⟩

theorem step_steady (h2 : 2 ≤ t.val / 8) (h8 : t.val / 8 ≤ 8) :
    InvC B (t.val / 8) (t.val % 8 + 1) (VecWindow.put hc off S128x2048.size (nrm B t)) hp
      (VecWindow.put ac off S128x2048.size (pZero (F := F))) (pStep hp (B.wup t) ap (B.wdn t)) := by
  have hacc := step_acc B t off ho hc hp ac ap h (by omega) (by omega)
  obtain ⟨i1, i2, i3, i4, i5⟩ := h
  refine ⟨fun h7 y hy => put_nrm B t off ho hc (i1 h7) y hy, fun _ _ => hacc, fun h2 h9 y => ?_,
    fun h => absurd h (by omega), fun h => absurd h (by omega)⟩
  by_cases hy : (y 0).val < 128 * (t.val % 8)
  · rw [if_pos (by omega), put_zero_below off _ ho ac y (fun hlt => by rw [i3 h2 h9 y, if_pos hlt]) (by omega)]
  · rw [put_zero off _ ho ac y hy, i3 h2 h9 y, if_neg hy]

theorem step_last (h9 : t.val / 8 = 9) :
    InvC B (t.val / 8) (t.val % 8 + 1) hc hp (VecWindow.put ac off S128x2048.size (pZero (F := F))) ap := by
  obtain ⟨i1, i2, i3, i4, i5⟩ := h
  refine ⟨fun h => absurd h (by omega), fun _ h => absurd h (by omega), fun h2 h9 y => ?_,
    fun h => absurd h (by omega), fun h => absurd h (by omega)⟩
  by_cases hy : (y 0).val < 128 * (t.val % 8)
  · rw [if_pos (by omega), put_zero_below off _ ho ac y (fun hlt => by rw [i3 h2 h9 y, if_pos hlt]) (by omega)]
  · rw [put_zero off _ ho ac y hy, i3 h2 h9 y, if_neg hy]

/-- The rows finished at a point are those of the finished accumulator. -/
theorem done_rows (h2 : 2 ≤ t.val / 8) : rows128 ac (t.val % 8) = rows128 (A B (t.val / 8 - 2) 8) (t.val % 8) := by
  obtain ⟨i1, i2, i3, i4, i5⟩ := h
  have ht := t.isLt.trans_eq hN
  funext y
  unfold rows128
  rw [i3 h2 (by omega), if_neg]
  have hy : (y 0).val < 128 := (y 0).isLt
  show ¬ (128 * (t.val % 8) + (y 0).val) % 1024 < 128 * (t.val % 8)
  omega

end Cert.Proof.Mlp

end
-- ==== Proof.Mlp.BodyEnds.lean ====
module

public import proofs.«01_k».proof.Proof.Gen.KernelIdeal.Frame
public import proofs.«01_k».proof.Proof.Gen.KernelIdeal.Skeleton
public import proofs.«01_k».proof.Proof.Mlp.Base

@[expose] public section

set_option maxRecDepth 16384
set_option maxHeartbeats 4000000

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (M2 : Memref sig .tc .vmem S1x128x2048 .f32) (h2 : M2.IsWhole)
  (M3 : Memref sig .tc .vmem S1x128x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S8x2048 .f32) (h6 : M6.IsWhole)
  (M7 : Memref sig .tc .vmem S2x2048 .f32) (h7 : M7.IsWhole)
  (M8 : Memref sig .tc .vmem S2x2048 .f32) (h8 : M8.IsWhole)
  (M9 : Memref sig .tc .vmem S2048x1024 .bf16) (h9 : M9.IsWhole)
  (M10 : Memref sig .tc .vmem S1024x2048 .bf16) (h10 : M10.IsWhole)
  (M11 : Memref sig .tc .vmem S1x128x2048 .f32) (h11 : M11.IsWhole)
  (M12 : Memref sig .tc .vmem S1x32x2048 .f32) (h12 : M12.IsWhole)
  (M13 : Memref sig .tc .vmem S1x128x2048 .f32) (h13 : M13.IsWhole)
  (M14 : Memref sig .tc .vmem S2048x128 .bf16) (h14 : M14.IsWhole)
  (M15 : Memref sig .tc .vmem S32x2048 .bf16) (h15 : M15.IsWhole)
  (M16 : Memref sig .tc .vmem S1024x2048 .bf16) (h16 : M16.IsWhole)
  (M17 : Memref sig .tc .vmem S1024x2048 .bf16) (h17 : M17.IsWhole)
  (M18 : Memref sig .tc .vmem S1024x2048 .f32) (h18 : M18.IsWhole)
  (M19 : Memref sig .tc .vmem S1024x2048 .f32) (h19 : M19.IsWhole)
  (X2 : Vec F S1x128x2048 .f32)  (X3 : Vec F S1x128x2048 .f32)
  (X4 : Vec F S8x2048 .f32)  (X5 : Vec F S8x2048 .f32)  (X6 : Vec F S8x2048 .f32)
  (X7 : Vec F S2x2048 .f32)  (X8 : Vec F S2x2048 .f32)  (X9 : Vec F S2048x1024 .bf16)
  (X10 : Vec F S1024x2048 .bf16)  (X11 : Vec F S1x128x2048 .f32)  (X12 : Vec F S1x32x2048 .f32)

variable (Y13 : Vec F S1x128x2048 .f32) (Y14 : Vec F S2048x128 .bf16) (Y15 : Vec F S32x2048 .bf16) (Y16 : Vec F S1024x2048 .bf16) (Y17 : Vec F S1024x2048 .bf16) (Y18 : Vec F S1024x2048 .f32) (Y19 : Vec F S1024x2048 .f32)

/-- The `first` branch of the body. -/
theorem body_first (hc : k0_cond1 i = 1#1) (n2 : ¬ k0_cond2 i = 1#1) (n3 : ¬ k0_cond3 i = 1#1) (n4 : ¬ k0_cond4 i = 1#1) (n5 : ¬ k0_cond5 i = 1#1)
    (E : Set ℕ) (K : PUnit → sProp 𝕄) :
    iprop(ins c M2 M3 M4 M5 M6 M7 M8 M9 M10 M11 M12 X2 X3 X4 X5 X6 X7 X8 X9 X10 X11 X12
        ∗ outs c M13 M14 M15 M16 M17 M18 M19 Y13 Y14 Y15 Y16 Y17 Y18 Y19
        ∗ (iprop(ins c M2 M3 M4 M5 M6 M7 M8 M9 M10 M11 M12 X2 X3 X4 X5 X6 X7 X8 X9 X10 X11 X12
        ∗ outs c M13 M14 M15 M16 M17 M18 M19 Y13 (pPack i X11) (pCast X12) (VecWindow.put Y16 (k0_off2 i) S128x2048.size (pNorm X2 (VecWindow.window X7 (![0, 0]) S1x2048.size (inb_S2x2048_S1x2048_0_0)) (VecWindow.window X5 (k0_off1 i) S1x2048.size (k0_off1_inb i hc)) (VecWindow.window X4 (k0_off1 i) S1x2048.size (k0_off1_inb i hc)))) Y17 (VecWindow.put Y18 (k0_off2 i) S128x2048.size (pZero (F := F))) (VecWindow.put Y19 (k0_off2 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15 M16 h16 M17 h17 M18 h18 M19 h19) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  sl_unfold [cc0_mlp]
  sl_open_parts
  sl_exec
  sl_step
  iapply Hk
  isplitl [H2 H3 H4 H5 H6 H7 H8 H9 H10 H11 H12]
  · isplitl [H2]
    · iexists _; isplitr; swap; · iexact H2
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H3]
    · iexists _; isplitr; swap; · iexact H3
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H4]
    · iexists _; isplitr; swap; · iexact H4
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H5]
    · iexists _; isplitr; swap; · iexact H5
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H6]
    · iexists _; isplitr; swap; · iexact H6
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H7]
    · iexists _; isplitr; swap; · iexact H7
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H8]
    · iexists _; isplitr; swap; · iexact H8
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H9]
    · iexists _; isplitr; swap; · iexact H9
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H10]
    · iexists _; isplitr; swap; · iexact H10
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H11]
    · iexists _; isplitr; swap; · iexact H11
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    iexists _; isplitr; swap; · iexact H12
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H13]
  · iexists _; isplitr; swap; · iexact H13
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H14]
  · iexists _; isplitr; swap; · iexact H14
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H15]
  · iexists _; isplitr; swap; · iexact H15
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H16]
  · iexists _; isplitr; swap; · iexact H16
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H17]
  · iexists _; isplitr; swap; · iexact H17
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H18]
  · iexists _; isplitr; swap; · iexact H18
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  iexists _; isplitr; swap; · iexact H19
  ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl

/-- The `second` branch of the body. -/
theorem body_second (n1 : ¬ k0_cond1 i = 1#1) (hc : k0_cond2 i = 1#1) (n3 : ¬ k0_cond3 i = 1#1) (n4 : ¬ k0_cond4 i = 1#1) (n5 : ¬ k0_cond5 i = 1#1)
    (E : Set ℕ) (K : PUnit → sProp 𝕄) :
    iprop(ins c M2 M3 M4 M5 M6 M7 M8 M9 M10 M11 M12 X2 X3 X4 X5 X6 X7 X8 X9 X10 X11 X12
        ∗ outs c M13 M14 M15 M16 M17 M18 M19 Y13 Y14 Y15 Y16 Y17 Y18 Y19
        ∗ (iprop(ins c M2 M3 M4 M5 M6 M7 M8 M9 M10 M11 M12 X2 X3 X4 X5 X6 X7 X8 X9 X10 X11 X12
        ∗ outs c M13 M14 M15 M16 M17 M18 M19 Y13 (pPack i X11) (pCast X12) Y16 (VecWindow.put Y17 (k0_off4 i) S128x2048.size (pNorm X2 (VecWindow.window X7 (![0, 0]) S1x2048.size (inb_S2x2048_S1x2048_0_0)) (VecWindow.window X5 (k0_off3 i) S1x2048.size (k0_off3_inb i hc)) (VecWindow.window X4 (k0_off3 i) S1x2048.size (k0_off3_inb i hc)))) (pStep Y16 X9 Y18 X10) Y19) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15 M16 h16 M17 h17 M18 h18 M19 h19) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  sl_unfold [cc0_mlp]
  sl_open_parts
  sl_exec
  sl_step
  iapply Hk
  isplitl [H2 H3 H4 H5 H6 H7 H8 H9 H10 H11 H12]
  · isplitl [H2]
    · iexists _; isplitr; swap; · iexact H2
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H3]
    · iexists _; isplitr; swap; · iexact H3
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H4]
    · iexists _; isplitr; swap; · iexact H4
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H5]
    · iexists _; isplitr; swap; · iexact H5
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H6]
    · iexists _; isplitr; swap; · iexact H6
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H7]
    · iexists _; isplitr; swap; · iexact H7
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H8]
    · iexists _; isplitr; swap; · iexact H8
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H9]
    · iexists _; isplitr; swap; · iexact H9
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H10]
    · iexists _; isplitr; swap; · iexact H10
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H11]
    · iexists _; isplitr; swap; · iexact H11
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    iexists _; isplitr; swap; · iexact H12
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H13]
  · iexists _; isplitr; swap; · iexact H13
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H14]
  · iexists _; isplitr; swap; · iexact H14
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H15]
  · iexists _; isplitr; swap; · iexact H15
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H16]
  · iexists _; isplitr; swap; · iexact H16
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H17]
  · iexists _; isplitr; swap; · iexact H17
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H18]
  · iexists _; isplitr; swap; · iexact H18
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  iexists _; isplitr; swap; · iexact H19
  ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl

/-- The `last` branch of the body. -/
theorem body_last (n1 : ¬ k0_cond1 i = 1#1) (n2 : ¬ k0_cond2 i = 1#1) (n3 : ¬ k0_cond3 i = 1#1) (n4 : ¬ k0_cond4 i = 1#1) (hc : k0_cond5 i = 1#1)
    (E : Set ℕ) (K : PUnit → sProp 𝕄) :
    iprop(ins c M2 M3 M4 M5 M6 M7 M8 M9 M10 M11 M12 X2 X3 X4 X5 X6 X7 X8 X9 X10 X11 X12
        ∗ outs c M13 M14 M15 M16 M17 M18 M19 Y13 Y14 Y15 Y16 Y17 Y18 Y19
        ∗ (iprop(ins c M2 M3 M4 M5 M6 M7 M8 M9 M10 M11 M12 X2 X3 X4 X5 X6 X7 X8 X9 X10 X11 X12
        ∗ outs c M13 M14 M15 M16 M17 M18 M19 (pOut X3 (VecWindow.window X6 (k0_off11 i) S1x2048.size (k0_off11_inb i hc)) (VecWindow.window Y19 (k0_off12 i) S128x2048.size (k0_off12_inb i hc)) (VecWindow.window X8 (![0, 0]) S1x2048.size (inb_S2x2048_S1x2048_0_0))) (pPack i X11) (pCast X12) Y16 Y17 Y18 (VecWindow.put Y19 (k0_off12 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15 M16 h16 M17 h17 M18 h18 M19 h19) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  sl_unfold [cc0_mlp]
  sl_open_parts
  sl_exec
  sl_step
  iapply Hk
  isplitl [H2 H3 H4 H5 H6 H7 H8 H9 H10 H11 H12]
  · isplitl [H2]
    · iexists _; isplitr; swap; · iexact H2
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H3]
    · iexists _; isplitr; swap; · iexact H3
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H4]
    · iexists _; isplitr; swap; · iexact H4
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H5]
    · iexists _; isplitr; swap; · iexact H5
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H6]
    · iexists _; isplitr; swap; · iexact H6
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H7]
    · iexists _; isplitr; swap; · iexact H7
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H8]
    · iexists _; isplitr; swap; · iexact H8
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H9]
    · iexists _; isplitr; swap; · iexact H9
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H10]
    · iexists _; isplitr; swap; · iexact H10
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H11]
    · iexists _; isplitr; swap; · iexact H11
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    iexists _; isplitr; swap; · iexact H12
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H13]
  · iexists _; isplitr; swap; · iexact H13
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H14]
  · iexists _; isplitr; swap; · iexact H14
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H15]
  · iexists _; isplitr; swap; · iexact H15
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H16]
  · iexists _; isplitr; swap; · iexact H16
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H17]
  · iexists _; isplitr; swap; · iexact H17
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H18]
  · iexists _; isplitr; swap; · iexact H18
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  iexists _; isplitr; swap; · iexact H19
  ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl

end

end Cert.Proof.Mlp

end
-- ==== Proof.Mlp.BodySteady.lean ====
module

public import proofs.«01_k».proof.Proof.Gen.KernelIdeal.Frame
public import proofs.«01_k».proof.Proof.Gen.KernelIdeal.Skeleton
public import proofs.«01_k».proof.Proof.Mlp.Base

@[expose] public section

set_option maxRecDepth 16384
set_option maxHeartbeats 4000000

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (M2 : Memref sig .tc .vmem S1x128x2048 .f32) (h2 : M2.IsWhole)
  (M3 : Memref sig .tc .vmem S1x128x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S8x2048 .f32) (h6 : M6.IsWhole)
  (M7 : Memref sig .tc .vmem S2x2048 .f32) (h7 : M7.IsWhole)
  (M8 : Memref sig .tc .vmem S2x2048 .f32) (h8 : M8.IsWhole)
  (M9 : Memref sig .tc .vmem S2048x1024 .bf16) (h9 : M9.IsWhole)
  (M10 : Memref sig .tc .vmem S1024x2048 .bf16) (h10 : M10.IsWhole)
  (M11 : Memref sig .tc .vmem S1x128x2048 .f32) (h11 : M11.IsWhole)
  (M12 : Memref sig .tc .vmem S1x32x2048 .f32) (h12 : M12.IsWhole)
  (M13 : Memref sig .tc .vmem S1x128x2048 .f32) (h13 : M13.IsWhole)
  (M14 : Memref sig .tc .vmem S2048x128 .bf16) (h14 : M14.IsWhole)
  (M15 : Memref sig .tc .vmem S32x2048 .bf16) (h15 : M15.IsWhole)
  (M16 : Memref sig .tc .vmem S1024x2048 .bf16) (h16 : M16.IsWhole)
  (M17 : Memref sig .tc .vmem S1024x2048 .bf16) (h17 : M17.IsWhole)
  (M18 : Memref sig .tc .vmem S1024x2048 .f32) (h18 : M18.IsWhole)
  (M19 : Memref sig .tc .vmem S1024x2048 .f32) (h19 : M19.IsWhole)
  (X2 : Vec F S1x128x2048 .f32)  (X3 : Vec F S1x128x2048 .f32)
  (X4 : Vec F S8x2048 .f32)  (X5 : Vec F S8x2048 .f32)  (X6 : Vec F S8x2048 .f32)
  (X7 : Vec F S2x2048 .f32)  (X8 : Vec F S2x2048 .f32)  (X9 : Vec F S2048x1024 .bf16)
  (X10 : Vec F S1024x2048 .bf16)  (X11 : Vec F S1x128x2048 .f32)  (X12 : Vec F S1x32x2048 .f32)

variable (Y13 : Vec F S1x128x2048 .f32) (Y14 : Vec F S2048x128 .bf16) (Y15 : Vec F S32x2048 .bf16) (Y16 : Vec F S1024x2048 .bf16) (Y17 : Vec F S1024x2048 .bf16) (Y18 : Vec F S1024x2048 .f32) (Y19 : Vec F S1024x2048 .f32)

/-- The `even` branch of the body. -/
theorem body_even (n1 : ¬ k0_cond1 i = 1#1) (n2 : ¬ k0_cond2 i = 1#1) (hc : k0_cond3 i = 1#1) (n4 : ¬ k0_cond4 i = 1#1) (n5 : ¬ k0_cond5 i = 1#1)
    (E : Set ℕ) (K : PUnit → sProp 𝕄) :
    iprop(ins c M2 M3 M4 M5 M6 M7 M8 M9 M10 M11 M12 X2 X3 X4 X5 X6 X7 X8 X9 X10 X11 X12
        ∗ outs c M13 M14 M15 M16 M17 M18 M19 Y13 Y14 Y15 Y16 Y17 Y18 Y19
        ∗ (iprop(ins c M2 M3 M4 M5 M6 M7 M8 M9 M10 M11 M12 X2 X3 X4 X5 X6 X7 X8 X9 X10 X11 X12
        ∗ outs c M13 M14 M15 M16 M17 M18 M19 (pOut X3 (VecWindow.window X6 (k0_off7 i) S1x2048.size (k0_off7_inb i hc)) (VecWindow.window Y18 (k0_off6 i) S128x2048.size (k0_off6_inb i hc)) (VecWindow.window X8 (![0, 0]) S1x2048.size (inb_S2x2048_S1x2048_0_0))) (pPack i X11) (pCast X12) (VecWindow.put Y16 (k0_off6 i) S128x2048.size (pNorm X2 (VecWindow.window X7 (![0, 0]) S1x2048.size (inb_S2x2048_S1x2048_0_0)) (VecWindow.window X5 (k0_off5 i) S1x2048.size (k0_off5_inb i hc)) (VecWindow.window X4 (k0_off5 i) S1x2048.size (k0_off5_inb i hc)))) Y17 (VecWindow.put Y18 (k0_off6 i) S128x2048.size (pZero (F := F))) (pStep Y17 X9 Y19 X10)) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15 M16 h16 M17 h17 M18 h18 M19 h19) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  sl_unfold [cc0_mlp]
  sl_open_parts
  sl_exec
  sl_step
  iapply Hk
  isplitl [H2 H3 H4 H5 H6 H7 H8 H9 H10 H11 H12]
  · isplitl [H2]
    · iexists _; isplitr; swap; · iexact H2
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H3]
    · iexists _; isplitr; swap; · iexact H3
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H4]
    · iexists _; isplitr; swap; · iexact H4
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H5]
    · iexists _; isplitr; swap; · iexact H5
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H6]
    · iexists _; isplitr; swap; · iexact H6
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H7]
    · iexists _; isplitr; swap; · iexact H7
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H8]
    · iexists _; isplitr; swap; · iexact H8
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H9]
    · iexists _; isplitr; swap; · iexact H9
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H10]
    · iexists _; isplitr; swap; · iexact H10
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H11]
    · iexists _; isplitr; swap; · iexact H11
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    iexists _; isplitr; swap; · iexact H12
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H13]
  · iexists _; isplitr; swap; · iexact H13
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H14]
  · iexists _; isplitr; swap; · iexact H14
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H15]
  · iexists _; isplitr; swap; · iexact H15
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H16]
  · iexists _; isplitr; swap; · iexact H16
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H17]
  · iexists _; isplitr; swap; · iexact H17
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H18]
  · iexists _; isplitr; swap; · iexact H18
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  iexists _; isplitr; swap; · iexact H19
  ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl

/-- The `odd` branch of the body. -/
theorem body_odd (n1 : ¬ k0_cond1 i = 1#1) (n2 : ¬ k0_cond2 i = 1#1) (n3 : ¬ k0_cond3 i = 1#1) (hc : k0_cond4 i = 1#1) (n5 : ¬ k0_cond5 i = 1#1)
    (E : Set ℕ) (K : PUnit → sProp 𝕄) :
    iprop(ins c M2 M3 M4 M5 M6 M7 M8 M9 M10 M11 M12 X2 X3 X4 X5 X6 X7 X8 X9 X10 X11 X12
        ∗ outs c M13 M14 M15 M16 M17 M18 M19 Y13 Y14 Y15 Y16 Y17 Y18 Y19
        ∗ (iprop(ins c M2 M3 M4 M5 M6 M7 M8 M9 M10 M11 M12 X2 X3 X4 X5 X6 X7 X8 X9 X10 X11 X12
        ∗ outs c M13 M14 M15 M16 M17 M18 M19 (pOut X3 (VecWindow.window X6 (k0_off10 i) S1x2048.size (k0_off10_inb i hc)) (VecWindow.window Y19 (k0_off9 i) S128x2048.size (k0_off9_inb i hc)) (VecWindow.window X8 (![0, 0]) S1x2048.size (inb_S2x2048_S1x2048_0_0))) (pPack i X11) (pCast X12) Y16 (VecWindow.put Y17 (k0_off9 i) S128x2048.size (pNorm X2 (VecWindow.window X7 (![0, 0]) S1x2048.size (inb_S2x2048_S1x2048_0_0)) (VecWindow.window X5 (k0_off8 i) S1x2048.size (k0_off8_inb i hc)) (VecWindow.window X4 (k0_off8 i) S1x2048.size (k0_off8_inb i hc)))) (pStep Y16 X9 Y18 X10) (VecWindow.put Y19 (k0_off9 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15 M16 h16 M17 h17 M18 h18 M19 h19) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  sl_unfold [cc0_mlp]
  sl_open_parts
  sl_exec
  sl_step
  iapply Hk
  isplitl [H2 H3 H4 H5 H6 H7 H8 H9 H10 H11 H12]
  · isplitl [H2]
    · iexists _; isplitr; swap; · iexact H2
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H3]
    · iexists _; isplitr; swap; · iexact H3
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H4]
    · iexists _; isplitr; swap; · iexact H4
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H5]
    · iexists _; isplitr; swap; · iexact H5
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H6]
    · iexists _; isplitr; swap; · iexact H6
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H7]
    · iexists _; isplitr; swap; · iexact H7
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H8]
    · iexists _; isplitr; swap; · iexact H8
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H9]
    · iexists _; isplitr; swap; · iexact H9
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H10]
    · iexists _; isplitr; swap; · iexact H10
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    isplitl [H11]
    · iexists _; isplitr; swap; · iexact H11
      ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
    iexists _; isplitr; swap; · iexact H12
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H13]
  · iexists _; isplitr; swap; · iexact H13
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H14]
  · iexists _; isplitr; swap; · iexact H14
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H15]
  · iexists _; isplitr; swap; · iexact H15
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H16]
  · iexists _; isplitr; swap; · iexact H16
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H17]
  · iexists _; isplitr; swap; · iexact H17
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  isplitl [H18]
  · iexists _; isplitr; swap; · iexact H18
    ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl
  iexists _; isplitr; swap; · iexact H19
  ipureintro; simp only [View.read_writes_full, View.readAt_full, readAt_window, read_put, putw_S1x128x2048, putw_S32x2048, putw_S1024x2048, putw_S2048x128, whole_S1x128x2048, whole_S1x32x2048, whole_S1024x2048, whole_S2048x1024, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread] <;> rfl

end

end Cert.Proof.Mlp

end
-- ==== Proof.Mlp.Run.lean ====
module

public import proofs.«01_k».proof.Proof.Mlp.Inv
public import proofs.«01_k».proof.Proof.Mlp.BodyEnds
public import proofs.«01_k».proof.Proof.Mlp.BodySteady
public import Idealize.ShloMosaic.Lib.Pipeline.Frame
public import Idealize.ShloMosaic.Lib.Pipeline.DatRel

@[expose] public section

set_option maxRecDepth 16384

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of core `c`. -/
def blk (c : Dev nD) : Blk F where
  x t := iblk m c 0 t
  xd t := iblk m c 1 t
  shift t := iblk m c 2 t
  scale t := iblk m c 3 t
  gate t := iblk m c 4 t
  gpre t := iblk m c 5 t
  gpost t := iblk m c 6 t
  wup t := iblk m c 7 t
  wdn t := iblk m c 8 t

/-- The block of rows of `w_in` packed at a point. -/
def packIn (c : Dev nD) (t : Fin cfg0.N) : Vec F S1x128x2048 .f32 := iblk m c 9 t
/-- The block of rows of `w_out` cast at a point. -/
def castIn (c : Dev nD) (t : Fin cfg0.N) : Vec F S1x32x2048 .f32 := iblk m c 10 t

/-! ## The proof data -/

/-- The scratch buffers between the points. -/
def scr (c : Dev nD) (t : ℕ) : sProp 𝕄 :=
  iprop(∃ h0 h1 a0 a1, ⌜Inv (blk m c) t h0 h1 a0 a1⌝ ∗ owns (c : Thread nD τ) (Memref.whole cc0_scratch0) fullShare h0
    ∗ owns (c : Thread nD τ) (Memref.whole cc0_scratch1) fullShare h1
    ∗ owns (c : Thread nD τ) (Memref.whole cc0_scratch2) fullShare a0
    ∗ owns (c : Thread nD τ) (Memref.whole cc0_scratch3) fullShare a1)

/-- The arrays as the region finds them; after the body each input's buffer at its block; between the points the scratch
    buffers at the invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outB (blk m c) t
    | ⟨12, _⟩ => pPack (grid0.coords t) (packIn m c t)
    | ⟨13, _⟩ => pCast (castIn m c t)
  Φ t := iprop(scr m c t.val ∗ ∃ r, prngReg c r)
  q w := Pipeline.shareOf spec0 w
  owed _ := 0

/-- The windows the body writes. -/
def fgt (w : Fin cfg0.W) : Bool := match w with
  | ⟨11, _⟩ => true
  | ⟨12, _⟩ => true
  | ⟨13, _⟩ => true
  | _ => false

/-- What the body leaves in the windows it writes: the result's rows from the third tile on, the packed columns and the cast
    rows at every point. -/
def Rl (c : Dev nD) (w : Fin cfg0.W) (t : Fin cfg0.N) (X : (cfg0.win w).block.Idx → Elt F (cfg0.win w).elt) : Prop :=
  match w with
  | ⟨11, _⟩ => 2 ≤ t.val / 8 → X = outB (blk m c) t
  | ⟨12, _⟩ => X = pPack (grid0.coords t) (packIn m c t)
  | ⟨13, _⟩ => X = pCast (castIn m c t)
  | _ => True

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = false := rfl
theorem fgt_10 : fgt 10 = false := rfl
theorem fgt_11 : fgt 11 = true := rfl
theorem fgt_12 : fgt 12 = true := rfl
theorem fgt_13 : fgt 13 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a point -/

set_option maxHeartbeats 2000000 in
/-- The body at a point, over the input blocks and any contents of the other buffers that meet the invariant. -/
theorem body_point (c : Dev nD) (t : Fin cfg0.N) (Y13 : Vec F S1x128x2048 .f32) (Y14 : Vec F S2048x128 .bf16) (Y15 : Vec F S32x2048 .bf16)
    (h0 h1 : Vec F S1024x2048 .bf16) (a0 a1 : Vec F S1024x2048 .f32) (hI : Inv (blk m c) t.val h0 h1 a0 a1) (K : PUnit → sProp 𝕄) :
    iprop(ins (F := F) c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
        ∗ outs (F := F) c (st0_11 t) (st0_12 t) (st0_13 t) (Memref.whole cc0_scratch0) (Memref.whole cc0_scratch1) (Memref.whole cc0_scratch2) (Memref.whole cc0_scratch3) Y13 Y14 Y15 h0 h1 a0 a1
        ∗ (∀ Z13 z0 z1 b0 b1, iprop(⌜(2 ≤ t.val / 8 → Z13 = outB (blk m c) t) ∧ Inv (blk m c) (t.val + 1) z0 z1 b0 b1⌝
            ∗ ins (F := F) c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
            ∗ outs (F := F) c (st0_11 t) (st0_12 t) (st0_13 t) (Memref.whole cc0_scratch0) (Memref.whole cc0_scratch1) (Memref.whole cc0_scratch2) (Memref.whole cc0_scratch3) Z13 (pPack (grid0.coords t) (packIn m c t)) (pCast (castIn m c t)) z0 z1 b0 b1) -∗ K ⟨⟩))
      ⊢ wp frame (wpE (defs₀ (F := F)) 𝒱₀ c none) Set.univ (bodyAt0 t) K := by
  have ht := t.isLt.trans_eq hN
  have e1 := cond1_iff t
  have e2 := cond2_iff t
  have e3 := cond3_iff t
  have e4 := cond4_iff t
  have e5 := cond5_iff t
  by_cases c1 : t.val / 8 = 0
  · have hb : k0_cond1 (grid0.coords t) = 1#1 := e1.mpr (by omega)
    unfold Inv at hI
    rw [if_pos (by omega)] at hI
    have en : pNorm (iblk m c 0 t) (VecWindow.window (iblk m c 5 t) (![0, 0]) S1x2048.size inb_S2x2048_S1x2048_0_0)
        (VecWindow.window (iblk m c 3 t) (k0_off1 (grid0.coords t)) S1x2048.size (k0_off1_inb (grid0.coords t) hb))
        (VecWindow.window (iblk m c 2 t) (k0_off1 (grid0.coords t)) S1x2048.size (k0_off1_inb (grid0.coords t) hb)) = nrm (blk m c) t := by
      rw [window_row8 (iblk m c 3 t) _ _ (off1_eq t), window_row8 (iblk m c 2 t) _ _ (off1_eq t), window_row2 (iblk m c 5 t)]
      rfl
    have hs := inv_succ_even (blk m c) t.val (by omega) _ _ _ _ (step_first (blk m c) t _ (off2_eq t) _ _ _ _ hI (by omega))
    refine BIBase.Entails.trans ?_ (body_first c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y13 Y14 Y15 h0 h1 a0 a1 hb (fun h => by have := e2.mp h; omega) (fun h => by have := e3.mp h; omega) (fun h => by have := e4.mp h; omega) (fun h => by have := e5.mp h; omega) Set.univ K)
    rw [en]
    iintro ⟨HI, HO, HK⟩
    isplitl [HI]; · iexact HI
    isplitl [HO]; · iexact HO
    iintro ⟨HI, HO⟩
    iapply HK
    isplitr
    · ipureintro
      exact ⟨(fun h => absurd h (by omega) : 2 ≤ t.val / 8 → Y13 = outB (blk m c) t), hs⟩
    isplitl [HI]; · iexact HI
    iexact HO
  by_cases c2 : t.val / 8 = 1
  · have hb : k0_cond2 (grid0.coords t) = 1#1 := e2.mpr (by omega)
    unfold Inv at hI
    rw [if_neg (by omega)] at hI
    have en : pNorm (iblk m c 0 t) (VecWindow.window (iblk m c 5 t) (![0, 0]) S1x2048.size inb_S2x2048_S1x2048_0_0)
        (VecWindow.window (iblk m c 3 t) (k0_off3 (grid0.coords t)) S1x2048.size (k0_off3_inb (grid0.coords t) hb))
        (VecWindow.window (iblk m c 2 t) (k0_off3 (grid0.coords t)) S1x2048.size (k0_off3_inb (grid0.coords t) hb)) = nrm (blk m c) t := by
      rw [window_row8 (iblk m c 3 t) _ _ (off3_eq t), window_row8 (iblk m c 2 t) _ _ (off3_eq t), window_row2 (iblk m c 5 t)]
      rfl
    have hs := inv_succ_odd (blk m c) t.val (by omega) _ _ _ _ (step_second (blk m c) t _ (off4_eq t) _ _ _ _ hI (by omega))
    refine BIBase.Entails.trans ?_ (body_second c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y13 Y14 Y15 h0 h1 a0 a1 (fun h => by have := e1.mp h; omega) hb (fun h => by have := e3.mp h; omega) (fun h => by have := e4.mp h; omega) (fun h => by have := e5.mp h; omega) Set.univ K)
    rw [en]
    iintro ⟨HI, HO, HK⟩
    isplitl [HI]; · iexact HI
    isplitl [HO]; · iexact HO
    iintro ⟨HI, HO⟩
    iapply HK
    isplitr
    · ipureintro
      exact ⟨(fun h => absurd h (by omega) : 2 ≤ t.val / 8 → Y13 = outB (blk m c) t), hs⟩
    isplitl [HI]; · iexact HI
    iexact HO
  by_cases c9 : t.val / 8 = 9
  · have hb : k0_cond5 (grid0.coords t) = 1#1 := e5.mpr (by omega)
    unfold Inv at hI
    rw [if_neg (by omega)] at hI
    have eo : pOut (iblk m c 1 t) (VecWindow.window (iblk m c 4 t) (k0_off11 (grid0.coords t)) S1x2048.size (k0_off11_inb (grid0.coords t) hb))
        (VecWindow.window a1 (k0_off12 (grid0.coords t)) S128x2048.size (k0_off12_inb (grid0.coords t) hb))
        (VecWindow.window (iblk m c 6 t) (![0, 0]) S1x2048.size inb_S2x2048_S1x2048_0_0) = outB (blk m c) t := by
      rw [window_row8 (iblk m c 4 t) _ _ (off11_eq t (by omega)), window_rows128 a1 _ _ (off12_eq t), window_row2 (iblk m c 6 t),
        done_rows (blk m c) t _ (off12_eq t) _ _ _ _ hI (by omega)]
      rfl
    have hs := inv_succ_odd (blk m c) t.val (by omega) _ _ _ _ (step_last (blk m c) t _ (off12_eq t) _ _ _ _ hI (by omega))
    refine BIBase.Entails.trans ?_ (body_last c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y13 Y14 Y15 h0 h1 a0 a1 (fun h => by have := e1.mp h; omega) (fun h => by have := e2.mp h; omega) (fun h => by have := e3.mp h; omega) (fun h => by have := e4.mp h; omega) hb Set.univ K)
    rw [eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO
  by_cases c3 : t.val / 8 % 2 = 0
  · have hb : k0_cond3 (grid0.coords t) = 1#1 := e3.mpr (by omega)
    unfold Inv at hI
    rw [if_pos (by omega)] at hI
    have en : pNorm (iblk m c 0 t) (VecWindow.window (iblk m c 5 t) (![0, 0]) S1x2048.size inb_S2x2048_S1x2048_0_0)
        (VecWindow.window (iblk m c 3 t) (k0_off5 (grid0.coords t)) S1x2048.size (k0_off5_inb (grid0.coords t) hb))
        (VecWindow.window (iblk m c 2 t) (k0_off5 (grid0.coords t)) S1x2048.size (k0_off5_inb (grid0.coords t) hb)) = nrm (blk m c) t := by
      rw [window_row8 (iblk m c 3 t) _ _ (off5_eq t), window_row8 (iblk m c 2 t) _ _ (off5_eq t), window_row2 (iblk m c 5 t)]
      rfl
    have eo : pOut (iblk m c 1 t) (VecWindow.window (iblk m c 4 t) (k0_off7 (grid0.coords t)) S1x2048.size (k0_off7_inb (grid0.coords t) hb))
        (VecWindow.window a0 (k0_off6 (grid0.coords t)) S128x2048.size (k0_off6_inb (grid0.coords t) hb))
        (VecWindow.window (iblk m c 6 t) (![0, 0]) S1x2048.size inb_S2x2048_S1x2048_0_0) = outB (blk m c) t := by
      rw [window_row8 (iblk m c 4 t) _ _ (off7_eq t (by omega)), window_rows128 a0 _ _ (off6_eq t), window_row2 (iblk m c 6 t),
        done_rows (blk m c) t _ (off6_eq t) _ _ _ _ hI (by omega)]
      rfl
    have hs := inv_succ_even (blk m c) t.val (by omega) _ _ _ _ (step_steady (blk m c) t _ (off6_eq t) _ _ _ _ hI (by omega) (by omega))
    refine BIBase.Entails.trans ?_ (body_even c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y13 Y14 Y15 h0 h1 a0 a1 (fun h => by have := e1.mp h; omega) (fun h => by have := e2.mp h; omega) hb (fun h => by have := e4.mp h; omega) (fun h => by have := e5.mp h; omega) Set.univ K)
    rw [en, eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO
  · have hb : k0_cond4 (grid0.coords t) = 1#1 := e4.mpr (by omega)
    unfold Inv at hI
    rw [if_neg (by omega)] at hI
    have en : pNorm (iblk m c 0 t) (VecWindow.window (iblk m c 5 t) (![0, 0]) S1x2048.size inb_S2x2048_S1x2048_0_0)
        (VecWindow.window (iblk m c 3 t) (k0_off8 (grid0.coords t)) S1x2048.size (k0_off8_inb (grid0.coords t) hb))
        (VecWindow.window (iblk m c 2 t) (k0_off8 (grid0.coords t)) S1x2048.size (k0_off8_inb (grid0.coords t) hb)) = nrm (blk m c) t := by
      rw [window_row8 (iblk m c 3 t) _ _ (off8_eq t), window_row8 (iblk m c 2 t) _ _ (off8_eq t), window_row2 (iblk m c 5 t)]
      rfl
    have eo : pOut (iblk m c 1 t) (VecWindow.window (iblk m c 4 t) (k0_off10 (grid0.coords t)) S1x2048.size (k0_off10_inb (grid0.coords t) hb))
        (VecWindow.window a1 (k0_off9 (grid0.coords t)) S128x2048.size (k0_off9_inb (grid0.coords t) hb))
        (VecWindow.window (iblk m c 6 t) (![0, 0]) S1x2048.size inb_S2x2048_S1x2048_0_0) = outB (blk m c) t := by
      rw [window_row8 (iblk m c 4 t) _ _ (off10_eq t (by omega)), window_rows128 a1 _ _ (off9_eq t), window_row2 (iblk m c 6 t),
        done_rows (blk m c) t _ (off9_eq t) _ _ _ _ hI (by omega)]
      rfl
    have hs := inv_succ_odd (blk m c) t.val (by omega) _ _ _ _ (step_steady (blk m c) t _ (off9_eq t) _ _ _ _ hI (by omega) (by omega))
    refine BIBase.Entails.trans ?_ (body_odd c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y13 Y14 Y15 h0 h1 a0 a1 (fun h => by have := e1.mp h; omega) (fun h => by have := e2.mp h; omega) (fun h => by have := e3.mp h; omega) hb (fun h => by have := e5.mp h; omega) Set.univ K)
    rw [en, eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO

theorem defs₀_row (t : Fin cfg0.N) : defs₀ (F := F) .tc cfg0.body (cfg0.bodyArgs t (cfg0.slots t)) = bodyAt0 t := by
  unfold defs₀; rw [Defs.onTc_tc]

/-- The data with the written windows held to what the body leaves there. -/
def rdats (c : Dev nD) : Pipeline.RDat τ (Elt F) Unit ℕ (UR sig nD τ) ℕ cfg0 c := (dats m 0 c).toRRel fgt (Rl m c)

theorem phi_in (c : Dev nD) : Pipeline.ΦA spec0 c ⊢ (rdats m c).Φ 0 := by
  rw [show (rdats m c).Φ 0 = iprop(scr m c 0 ∗ ∃ r, prngReg c r) from rfl]
  unfold Pipeline.ΦA scr
  rw [scopedRest0_eq]
  simp only [owns_whole]
  iintro ⟨⟨⟨%f0, S0⟩, ⟨%f1, S1⟩, ⟨%f2, S2⟩, ⟨%f3, S3⟩⟩, HP⟩
  isplitl [S0 S1 S2 S3]
  · iexists f0; iexists f1; iexists f2; iexists f3
    isplitr
    · ipureintro; exact inv_zero _ _ _ _ _
    isplitl [S0]; · iexact S0
    isplitl [S1]; · iexact S1
    isplitl [S2]; · iexact S2
    iexact S3
  iexact HP

theorem phi_out (c : Dev nD) : (rdats m c).Φ (Fin.last cfg0.N) ⊢ Pipeline.ΦA spec0 c := by
  rw [show (rdats m c).Φ (Fin.last cfg0.N) = iprop(scr m c cfg0.N ∗ ∃ r, prngReg c r) from rfl]
  unfold Pipeline.ΦA scr
  rw [scopedRest0_eq]
  simp only [owns_whole]
  iintro ⟨⟨%h0, %h1, %a0, %a1, -, S0, S1, S2, S3⟩, HP⟩
  isplitl [S0 S1 S2 S3]
  · isplitl [S0]; · iexists _; iexact S0
    isplitl [S1]; · iexists _; iexact S1
    isplitl [S2]; · iexists _; iexact S2
    iexists _; iexact S3
  iexact HP

theorem obligation (c : Dev nD) : Pipeline.BodyObligationRel (dats m 0 c) (defs₀ (F := F)) 𝒱₀ () Set.univ fgt (Rl m c) := fun t => by
  rw [bigSep_W0, bigSep_W0, defs₀_row]
  simp only [fgt_0, fgt_1, fgt_2, fgt_3, fgt_4, fgt_5, fgt_6, fgt_7, fgt_8, fgt_9, fgt_10, fgt_11, fgt_12, fgt_13, before0_0, before0_1, before0_2, before0_3, before0_4, before0_5, before0_6, before0_7, before0_8, before0_9, before0_10]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.castSucc = iprop(scr m c t.val ∗ ∃ r, prngReg c r) from rfl,
    show (dats m 0 c).Φ t.succ = iprop(scr m c (t.val + 1) ∗ ∃ r, prngReg c r) from rfl]
  unfold scr
  iintro ⟨⟨⟨%h0, %h1, %a0, %a1, %hI, S0, S1, S2, S3⟩, HP⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩⟩
  iapply (body_point m c t Y11 Y12 Y13 h0 h1 a0 a1 hI _)
  unfold ins outs
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 S0 S1 S2 S3]
  · isplitl [H11]; · iexact H11
    isplitl [H12]; · iexact H12
    isplitl [H13]; · iexact H13
    isplitl [S0]; · iexact S0
    isplitl [S1]; · iexact S1
    isplitl [S2]; · iexact S2
    iexact S3
  iintro %Z %z0 %z1 %b0 %b1 ⟨%hZ, ⟨H0, H1, H2, H3, H4, H5, H6, H7, H8, H9, H10⟩, ⟨H11, H12, H13, S0, S1, S2, S3⟩⟩
  isplitl [S0 S1 S2 S3 HP]
  · isplitl [S0 S1 S2 S3]
    · iexists z0; iexists z1; iexists b0; iexists b1
      isplitr
      · ipureintro; exact hZ.2
      isplitl [S0]; · iexact S0
      isplitl [S1]; · iexact S1
      isplitl [S2]; · iexact S2
      iexact S3
    iexact HP
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Z; isplitr
    · ipureintro; exact hZ.1
    iexact H11
  isplitl [H12]
  · iexists _; isplitr; swap
    · iexact H12
    ipureintro; exact rfl
  iexists _; isplitr; swap
  · iexact H13
  ipureintro; exact rfl

-- the launch theorem's implicit arguments are found by unifying its conclusion with this one
set_option backward.isDefEq.respectTransparency.types false in
/-- From any memory with zero counters every execution of the program ends, with each array at contents the data allow and
    every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track_shared (Q' := fun r => Pipeline.RDat.FramePost cfg0 (rdats m) (V m) r ∧ r.2.sem = fun _ => 0)
    cfgs (0 : Fin 1) launch₀0 defs₀ 𝒱₀ (rdats m) m ρ main
    (hbody := fun c => (obligation m c).toRRel) (hq := fun _ _ _ => rfl) (howed := fun _ _ => rfl)
    (V := V m) (hmain := hmain m 𝒱₀) (hA := fun _ _ => rfl) (hin := fun c => phi_in m c) (hout := fun c => phi_out m c) (hQ' := fun _ h => h)

end Cert.Proof.Mlp

end
-- ==== Proof.Mlp.Frames.lean ====
module

public import proofs.«01_k».proof.Defs
public import proofs.«01_k».proof.Proof.Gen.Kernel
public import proofs.«01_k».proof.Proof.Mlp.Run

@[expose] public section

set_option maxRecDepth 16384

noncomputable section

namespace Cert.Proof.Mlp

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are as they were. -/
theorem args_kept (r : PUnit × MemSt nD τ sig (Elt F)) (h : Pipeline.RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 1 rfl).trans (V_main_arg0 m c),
    ((h c).2 main_arg1 (Pipeline.mem_restRefs_of main_arg1 (by decide) (by decide))).trans (V_main_arg1 m c),
    (h.arr_in c 5 rfl).trans (V_main_arg2 m c),
    (h.arr_in c 6 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 10 rfl).trans (V_main_arg7 m c)⟩

/-- From any memory with zero counters the call ends with its arguments unchanged and its counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_kept m _ h.1 c, h.2⟩) (run_main m ρ)

/-- The frame claim of the idealized program. -/
theorem frame_kernelIdeal : Cert.quiescent_KernelIdeal := fun m ρ _ => run_frame (F := Ideal) m ρ

/-- The two programs' body tables are the same: each has the one label. -/
theorem defs₀_eq : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : Cert.Kernel.defs (F := Bits) = Cert.KernelIdeal.defs (F := Bits) :=
  congrArg (Pipeline.defs (Cert.KernelIdeal.pcfgs (F := Bits))) defs₀_eq

/-- The frame claim of the program: the two programs have the same text. -/
theorem frame_kernel : Cert.quiescent_Kernel := fun m ρ _ => by
  rw [defs_eq]
  exact run_frame (F := Bits) m ρ

end Cert.Proof.Mlp

end
-- ==== Proof.Mlp.Blocks.lean ====
module

public import proofs.«01_k».proof.Proof.Mlp.Run
public import Idealize.ShloMosaic.Lib.Pipeline.ValueKit

@[expose] public section

set_option maxRecDepth 16384

noncomputable section

namespace Cert.Proof.Mlp

open Cert.KernelIdeal Cert.KernelIdeal.Gen

open Idealize.ShloMosaic Idealize.ShloMosaic.TcCoe Idealize.SL.Sem

variable {F : FTy → Type} [FloatOps F] (m : (ℓ : Loc nD τ sig) → Buf (Elt F) ℓ) (c : Dev nD)

/-! ## Where the windows stand -/

/-- The first row of the packed block at a point. -/
def packRow (t : ℕ) : ℕ := if t < 24 then 128 * t else if t < 36 then 128 * t + 8 else 3072

theorem idx0 (t : Fin grid0.N) (h : t.val / 8 ≤ 7) : win0_0.index t 0 = t.val / 8 / 2 ∧ win0_0.index t 1 = t.val / 8 % 2 * 8 + t.val % 8 ∧ win0_0.index t 2 = 0 :=
  (by decide +kernel : ∀ t : Fin grid0.N, t.val / 8 ≤ 7 → win0_0.index t 0 = t.val / 8 / 2 ∧ win0_0.index t 1 = t.val / 8 % 2 * 8 + t.val % 8 ∧ win0_0.index t 2 = 0) t h
theorem idx1 (t : Fin grid0.N) (h : 2 ≤ t.val / 8) : win0_1.index t 0 = (t.val / 8 - 2) / 2 ∧ win0_1.index t 1 = (t.val / 8 - 2) % 2 * 8 + t.val % 8 ∧ win0_1.index t 2 = 0 :=
  (by decide +kernel : ∀ t : Fin grid0.N, 2 ≤ t.val / 8 → win0_1.index t 0 = (t.val / 8 - 2) / 2 ∧ win0_1.index t 1 = (t.val / 8 - 2) % 2 * 8 + t.val % 8 ∧ win0_1.index t 2 = 0) t h
theorem idx2 (t : Fin grid0.N) : win0_2.index t 0 = 0 ∧ win0_2.index t 1 = 1 :=
  (by decide +kernel : ∀ t : Fin grid0.N, win0_2.index t 0 = 0 ∧ win0_2.index t 1 = 1) t
theorem idx3 (t : Fin grid0.N) : win0_3.index t 0 = 0 ∧ win0_3.index t 1 = 2 :=
  (by decide +kernel : ∀ t : Fin grid0.N, win0_3.index t 0 = 0 ∧ win0_3.index t 1 = 2) t
theorem idx4 (t : Fin grid0.N) : win0_4.index t 0 = 0 ∧ win0_4.index t 1 = 3 :=
  (by decide +kernel : ∀ t : Fin grid0.N, win0_4.index t 0 = 0 ∧ win0_4.index t 1 = 3) t
theorem idx5 (t : Fin grid0.N) : win0_5.index t 0 = 0 ∧ win0_5.index t 1 = 0 :=
  (by decide +kernel : ∀ t : Fin grid0.N, win0_5.index t 0 = 0 ∧ win0_5.index t 1 = 0) t
theorem idx6 (t : Fin grid0.N) : win0_6.index t 0 = 0 ∧ win0_6.index t 1 = 0 :=
  (by decide +kernel : ∀ t : Fin grid0.N, win0_6.index t 0 = 0 ∧ win0_6.index t 1 = 0) t
theorem idx7 (t : Fin grid0.N) (h : 1 ≤ t.val / 8 ∧ t.val / 8 ≤ 8) : win0_7.index t 0 = 0 ∧ win0_7.index t 1 = t.val % 8 :=
  (by decide +kernel : ∀ t : Fin grid0.N, 1 ≤ t.val / 8 ∧ t.val / 8 ≤ 8 → win0_7.index t 0 = 0 ∧ win0_7.index t 1 = t.val % 8) t h
theorem idx8 (t : Fin grid0.N) (h : 1 ≤ t.val / 8 ∧ t.val / 8 ≤ 8) : win0_8.index t 0 = t.val % 8 ∧ win0_8.index t 1 = 0 :=
  (by decide +kernel : ∀ t : Fin grid0.N, 1 ≤ t.val / 8 ∧ t.val / 8 ≤ 8 → win0_8.index t 0 = t.val % 8 ∧ win0_8.index t 1 = 0) t h
theorem idx9 (t : Fin grid0.N) : win0_9.index t 0 = 1 ∧ win0_9.index t 1 = packRow t.val ∧ win0_9.index t 2 = 0 :=
  (by decide +kernel : ∀ t : Fin grid0.N, win0_9.index t 0 = 1 ∧ win0_9.index t 1 = packRow t.val ∧ win0_9.index t 2 = 0) t
theorem idx10 (t : Fin grid0.N) : win0_10.index t 0 = 1 ∧ win0_10.index t 1 = min t.val 63 ∧ win0_10.index t 2 = 0 :=
  (by decide +kernel : ∀ t : Fin grid0.N, win0_10.index t 0 = 1 ∧ win0_10.index t 1 = min t.val 63 ∧ win0_10.index t 2 = 0) t
theorem idx11 (t : Fin grid0.N) (h : 2 ≤ t.val / 8) : win0_11.index t 0 = (t.val / 8 - 2) / 2 ∧ win0_11.index t 1 = (t.val / 8 - 2) % 2 * 8 + t.val % 8 ∧ win0_11.index t 2 = 0 :=
  (by decide +kernel : ∀ t : Fin grid0.N, 2 ≤ t.val / 8 → win0_11.index t 0 = (t.val / 8 - 2) / 2 ∧ win0_11.index t 1 = (t.val / 8 - 2) % 2 * 8 + t.val % 8 ∧ win0_11.index t 2 = 0) t h
theorem idx12 (t : Fin grid0.N) : win0_12.index t 0 = 0 ∧ win0_12.index t 1 = min t.val 36 :=
  (by decide +kernel : ∀ t : Fin grid0.N, win0_12.index t 0 = 0 ∧ win0_12.index t 1 = min t.val 36) t
theorem idx13 (t : Fin grid0.N) : win0_13.index t 0 = min t.val 63 ∧ win0_13.index t 1 = 0 :=
  (by decide +kernel : ∀ t : Fin grid0.N, win0_13.index t 0 = min t.val 63 ∧ win0_13.index t 1 = 0) t

/-! ## The input blocks, at an index -/

theorem iblk0_at (t : Fin grid0.N) (h : t.val / 8 ≤ 7) (y0 : Fin 1) (y1 : Fin 128) (y2 : Fin 2048)
    (y0' : Fin 4) (y1' : Fin 2048) (y2' : Fin 2048)
    (e0 : y0'.val = (t.val / 8 / 2) * 1 + y0.val) (e1 : y1'.val = (t.val / 8 % 2 * 8 + t.val % 8) * 128 + y1.val) (e2 : y2'.val = (0) * 2048 + y2.val) :
    iblk m c 0 t (ix3 y0 y1 y2) = V m c main_arg0 (ix3 y0' y1' y2') := by
  have hi := idx0 t h
  unfold iblk
  rw [View.read_apply]
  show V m c main_arg0 _ = V m c main_arg0 _
  refine congrArg (V m c main_arg0) (funext fun a => Fin.ext ?_)
  match a with
  | ⟨0, _⟩ => show win0_0.index t 0 * 1 + 1 * y0.val = y0'.val; rw [hi.1]; omega
  | ⟨1, _⟩ => show win0_0.index t 1 * 128 + 1 * y1.val = y1'.val; rw [hi.2.1]; omega
  | ⟨2, _⟩ => show win0_0.index t 2 * 2048 + 1 * y2.val = y2'.val; rw [hi.2.2]; omega

theorem iblk1_at (t : Fin grid0.N) (h : 2 ≤ t.val / 8) (y0 : Fin 1) (y1 : Fin 128) (y2 : Fin 2048)
    (y0' : Fin 4) (y1' : Fin 2048) (y2' : Fin 2048)
    (e0 : y0'.val = ((t.val / 8 - 2) / 2) * 1 + y0.val) (e1 : y1'.val = ((t.val / 8 - 2) % 2 * 8 + t.val % 8) * 128 + y1.val) (e2 : y2'.val = (0) * 2048 + y2.val) :
    iblk m c 1 t (ix3 y0 y1 y2) = V m c main_arg0 (ix3 y0' y1' y2') := by
  have hi := idx1 t h
  unfold iblk
  rw [View.read_apply]
  show V m c main_arg0 _ = V m c main_arg0 _
  refine congrArg (V m c main_arg0) (funext fun a => Fin.ext ?_)
  match a with
  | ⟨0, _⟩ => show win0_1.index t 0 * 1 + 1 * y0.val = y0'.val; rw [hi.1]; omega
  | ⟨1, _⟩ => show win0_1.index t 1 * 128 + 1 * y1.val = y1'.val; rw [hi.2.1]; omega
  | ⟨2, _⟩ => show win0_1.index t 2 * 2048 + 1 * y2.val = y2'.val; rw [hi.2.2]; omega

theorem iblk2_at (t : Fin grid0.N) (y0 : Fin 8) (y1 : Fin 2048)
    (y0' : Fin 8) (y1' : Fin 8192)
    (e0 : y0'.val = (0) * 8 + y0.val) (e1 : y1'.val = (1) * 2048 + y1.val) :
    iblk m c 2 t (ix2 y0 y1) = V m c main_v1 (ix2 y0' y1') := by
  have hi := idx2 t
  unfold iblk
  rw [View.read_apply]
  show V m c main_v1 _ = V m c main_v1 _
  refine congrArg (V m c main_v1) (funext fun a => Fin.ext ?_)
  match a with
  | ⟨0, _⟩ => show win0_2.index t 0 * 8 + 1 * y0.val = y0'.val; rw [hi.1]; omega
  | ⟨1, _⟩ => show win0_2.index t 1 * 2048 + 1 * y1.val = y1'.val; rw [hi.2]; omega

theorem iblk3_at (t : Fin grid0.N) (y0 : Fin 8) (y1 : Fin 2048)
    (y0' : Fin 8) (y1' : Fin 8192)
    (e0 : y0'.val = (0) * 8 + y0.val) (e1 : y1'.val = (2) * 2048 + y1.val) :
    iblk m c 3 t (ix2 y0 y1) = V m c main_v1 (ix2 y0' y1') := by
  have hi := idx3 t
  unfold iblk
  rw [View.read_apply]
  show V m c main_v1 _ = V m c main_v1 _
  refine congrArg (V m c main_v1) (funext fun a => Fin.ext ?_)
  match a with
  | ⟨0, _⟩ => show win0_3.index t 0 * 8 + 1 * y0.val = y0'.val; rw [hi.1]; omega
  | ⟨1, _⟩ => show win0_3.index t 1 * 2048 + 1 * y1.val = y1'.val; rw [hi.2]; omega

theorem iblk4_at (t : Fin grid0.N) (y0 : Fin 8) (y1 : Fin 2048)
    (y0' : Fin 8) (y1' : Fin 8192)
    (e0 : y0'.val = (0) * 8 + y0.val) (e1 : y1'.val = (3) * 2048 + y1.val) :
    iblk m c 4 t (ix2 y0 y1) = V m c main_v1 (ix2 y0' y1') := by
  have hi := idx4 t
  unfold iblk
  rw [View.read_apply]
  show V m c main_v1 _ = V m c main_v1 _
  refine congrArg (V m c main_v1) (funext fun a => Fin.ext ?_)
  match a with
  | ⟨0, _⟩ => show win0_4.index t 0 * 8 + 1 * y0.val = y0'.val; rw [hi.1]; omega
  | ⟨1, _⟩ => show win0_4.index t 1 * 2048 + 1 * y1.val = y1'.val; rw [hi.2]; omega

theorem iblk5_at (t : Fin grid0.N) (y0 : Fin 2) (y1 : Fin 2048)
    (y0' : Fin 2) (y1' : Fin 2048)
    (e0 : y0'.val = (0) * 2 + y0.val) (e1 : y1'.val = (0) * 2048 + y1.val) :
    iblk m c 5 t (ix2 y0 y1) = V m c main_arg2 (ix2 y0' y1') := by
  have hi := idx5 t
  unfold iblk
  rw [View.read_apply]
  show V m c main_arg2 _ = V m c main_arg2 _
  refine congrArg (V m c main_arg2) (funext fun a => Fin.ext ?_)
  match a with
  | ⟨0, _⟩ => show win0_5.index t 0 * 2 + 1 * y0.val = y0'.val; rw [hi.1]; omega
  | ⟨1, _⟩ => show win0_5.index t 1 * 2048 + 1 * y1.val = y1'.val; rw [hi.2]; omega

theorem iblk6_at (t : Fin grid0.N) (y0 : Fin 2) (y1 : Fin 2048)
    (y0' : Fin 2) (y1' : Fin 2048)
    (e0 : y0'.val = (0) * 2 + y0.val) (e1 : y1'.val = (0) * 2048 + y1.val) :
    iblk m c 6 t (ix2 y0 y1) = V m c main_arg3 (ix2 y0' y1') := by
  have hi := idx6 t
  unfold iblk
  rw [View.read_apply]
  show V m c main_arg3 _ = V m c main_arg3 _
  refine congrArg (V m c main_arg3) (funext fun a => Fin.ext ?_)
  match a with
  | ⟨0, _⟩ => show win0_6.index t 0 * 2 + 1 * y0.val = y0'.val; rw [hi.1]; omega
  | ⟨1, _⟩ => show win0_6.index t 1 * 2048 + 1 * y1.val = y1'.val; rw [hi.2]; omega

theorem iblk7_at (t : Fin grid0.N) (h : 1 ≤ t.val / 8 ∧ t.val / 8 ≤ 8) (y0 : Fin 2048) (y1 : Fin 1024)
    (y0' : Fin 2048) (y1' : Fin 8192)
    (e0 : y0'.val = (0) * 2048 + y0.val) (e1 : y1'.val = (t.val % 8) * 1024 + y1.val) :
    iblk m c 7 t (ix2 y0 y1) = V m c main_v4 (ix2 y0' y1') := by
  have hi := idx7 t h
  unfold iblk
  rw [View.read_apply]
  show V m c main_v4 _ = V m c main_v4 _
  refine congrArg (V m c main_v4) (funext fun a => Fin.ext ?_)
  match a with
  | ⟨0, _⟩ => show win0_7.index t 0 * 2048 + 1 * y0.val = y0'.val; rw [hi.1]; omega
  | ⟨1, _⟩ => show win0_7.index t 1 * 1024 + 1 * y1.val = y1'.val; rw [hi.2]; omega

theorem iblk8_at (t : Fin grid0.N) (h : 1 ≤ t.val / 8 ∧ t.val / 8 ≤ 8) (y0 : Fin 1024) (y1 : Fin 2048)
    (y0' : Fin 8192) (y1' : Fin 2048)
    (e0 : y0'.val = (t.val % 8) * 1024 + y0.val) (e1 : y1'.val = (0) * 2048 + y1.val) :
    iblk m c 8 t (ix2 y0 y1) = V m c main_v7 (ix2 y0' y1') := by
  have hi := idx8 t h
  unfold iblk
  rw [View.read_apply]
  show V m c main_v7 _ = V m c main_v7 _
  refine congrArg (V m c main_v7) (funext fun a => Fin.ext ?_)
  match a with
  | ⟨0, _⟩ => show win0_8.index t 0 * 1024 + 1 * y0.val = y0'.val; rw [hi.1]; omega
  | ⟨1, _⟩ => show win0_8.index t 1 * 2048 + 1 * y1.val = y1'.val; rw [hi.2]; omega

theorem iblk10_at (t : Fin grid0.N) (y0 : Fin 1) (y1 : Fin 32) (y2 : Fin 2048)
    (y0' : Fin 2) (y1' : Fin 2048) (y2' : Fin 2048)
    (e0 : y0'.val = (1) * 1 + y0.val) (e1 : y1'.val = (min t.val 63) * 32 + y1.val) (e2 : y2'.val = (0) * 2048 + y2.val) :
    iblk m c 10 t (ix3 y0 y1 y2) = V m c main_arg7 (ix3 y0' y1' y2') := by
  have hi := idx10 t
  unfold iblk
  rw [View.read_apply]
  show V m c main_arg7 _ = V m c main_arg7 _
  refine congrArg (V m c main_arg7) (funext fun a => Fin.ext ?_)
  match a with
  | ⟨0, _⟩ => show win0_10.index t 0 * 1 + 1 * y0.val = y0'.val; rw [hi.1]; omega
  | ⟨1, _⟩ => show win0_10.index t 1 * 32 + 1 * y1.val = y1'.val; rw [hi.2.1]; omega
  | ⟨2, _⟩ => show win0_10.index t 2 * 2048 + 1 * y2.val = y2'.val; rw [hi.2.2]; omega

theorem iblk9_at (t : Fin grid0.N) (y0 : Fin 1) (y1 : Fin 128) (y2 : Fin 2048) (y1' : Fin 4616) (e1 : y1'.val = packRow t.val + y1.val) :
    iblk m c 9 t (ix3 y0 y1 y2) = V m c main_v8 (ix3 1 y1' y2) := by
  have hi := idx9 t
  unfold iblk
  rw [View.read_apply]
  show V m c main_v8 _ = V m c main_v8 _
  refine congrArg (V m c main_v8) (funext fun a => Fin.ext ?_)
  match a with
  | ⟨0, _⟩ => show win0_9.index t 0 + 1 * y0.val = 1; rw [hi.1]; omega
  | ⟨1, _⟩ => show win0_9.index t 1 + 1 * y1.val = y1'.val; rw [hi.2.1]; omega
  | ⟨2, _⟩ => show win0_9.index t 2 + 1 * y2.val = y2.val; rw [hi.2.2]; omega

end Cert.Proof.Mlp

end
-- ==== Proof.Mlp.Pay.lean ====
module

public import proofs.«01_k».proof.Proof.Mlp.Inv
public import Idealize.ShloMosaic.Lib.Pointwise

@[expose] public section

set_option maxRecDepth 16384

noncomputable section

namespace Cert.Proof.Mlp

open Cert.KernelIdeal Cert.KernelIdeal.Gen

open Idealize.ShloMosaic Idealize.ShloMosaic.TcCoe Idealize.SL.Sem

/-! ## What the payloads hold at an index, over the extended reals -/

/-- A row normed by its root mean square, at `d`, times `g`. -/
def rms (v : Fin 2048 → EReal) (g : EReal) (d : Fin 2048) : EReal :=
  v d * Ideal.rsqrt (Ideal.div (∑ k, v k * v k) (Ideal.ofBits .f32 0x45000000#32) + Ideal.ofBits .f32 0x358637BD#32) * g

theorem pNorm_at (x : Vec Ideal S1x128x2048 .f32) (g sc sh : Vec Ideal S1x2048 .f32) (r : Fin 128) (d : Fin 2048) :
    pNorm (F := Ideal) x g sc sh (ix2 r d) = rms (fun k => x (ix3 0 r k)) (g (ix2 0 d)) d * (1 + sc (ix2 0 d)) + sh (ix2 0 d) := by
  unfold pNorm k0_pay7 rms
  pointwise

/-- The square of what is positive. -/
def sqp (u : EReal) : EReal := max u 0 * max u 0

theorem pStep_at (h : Vec Ideal S1024x2048 .bf16) (wu : Vec Ideal S2048x1024 .bf16) (a : Vec Ideal S1024x2048 .f32) (wd : Vec Ideal S1024x2048 .bf16)
    (r : Fin 1024) (d : Fin 2048) :
    pStep (F := Ideal) h wu a wd (ix2 r d)
      = a (ix2 r d) + ∑ f : Fin 1024, sqp (∑ k : Fin 2048, h (ix2 r k) * wu (ix2 k f)) * wd (ix2 f d) := by
  unfold pStep k0_pay29 sqp
  pointwise

theorem pOut_at (x : Vec Ideal S1x128x2048 .f32) (gate : Vec Ideal S1x2048 .f32) (a : Vec Ideal S128x2048 .f32) (g : Vec Ideal S1x2048 .f32)
    (r : Fin 128) (d : Fin 2048) :
    pOut (F := Ideal) x gate a g (ix3 0 r d) = x (ix3 0 r d) + gate (ix2 0 d) * rms (fun k => a (ix2 r k)) (g (ix2 0 d)) d := by
  unfold pOut k0_pay17 rms
  pointwise

/-- Whether lane `l` of a packed block is kept: the last block keeps its first eight. -/
def keepBit (i : grid0.Coords) (l : ℕ) : BitVec 1 :=
  IntOp.ori (Scalar.cmpi CmpIPredicate.slt
      (Scalar.minsi (Scalar.addi (Scalar.muli (BitVec.ofNat 32 (i 0).val) 8#32) (BitVec.ofNat 32 (i 1).val)) 36#32) 36#32)
    (IntOp.cmpi CmpIPredicate.slt (BitVec.ofNat 32 l) 8#32)

theorem pPack_at (i : grid0.Coords) (x : Vec Ideal S1x128x2048 .f32) (r : Fin 2048) (l : Fin 128) :
    pPack (F := Ideal) i x (ix2 r l) = Scalar.select (keepBit i l.val) (x (ix3 0 l r)) (0 : EReal) := by
  unfold pPack k0_pay5 keepBit
  pointwise

theorem keepBit_eq (t : Fin grid0.N) (l : Fin 128) : keepBit (grid0.coords t) l.val = if t.val < 36 ∨ l.val < 8 then 1#1 else 0#1 :=
  (by decide +kernel : ∀ t : Fin grid0.N, ∀ l : Fin 128, keepBit (grid0.coords t) l.val = if t.val < 36 ∨ l.val < 8 then 1#1 else 0#1) t l

theorem pCast_at (x : Vec Ideal S1x32x2048 .f32) (r : Fin 32) (d : Fin 2048) :
    pCast (F := Ideal) x (ix2 r d) = x (ix3 0 r d) := by
  unfold pCast k0_pay6
  pointwise

theorem zf_eq : (zf : Ideal .f32) = (0 : EReal) := by
  unfold zf
  pointwise

end Cert.Proof.Mlp

end
-- ==== Proof.Mlp.Host.lean ====
module

public import proofs.«01_k».proof.Proof.Mlp.Run
public import proofs.«01_k».proof.Proof.Mlp.Pay
public import Idealize.ShloMosaic.Lib.Pointwise

@[expose] public section

set_option maxRecDepth 16384

noncomputable section

namespace Cert.Proof.Mlp

open Cert.KernelIdeal Cert.KernelIdeal.Gen

open Idealize.ShloMosaic Idealize.ShloMosaic.TcCoe Idealize.SL.Sem

/-! ## What the host operations before the call leave, at an index -/

variable (m : (ℓ : Loc nD τ sig) → Buf (Elt Ideal) ℓ) (c : Dev nD)

theorem V_v1 : V m c main_v1 = pad S8x8192 ![0, 0] ![4, 0] ![0, 0] (extractStridedSlice S4x8192 ![0, 4096] (m ((c.tc : Thread nD τ).loc main_arg1)) slices_S4x12288_S4x8192_0_4096)
    (sitofp (F := Ideal) .f32 (constantI S_ 32 0#32)) pads_S4x8192_S8x8192_040_000 h_S_ := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v4 : V m c main_v4 = truncf (F := Ideal) (φ := .f32) .bf16 (shapeCast S2048x8192 (extractStridedSlice S1x2048x8192 ![0, 0, 0] (m ((c.tc : Thread nD τ).loc main_arg4)) slices_S2x2048x8192_S1x2048x8192_0_0_0) shapeCasts_S1x2048x8192_S2048x8192) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v7 : V m c main_v7 = truncf (F := Ideal) (φ := .f32) .bf16 (shapeCast S8192x2048 (extractStridedSlice S1x8192x2048 ![0, 0, 0] (m ((c.tc : Thread nD τ).loc main_arg5)) slices_S2x8192x2048_S1x8192x2048_0_0_0) shapeCasts_S1x8192x2048_S8192x2048) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v8 : V m c main_v8 = transpose S2x4616x2048 [0, 2, 1] (m ((c.tc : Thread nD τ).loc main_arg6)) transposes_S2x2048x4616_S2x4616x2048_0_2_1 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v1_at (b : Fin 8) (hb : b.val < 4) (k : Fin 8192) :
    V m c main_v1 (ix2 b k) = m ((c.tc : Thread nD τ).loc main_arg1) (ix2 (n0 := 4) (n1 := 12288) ⟨b.val, hb⟩ ⟨4096 + k.val, by omega⟩) := by
  rw [V_v1]
  generalize m ((c.tc : Thread nD τ).loc main_arg1) = x
  pointwise
  rw [dif_pos hb]

theorem V_v4_at (r : Fin 2048) (k : Fin 8192) :
    V m c main_v4 (ix2 r k) = m ((c.tc : Thread nD τ).loc main_arg4) (ix3 0 r k) := by
  rw [V_v4]
  generalize m ((c.tc : Thread nD τ).loc main_arg4) = x
  pointwise

theorem V_v7_at (r : Fin 8192) (k : Fin 2048) :
    V m c main_v7 (ix2 r k) = m ((c.tc : Thread nD τ).loc main_arg5) (ix3 0 r k) := by
  rw [V_v7]
  generalize m ((c.tc : Thread nD τ).loc main_arg5) = x
  pointwise

theorem V_v8_at (l : Fin 2) (r : Fin 4616) (k : Fin 2048) :
    V m c main_v8 (ix3 l r k) = m ((c.tc : Thread nD τ).loc main_arg6) (ix3 l k r) := by
  rw [V_v8]
  generalize m ((c.tc : Thread nD τ).loc main_arg6) = x
  pointwise

end Cert.Proof.Mlp

end
-- ==== Proof.Mlp.Ref.lean ====
module

public import proofs.«01_k».proof.Proof.Mlp.Pay
public import proofs.«01_k».proof.Proof.Gen.ReferenceIdeal.Run
public import Idealize.ShloMosaic.Lib.Pointwise

@[expose] public section

set_option maxRecDepth 16384

noncomputable section

namespace Cert.Proof.Mlp

open Cert.ReferenceIdeal Cert.ReferenceIdeal.Gen Cert.ReferenceIdeal.Value

open Idealize.ShloMosaic Idealize.ShloMosaic.TcCoe Idealize.SL.Sem

/-! ## What the reference computes, at an index; `l` is the layer -/

variable (x : Vec Ideal S4x2048x2048 .f32) (mod : Vec Ideal S4x12288 .f32) (gpre gpost : Vec Ideal S2x2048 .f32)
  (wup : Vec Ideal S2x2048x8192 .f32) (wdn : Vec Ideal S2x8192x2048 .f32) (l : Fin 2) (win : Vec Ideal S2x2048x4616 .f32) (wout : Vec Ideal S2x2048x2048 .f32)

/-- The MLP's input: the row normed, scaled and shifted. -/
def hid (b : Fin 4) (s d : Fin 2048) : EReal :=
  rms (fun k => x (ix3 b s k)) (gpre (ix2 l d)) d * (1 + mod (ix2 b ⟨8192 + d.val, by omega⟩)) + mod (ix2 b ⟨6144 + d.val, by omega⟩)

/-- The MLP's hidden value. -/
def act (b : Fin 4) (s : Fin 2048) (f : Fin 8192) : EReal := sqp (∑ k : Fin 2048, hid x mod gpre l b s k * wup (ix3 l k f))

/-- The MLP's output. -/
def mlp (b : Fin 4) (s d : Fin 2048) : EReal := ∑ f : Fin 8192, act x mod gpre wup l b s f * wdn (ix3 l f d)

/-- The rows the call leaves. -/
def res (b : Fin 4) (s d : Fin 2048) : EReal :=
  x (ix3 b s d) + mod (ix2 b ⟨10240 + d.val, by omega⟩) * rms (fun k => mlp x mod gpre wup wdn l b s k) (gpost (ix2 l d)) d

variable (m : (ℓ : Loc nD τ sig) → Buf (Elt Ideal) ℓ) (c : Dev nD)

theorem ref0_at (b : Fin 4) (s d : Fin 2048) :
    res_main_v65 (F := Ideal) m c (ix3 b s d)
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) 0 b s d := by
  unfold res_main_v65 res mlp act hid rms sqp
  generalize m ((c.tc : Thread nD τ).loc main_arg0) = x
  generalize m ((c.tc : Thread nD τ).loc main_arg1) = mod
  generalize m ((c.tc : Thread nD τ).loc main_arg2) = gpre
  generalize m ((c.tc : Thread nD τ).loc main_arg3) = gpost
  generalize m ((c.tc : Thread nD τ).loc main_arg4) = wup
  generalize m ((c.tc : Thread nD τ).loc main_arg5) = wdn
  pointwise

/-- The packed projection's columns. -/
def packed (r : Fin 2048) (k : Fin 4736) : EReal :=
  if k.val < 3072 then win (ix3 1 r ⟨k.val % 4616, Nat.mod_lt _ (by decide)⟩)
  else if k.val < 4608 then win (ix3 1 r ⟨(k.val + 8) % 4616, Nat.mod_lt _ (by decide)⟩)
  else if k.val < 4616 then win (ix3 1 r ⟨(k.val - 1536) % 4616, Nat.mod_lt _ (by decide)⟩)
  else 0

/-- The reference's second result, of the projection's weights. -/
def refPack : FVec Ideal S2048x4736 .bf16 :=
  truncf (F := Ideal) (φ := .f32) .bf16 ((concatenate S2048x4736 1 [⟨S2048x512, ((extractStridedSlice S2048x512 ![0, 0] (shapeCast S2048x4616 (extractStridedSlice S1x2048x4616 ![1, 0, 0] win slices_S2x2048x4616_S1x2048x4616_1_0_0) shapeCasts_S1x2048x4616_S2048x4616) slices_S2048x4616_S2048x512_0_0) : (⟨S2048x512, .f32⟩ : BufTy).Contents (Elt Ideal))⟩, ⟨S2048x512, ((extractStridedSlice S2048x512 ![0, 512] (shapeCast S2048x4616 (extractStridedSlice S1x2048x4616 ![1, 0, 0] win slices_S2x2048x4616_S1x2048x4616_1_0_0) shapeCasts_S1x2048x4616_S2048x4616) slices_S2048x4616_S2048x512_0_512) : (⟨S2048x512, .f32⟩ : BufTy).Contents (Elt Ideal))⟩, ⟨S2048x1024, ((extractStridedSlice S2048x1024 ![0, 1024] (shapeCast S2048x4616 (extractStridedSlice S1x2048x4616 ![1, 0, 0] win slices_S2x2048x4616_S1x2048x4616_1_0_0) shapeCasts_S1x2048x4616_S2048x4616) slices_S2048x4616_S2048x1024_0_1024) : (⟨S2048x1024, .f32⟩ : BufTy).Contents (Elt Ideal))⟩, ⟨S2048x1024, ((extractStridedSlice S2048x1024 ![0, 2048] (shapeCast S2048x4616 (extractStridedSlice S1x2048x4616 ![1, 0, 0] win slices_S2x2048x4616_S1x2048x4616_1_0_0) shapeCasts_S1x2048x4616_S2048x4616) slices_S2048x4616_S2048x1024_0_2048) : (⟨S2048x1024, .f32⟩ : BufTy).Contents (Elt Ideal))⟩, ⟨S2048x1536, ((extractStridedSlice S2048x1536 ![0, 3080] (shapeCast S2048x4616 (extractStridedSlice S1x2048x4616 ![1, 0, 0] win slices_S2x2048x4616_S1x2048x4616_1_0_0) shapeCasts_S1x2048x4616_S2048x4616) slices_S2048x4616_S2048x1536_0_3080) : (⟨S2048x1536, .f32⟩ : BufTy).Contents (Elt Ideal))⟩, ⟨S2048x8, ((extractStridedSlice S2048x8 ![0, 3072] (shapeCast S2048x4616 (extractStridedSlice S1x2048x4616 ![1, 0, 0] win slices_S2x2048x4616_S1x2048x4616_1_0_0) shapeCasts_S1x2048x4616_S2048x4616) slices_S2048x4616_S2048x8_0_3072) : (⟨S2048x8, .f32⟩ : BufTy).Contents (Elt Ideal))⟩, ⟨S2048x120, ((broadcastInDim S2048x120 ![] bcast_S_S2048x120 (constant (F := Ideal) S_ .f32 0x00000000#32)) : (⟨S2048x120, .f32⟩ : BufTy).Contents (Elt Ideal))⟩] concatenates_S2048x512_S2048x512_S2048x1024_S2048x1024_S2048x1536_S2048x8_S2048x120_S2048x4736_d1 : (⟨S2048x4736, .f32⟩ : BufTy).Contents (Elt Ideal))) bitsLt_bf16_f32

/-- The reference's third result. -/
def refCast : FVec Ideal S2048x2048 .bf16 :=
  truncf (F := Ideal) (φ := .f32) .bf16 (shapeCast S2048x2048 (extractStridedSlice S1x2048x2048 ![1, 0, 0] wout slices_S2x2048x2048_S1x2048x2048_1_0_0) shapeCasts_S1x2048x2048_S2048x2048) bitsLt_bf16_f32

theorem refCast_at (r d : Fin 2048) : refCast wout (ix2 r d) = wout (ix3 1 r d) := by
  unfold refCast
  pointwise

theorem pack_ifs (g : ∀ a : ℕ, a < 4616 → EReal) (k : ℕ) (hk : k < 4736) :
    (if h : k < 512 then g k (by omega)
      else if h : k - 512 < 512 then g (512 + (k - 512)) (by omega)
      else if h : k - 512 - 512 < 1024 then g (1024 + (k - 512 - 512)) (by omega)
      else if h : k - 512 - 512 - 1024 < 1024 then g (2048 + (k - 512 - 512 - 1024)) (by omega)
      else if h : k - 512 - 512 - 1024 - 1024 < 1536 then g (3080 + (k - 512 - 512 - 1024 - 1024)) (by omega)
      else if h : k - 512 - 512 - 1024 - 1024 - 1536 < 8 then g (3072 + (k - 512 - 512 - 1024 - 1024 - 1536)) (by omega)
      else 0)
    = if k < 3072 then g (k % 4616) (Nat.mod_lt _ (by decide))
      else if k < 4608 then g ((k + 8) % 4616) (Nat.mod_lt _ (by decide))
      else if k < 4616 then g ((k - 1536) % 4616) (Nat.mod_lt _ (by decide))
      else 0 := by
  have e : ∀ (a b : ℕ) (ha : a < 4616) (hb : b < 4616), a = b → g a ha = g b hb := by
    intro a b _ _ h; subst h; rfl
  rcases Nat.lt_or_ge k 3072 with h0 | h0
  · rw [if_pos h0]
    split_ifs
    · exact e _ _ _ _ (by omega)
    · exact e _ _ _ _ (by omega)
    · exact e _ _ _ _ (by omega)
    · exact e _ _ _ _ (by omega)
    all_goals omega
  · rw [dif_neg (by omega), dif_neg (by omega), dif_neg (by omega), dif_neg (by omega), if_neg (by omega)]
    rcases Nat.lt_or_ge k 4608 with h1 | h1
    · rw [dif_pos (by omega), if_pos h1]
      exact e _ _ _ _ (by omega)
    · rw [dif_neg (by omega), if_neg (by omega)]
      rcases Nat.lt_or_ge k 4616 with h2 | h2
      · rw [dif_pos (by omega), if_pos h2]
        exact e _ _ _ _ (by omega)
      · rw [dif_neg (by omega), if_neg (by omega)]

theorem refPack_at (r : Fin 2048) (k : Fin 4736) : refPack win (ix2 r k) = packed win r k := by
  unfold refPack packed
  pointwise
  exact pack_ifs (fun a ha => win (ix3 1 r ⟨a, ha⟩)) k.val k.isLt

end Cert.Proof.Mlp

end
-- ==== Proof.Mlp.Core.lean ====
module

public import proofs.«01_k».proof.Proof.Mlp.Inv
public import proofs.«01_k».proof.Proof.Mlp.Ref
public import Idealize.ShloMosaic.Lib.Pipeline.ValueKit

@[expose] public section

set_option maxRecDepth 16384

noncomputable section

namespace Cert.Proof.Mlp

open Cert.KernelIdeal Cert.KernelIdeal.Gen

open Idealize.ShloMosaic Idealize.ShloMosaic.TcCoe Idealize.SL.Sem

/-! ## What the call leaves, of what its blocks hold -/

theorem pt_val (q j : ℕ) (h : 8 * q + j ≤ 79) : (pt q j).val = 8 * q + j := Nat.min_eq_left h

/-- The blocks `B` hold the rows of `x` and layer `l`'s modulation and weights. -/
structure Reads (B : Blk Ideal) (x : Vec Ideal S4x2048x2048 .f32) (mod : Vec Ideal S4x12288 .f32) (gpre gpost : Vec Ideal S2x2048 .f32)
    (wup : Vec Ideal S2x2048x8192 .f32) (wdn : Vec Ideal S2x8192x2048 .f32) (l : Fin 2) : Prop where
  h_x : ∀ t : Fin grid0.N, t.val / 8 ≤ 7 → ∀ (r : Fin 128) (k : Fin 2048) (b : Fin 4) (s : Fin 2048), b.val = t.val / 8 / 2 →
    s.val = (t.val / 8 % 2 * 8 + t.val % 8) * 128 + r.val → B.x t (ix3 0 r k) = x (ix3 b s k)
  h_xd : ∀ t : Fin grid0.N, 2 ≤ t.val / 8 → ∀ (r : Fin 128) (k : Fin 2048) (b : Fin 4) (s : Fin 2048), b.val = (t.val / 8 - 2) / 2 →
    s.val = ((t.val / 8 - 2) % 2 * 8 + t.val % 8) * 128 + r.val → B.xd t (ix3 0 r k) = x (ix3 b s k)
  h_shift : ∀ (t : Fin grid0.N) (q : ℕ) (b : Fin 4), b.val = q → ∀ d : Fin 2048, row8 (B.shift t) q (ix2 0 d) = mod (ix2 b ⟨6144 + d.val, by omega⟩)
  h_scale : ∀ (t : Fin grid0.N) (q : ℕ) (b : Fin 4), b.val = q → ∀ d : Fin 2048, row8 (B.scale t) q (ix2 0 d) = mod (ix2 b ⟨8192 + d.val, by omega⟩)
  h_gate : ∀ (t : Fin grid0.N) (q : ℕ) (b : Fin 4), b.val = q → ∀ d : Fin 2048, row8 (B.gate t) q (ix2 0 d) = mod (ix2 b ⟨10240 + d.val, by omega⟩)
  h_gpre : ∀ (t : Fin grid0.N) (d : Fin 2048), row2 (B.gpre t) (ix2 0 d) = gpre (ix2 l d)
  h_gpost : ∀ (t : Fin grid0.N) (d : Fin 2048), row2 (B.gpost t) (ix2 0 d) = gpost (ix2 l d)
  h_wup : ∀ t : Fin grid0.N, 1 ≤ t.val / 8 ∧ t.val / 8 ≤ 8 → ∀ (k : Fin 2048) (f : Fin 1024) (f' : Fin 8192), f'.val = t.val % 8 * 1024 + f.val →
    B.wup t (ix2 k f) = wup (ix3 l k f')
  h_wdn : ∀ t : Fin grid0.N, 1 ≤ t.val / 8 ∧ t.val / 8 ≤ 8 → ∀ (f : Fin 1024) (d : Fin 2048) (f' : Fin 8192), f'.val = t.val % 8 * 1024 + f.val →
    B.wdn t (ix2 f d) = wdn (ix3 l f' d)

variable {B : Blk Ideal} {x : Vec Ideal S4x2048x2048 .f32} {mod : Vec Ideal S4x12288 .f32} {gpre gpost : Vec Ideal S2x2048 .f32}
  {wup : Vec Ideal S2x2048x8192 .f32} {wdn : Vec Ideal S2x8192x2048 .f32} {l : Fin 2} (hB : Reads B x mod gpre gpost wup wdn l)

include hB

/-- The hidden tile's rows. -/
theorem H_at (q : ℕ) (hq : q ≤ 7) (r : Fin 1024) (d : Fin 2048) (b : Fin 4) (s : Fin 2048) (hb : b.val = q / 2) (hs : s.val = q % 2 * 1024 + r.val) :
    H B q (ix2 r d) = hid x mod gpre l b s d := by
  have hv := pt_val q (r.val / 128) (by omega)
  have hm : min ((pt q (r.val / 128)).val / 8) 7 / 2 = b.val := by omega
  show pNorm (B.x (pt q (r.val / 128))) (row2 (B.gpre (pt q (r.val / 128)))) (row8 (B.scale (pt q (r.val / 128))) (min ((pt q (r.val / 128)).val / 8) 7 / 2))
    (row8 (B.shift (pt q (r.val / 128))) (min ((pt q (r.val / 128)).val / 8) 7 / 2)) (ix2 ⟨r.val % 128, Nat.mod_lt _ (by decide)⟩ d) = _
  have hx : ∀ k : Fin 2048, B.x (pt q (r.val / 128)) (ix3 0 ⟨r.val % 128, Nat.mod_lt _ (by decide)⟩ k) = x (ix3 b s k) := fun k =>
    hB.h_x _ (by omega) ⟨r.val % 128, Nat.mod_lt _ (by decide)⟩ k b s (by omega) (by show s.val = _ * 128 + r.val % 128; omega)
  rw [pNorm_at, hB.h_gpre, hB.h_scale _ _ b hm.symm, hB.h_shift _ _ b hm.symm]
  unfold hid
  rw [funext hx]

/-- One block of the contraction over the hidden axis. -/
theorem step_at (q i : ℕ) (hq : q ≤ 7) (hi : i < 8) (a : Vec Ideal S1024x2048 .f32) (r : Fin 1024) (d : Fin 2048) (b : Fin 4) (s : Fin 2048)
    (hb : b.val = q / 2) (hs : s.val = q % 2 * 1024 + r.val) :
    pStep (F := Ideal) (H B q) (B.wup (pt (q + 1) i)) a (B.wdn (pt (q + 1) i)) (ix2 r d)
      = a (ix2 r d) + ∑ f : Fin 1024, act x mod gpre wup l b s ⟨i * 1024 + f.val, by omega⟩ * wdn (ix3 l ⟨i * 1024 + f.val, by omega⟩ d) := by
  have hv := pt_val (q + 1) i (by omega)
  rw [pStep_at]
  refine congrArg (a (ix2 r d) + ·) (Finset.sum_congr rfl fun f _ => ?_)
  have hu : ∀ k : Fin 2048, B.wup (pt (q + 1) i) (ix2 k f) = wup (ix3 l k ⟨i * 1024 + f.val, by omega⟩) := fun k =>
    hB.h_wup _ (by omega) k f _ (by show i * 1024 + f.val = _ * 1024 + f.val; omega)
  have hd : B.wdn (pt (q + 1) i) (ix2 f d) = wdn (ix3 l ⟨i * 1024 + f.val, by omega⟩ d) :=
    hB.h_wdn _ (by omega) f d _ (by show i * 1024 + f.val = _ * 1024 + f.val; omega)
  rw [hd]
  unfold act
  refine congrArg (fun u => sqp u * _) (Finset.sum_congr rfl fun k _ => ?_)
  rw [hu, H_at hB q hq r k b s hb hs]

/-- The accumulator after `n` blocks. -/
theorem A_at (q : ℕ) (hq : q ≤ 7) (n : ℕ) (hn : n ≤ 8) (r : Fin 1024) (d : Fin 2048) (b : Fin 4) (s : Fin 2048)
    (hb : b.val = q / 2) (hs : s.val = q % 2 * 1024 + r.val) :
    A B q n (ix2 r d)
      = ∑ i : Fin n, ∑ f : Fin 1024, act x mod gpre wup l b s ⟨i.val * 1024 + f.val, by omega⟩ * wdn (ix3 l ⟨i.val * 1024 + f.val, by omega⟩ d) := by
  induction n with
  | zero => rw [Fin.sum_univ_zero]; exact zf_eq
  | succ n ih =>
    rw [Fin.sum_univ_castSucc]
    show pStep (F := Ideal) (H B q) (B.wup (pt (q + 1) n)) (A B q n) (B.wdn (pt (q + 1) n)) (ix2 r d) = _
    rw [step_at hB q n hq (by omega) _ r d b s hb hs, ih (by omega)]
    rfl

theorem A_mlp (q : ℕ) (hq : q ≤ 7) (r : Fin 1024) (d : Fin 2048) (b : Fin 4) (s : Fin 2048) (hb : b.val = q / 2) (hs : s.val = q % 2 * 1024 + r.val) :
    A B q 8 (ix2 r d) = mlp x mod gpre wup wdn l b s d := by
  rw [A_at hB q hq 8 (by omega) r d b s hb hs]
  exact Fin.sum_mul_add_fin 8 1024 (fun f : Fin 8192 => act x mod gpre wup l b s f * wdn (ix3 l f d))

/-- The rows written at a point. -/
theorem outB_at (t : Fin grid0.N) (ht : 2 ≤ t.val / 8) (r : Fin 128) (d : Fin 2048) (b : Fin 4) (s : Fin 2048)
    (hb : b.val = (t.val / 8 - 2) / 2) (hs : s.val = ((t.val / 8 - 2) % 2 * 8 + t.val % 8) * 128 + r.val) :
    outB B t (ix3 0 r d) = res x mod gpre gpost wup wdn l b s d := by
  have htN := t.isLt.trans_eq hN
  unfold outB
  rw [pOut_at, hB.h_gate t _ b hb, hB.h_gpost]
  have hx : B.xd t (ix3 0 r d) = x (ix3 b s d) := hB.h_xd t ht r d b s hb hs
  have ha : ∀ k : Fin 2048, rows128 (A B (t.val / 8 - 2) 8) (t.val % 8) (ix2 r k) = mlp x mod gpre wup wdn l b s k := fun k =>
    A_mlp hB (t.val / 8 - 2) (by omega) ⟨(128 * (t.val % 8) + r.val) % 1024, Nat.mod_lt _ (by decide)⟩ k b s hb
      (by show s.val = (t.val / 8 - 2) % 2 * 1024 + (128 * (t.val % 8) + r.val) % 1024; omega)
  rw [hx, funext ha]
  rfl

end Cert.Proof.Mlp

end
-- ==== Proof.Mlp.Value.lean ====
module

public import proofs.«01_k».proof.Proof.Mlp.Blocks
public import proofs.«01_k».proof.Proof.Mlp.Host
public import proofs.«01_k».proof.Proof.Mlp.Core
public import Idealize.ShloMosaic.Lib.Pipeline.ValueKit

@[expose] public section

set_option maxRecDepth 16384

noncomputable section

namespace Cert.Proof.Mlp

open Cert.KernelIdeal Cert.KernelIdeal.Gen

open Idealize.ShloMosaic Idealize.ShloMosaic.TcCoe Idealize.SL.Sem

/-! ## What the call leaves, in its arguments -/

variable (m : (ℓ : Loc nD τ sig) → Buf (Elt Ideal) ℓ) (c : Dev nD)

/-- The arguments of core `c`. -/
abbrev gX : Vec Ideal S4x2048x2048 .f32 := m ((c.tc : Thread nD τ).loc main_arg0)
abbrev gMod : Vec Ideal S4x12288 .f32 := m ((c.tc : Thread nD τ).loc main_arg1)
abbrev gPre : Vec Ideal S2x2048 .f32 := m ((c.tc : Thread nD τ).loc main_arg2)
abbrev gPost : Vec Ideal S2x2048 .f32 := m ((c.tc : Thread nD τ).loc main_arg3)
abbrev gUp : Vec Ideal S2x2048x8192 .f32 := m ((c.tc : Thread nD τ).loc main_arg4)
abbrev gDn : Vec Ideal S2x8192x2048 .f32 := m ((c.tc : Thread nD τ).loc main_arg5)
abbrev gIn : Vec Ideal S2x2048x4616 .f32 := m ((c.tc : Thread nD τ).loc main_arg6)
abbrev gOut : Vec Ideal S2x2048x2048 .f32 := m ((c.tc : Thread nD τ).loc main_arg7)

theorem blk_x (t : Fin grid0.N) : (blk m c).x t = iblk m c 0 t := rfl
theorem blk_xd (t : Fin grid0.N) : (blk m c).xd t = iblk m c 1 t := rfl
theorem blk_wup (t : Fin grid0.N) : (blk m c).wup t = iblk m c 7 t := rfl
theorem blk_wdn (t : Fin grid0.N) : (blk m c).wdn t = iblk m c 8 t := rfl

/-- The shift's, the scale's and the gate's row of sequence `b`. -/
theorem shift_at (t : Fin grid0.N) (q : ℕ) (b : Fin 4) (h : b.val = q) (d : Fin 2048) :
    row8 ((blk m c).shift t) q (ix2 0 d) = gMod m c (ix2 b ⟨6144 + d.val, by omega⟩) := by
  show iblk m c 2 t (ix2 ⟨q % 8, _⟩ d) = _
  rw [iblk2_at m c t ⟨q % 8, Nat.mod_lt _ (by decide)⟩ d ⟨b.val, by omega⟩ ⟨2048 + d.val, by omega⟩ (by show b.val = 0 * 8 + q % 8; omega) (by show 2048 + d.val = 1 * 2048 + d.val; omega),
    V_v1_at m c _ b.isLt]
  exact congrArg (gMod m c) (congrArg (ix2 b) (Fin.ext (by show 4096 + (2048 + d.val) = 6144 + d.val; omega)))
theorem scale_at (t : Fin grid0.N) (q : ℕ) (b : Fin 4) (h : b.val = q) (d : Fin 2048) :
    row8 ((blk m c).scale t) q (ix2 0 d) = gMod m c (ix2 b ⟨8192 + d.val, by omega⟩) := by
  show iblk m c 3 t (ix2 ⟨q % 8, _⟩ d) = _
  rw [iblk3_at m c t ⟨q % 8, Nat.mod_lt _ (by decide)⟩ d ⟨b.val, by omega⟩ ⟨4096 + d.val, by omega⟩ (by show b.val = 0 * 8 + q % 8; omega) (by show 4096 + d.val = 2 * 2048 + d.val; omega),
    V_v1_at m c _ b.isLt]
  exact congrArg (gMod m c) (congrArg (ix2 b) (Fin.ext (by show 4096 + (4096 + d.val) = 8192 + d.val; omega)))
theorem gate_at (t : Fin grid0.N) (q : ℕ) (b : Fin 4) (h : b.val = q) (d : Fin 2048) :
    row8 ((blk m c).gate t) q (ix2 0 d) = gMod m c (ix2 b ⟨10240 + d.val, by omega⟩) := by
  show iblk m c 4 t (ix2 ⟨q % 8, _⟩ d) = _
  rw [iblk4_at m c t ⟨q % 8, Nat.mod_lt _ (by decide)⟩ d ⟨b.val, by omega⟩ ⟨6144 + d.val, by omega⟩ (by show b.val = 0 * 8 + q % 8; omega) (by show 6144 + d.val = 3 * 2048 + d.val; omega),
    V_v1_at m c _ b.isLt]
  exact congrArg (gMod m c) (congrArg (ix2 b) (Fin.ext (by show 4096 + (6144 + d.val) = 10240 + d.val; omega)))
theorem gpre_at (t : Fin grid0.N) (d : Fin 2048) : row2 ((blk m c).gpre t) (ix2 0 d) = gPre m c (ix2 0 d) := by
  show iblk m c 5 t (ix2 0 d) = _
  rw [iblk5_at m c t 0 d 0 d (by decide) (by omega), V_main_arg2]
theorem gpost_at (t : Fin grid0.N) (d : Fin 2048) : row2 ((blk m c).gpost t) (ix2 0 d) = gPost m c (ix2 0 d) := by
  show iblk m c 6 t (ix2 0 d) = _
  rw [iblk6_at m c t 0 d 0 d (by decide) (by omega), V_main_arg3]

/-- The blocks hold the arguments. -/
theorem reads : Reads (blk m c) (gX m c) (gMod m c) (gPre m c) (gPost m c) (gUp m c) (gDn m c) 0 where
  h_x t h r k b s e0 e1 := by
    rw [blk_x, iblk0_at m c _ h 0 r k b s k (by show b.val = _ * 1 + 0; omega) e1 (by omega), V_main_arg0]
  h_xd t h r k b s e0 e1 := by
    rw [blk_xd, iblk1_at m c _ h 0 r k b s k (by show b.val = _ * 1 + 0; omega) e1 (by omega), V_main_arg0]
  h_shift t q b h d := shift_at m c t q b h d
  h_scale t q b h d := scale_at m c t q b h d
  h_gate t q b h d := gate_at m c t q b h d
  h_gpre t d := gpre_at m c t d
  h_gpost t d := gpost_at m c t d
  h_wup t h k f f' e := by rw [blk_wup, iblk7_at m c _ h k f k f' (by omega) e, V_v4_at]
  h_wdn t h f d f' e := by rw [blk_wdn, iblk8_at m c _ h f d f' d e (by omega), V_v7_at]

/-- The columns packed at a point. -/
theorem pack_at (t : Fin grid0.N) (r : Fin 2048) (l : Fin 128) (k : Fin 4736) (hk : k.val = min t.val 36 * 128 + l.val) :
    pPack (F := Ideal) (grid0.coords t) (packIn m c t) (ix2 r l) = packed (gIn m c) r k := by
  have htN := t.isLt.trans_eq hN
  rw [pPack_at, keepBit_eq]
  have hb : ∀ k' : Fin 4616, k'.val = packRow t.val + l.val → packIn m c t (ix3 0 l r) = gIn m c (ix3 1 r k') := fun k' e => by
    show iblk m c 9 t _ = _
    rw [iblk9_at m c t 0 l r k' e, V_v8_at]
  unfold packed
  unfold packRow at hb
  by_cases h : t.val < 36 ∨ l.val < 8
  · rw [if_pos h, show ∀ a b : EReal, Scalar.select 1#1 a b = a from fun _ _ => rfl]
    split_ifs with h1 h2 h3
    · exact hb _ (by show k.val % 4616 = _; split_ifs <;> omega)
    · exact hb _ (by show (k.val + 8) % 4616 = _; split_ifs <;> omega)
    · exact hb _ (by show (k.val - 1536) % 4616 = _; split_ifs <;> omega)
    · omega
  · rw [if_neg h, show ∀ a b : EReal, Scalar.select 0#1 a b = b from fun _ _ => rfl, if_neg (by omega), if_neg (by omega), if_neg (by omega)]

/-- The rows cast at a point. -/
theorem cast_at (t : Fin grid0.N) (r : Fin 32) (d : Fin 2048) (s : Fin 2048) (hs : s.val = min t.val 63 * 32 + r.val) :
    pCast (F := Ideal) (castIn m c t) (ix2 r d) = gOut m c (ix3 1 s d) := by
  rw [pCast_at]
  show iblk m c 10 t _ = _
  rw [iblk10_at m c t 0 r d 1 s d (by decide) (by omega) (by omega), V_main_arg7]
-- ==== Proof.Mlp.Algebraic.lean ====
module

public import proofs.«01_k».proof.Proof.Mlp.Value
public import proofs.«01_k».proof.Proof.Mlp.Frames
public import Idealize.ShloMosaic.Lib.Pipeline.ArrRel

@[expose] public section

set_option maxRecDepth 16384

noncomputable section

namespace Cert.Proof.Mlp

open Cert.KernelIdeal Cert.KernelIdeal.Gen

open Idealize.ShloMosaic Idealize.ShloMosaic.TcCoe Idealize.SL.Sem

/-! ## The arrays after the call -/

variable (m : (ℓ : Loc nD τ sig) → Buf (Elt Ideal) ℓ) (c : Dev nD)

/-- The three results, of the arguments. -/
def out0 : Vec Ideal S4x2048x2048 .f32 := fun y => res (gX m c) (gMod m c) (gPre m c) (gPost m c) (gUp m c) (gDn m c) 0 (y 0) (y 1) (y 2)
def out1 : Vec Ideal S2048x4736 .bf16 := fun y => packed (gIn m c) (y 0) (y 1)
def out2 : Vec Ideal S2048x2048 .bf16 := fun y => gOut m c (ix3 (n0 := 2) (n1 := 2048) (n2 := 2048) 1 (y 0) (y 1))

theorem flush11 (t : Fin cfg0.N) (h : (cfg0.win 11).flush t = true) : 2 ≤ t.val / 8 :=
  (by decide +kernel : ∀ t : Fin cfg0.N, (cfg0.win 11).flush t = true → 2 ≤ t.val / 8) t h

/-- The arrays at the end, of any contents that the body may have left. -/
theorem arrays (r : PUnit × MemSt nD τ sig (Elt Ideal)) (h : Pipeline.RDat.FramePost cfg0 (rdats m) (V m) r) :
    r.2.mem ((c.tc : Thread nD τ).loc main_v9_0) = out0 m c
      ∧ r.2.mem ((c.tc : Thread nD τ).loc main_v9_1) = out1 m c
      ∧ r.2.mem ((c.tc : Thread nD τ).loc main_v9_2) = out2 m c := by
  obtain ⟨after, hL, hA⟩ := h.exists_exact c
  have l0 : ∀ t, (cfg0.win 11).flush t = true → after 11 t = outB (blk m c) t := fun t hf =>
    ((dats m 0 c).toRRel_leaves (fgt := fgt) (Rl := Rl m c) fgt_11 (hL 11 t hf)) (flush11 t hf)
  have l1 : ∀ t, (cfg0.win 12).flush t = true → after 12 t = pPack (grid0.coords t) (packIn m c t) := fun t hf =>
    (dats m 0 c).toRRel_leaves (fgt := fgt) (Rl := Rl m c) fgt_12 (hL 12 t hf)
  have l2 : ∀ t, (cfg0.win 13).flush t = true → after 13 t = pCast (castIn m c t) := fun t hf =>
    (dats m 0 c).toRRel_leaves (fgt := fgt) (Rl := Rl m c) fgt_13 (hL 13 t hf)
  refine ⟨(hA 11).trans ?_, (hA 12).trans ?_, (hA 13).trans ?_⟩
  · refine ((rdats m c).withAfter after).arrAt_eq_of_covers 11 (out0 m c) (by decide +kernel) fun t hf y => ?_
    have hi := idx11 t (flush11 t hf)
    rw [Pipeline.RDat.withAfter_after, l0 t hf]
    have e0 : (((cfg0.win 11).blk t).view.emb y 0).val = (t.val / 8 - 2) / 2 := by
      show win0_11.index t 0 * 1 + 1 * (y 0).val = _
      have h0 : (y 0).val < 1 := (y 0).isLt
      rw [hi.1]; omega
    have e1 : (((cfg0.win 11).blk t).view.emb y 1).val = ((t.val / 8 - 2) % 2 * 8 + t.val % 8) * 128 + (y 1).val := by
      show win0_11.index t 1 * 128 + 1 * (y 1).val = _
      rw [hi.2.1]; omega
    have e2 : (((cfg0.win 11).blk t).view.emb y 2).val = (y 2).val := by
      show win0_11.index t 2 * 2048 + 1 * (y 2).val = _
      rw [hi.2.2]; omega
    have ey : (cfg0.win 11).xinj (cfg0.grid.coords t) y = ix3 (n0 := 1) (n1 := 128) (n2 := 2048) 0 (y 1) (y 2) :=
      funext fun a => by
        match a with
        | ⟨0, _⟩ => exact Fin.ext (show (y 0).val = 0 by have h0 : (y 0).val < 1 := (y 0).isLt; omega)
        | ⟨1, _⟩ => rfl
        | ⟨2, _⟩ => rfl
    rw [cast_eq, ey]
    refine (outB_at (reads m c) t (flush11 t hf) (y 1) (y 2) _ _ e0 e1).trans ?_
    unfold out0
    exact congrArg _ (Fin.ext e2.symm)
  · refine ((rdats m c).withAfter after).arrAt_eq_of_covers 12 (out1 m c) (by decide +kernel) fun t hf y => ?_
    rw [Pipeline.RDat.withAfter_after, l1 t hf]
    have hi := idx12 t
    have e0 : (((cfg0.win 12).blk t).view.emb y 0).val = (y 0).val := by
      show win0_12.index t 0 * 2048 + 1 * (y 0).val = _
      rw [hi.1]; omega
    have e1 : (((cfg0.win 12).blk t).view.emb y 1).val = min t.val 36 * 128 + (y 1).val := by
      show win0_12.index t 1 * 128 + 1 * (y 1).val = _
      rw [hi.2]; omega
    have ey : (cfg0.win 12).xinj (cfg0.grid.coords t) y = ix2 (n0 := 2048) (n1 := 128) (y 0) (y 1) :=
      funext fun a => by
        match a with
        | ⟨0, _⟩ => rfl
        | ⟨1, _⟩ => rfl
    rw [cast_eq, ey]
    refine (pack_at m c t (y 0) (y 1) _ e1).trans ?_
    unfold out1
    exact congrArg (fun r => packed (gIn m c) r _) (Fin.ext e0.symm)
  · refine ((rdats m c).withAfter after).arrAt_eq_of_covers 13 (out2 m c) (by decide +kernel) fun t hf y => ?_
    rw [Pipeline.RDat.withAfter_after, l2 t hf]
    have hi := idx13 t
    have e0 : (((cfg0.win 13).blk t).view.emb y 0).val = min t.val 63 * 32 + (y 0).val := by
      show win0_13.index t 0 * 32 + 1 * (y 0).val = _
      rw [hi.1]; omega
    have e1 : (((cfg0.win 13).blk t).view.emb y 1).val = (y 1).val := by
      show win0_13.index t 1 * 2048 + 1 * (y 1).val = _
      rw [hi.2]; omega
    have ey : (cfg0.win 13).xinj (cfg0.grid.coords t) y = ix2 (n0 := 32) (n1 := 2048) (y 0) (y 1) :=
      funext fun a => by
        match a with
        | ⟨0, _⟩ => rfl
        | ⟨1, _⟩ => rfl
    rw [cast_eq, ey]
    refine (cast_at m c t (y 0) (y 1) _ e0).trans ?_
    unfold out2
    exact congrArg (fun d => gOut m c (ix3 (n0 := 2) (n1 := 2048) (n2 := 2048) 1 _ d)) (Fin.ext e1.symm)

/-- The call and the reference leave the same results, and their arguments as they were. -/
theorem algebraic : Cert.algebraic_KernelIdeal_ReferenceIdeal := fun m g m' g' _ hm => by
  refine ⟨fun c => out0 m c, fun c => out1 m c, fun c => out2 m c, ?_, ?_⟩
  · refine (θ_run defs _ _).mono (fun r h c => ?_) (run_main m g)
    obtain ⟨h0, h1, h2⟩ := arrays m c r h.1
    exact ⟨h0, h1, h2, args_kept m r h.1 c⟩
  · refine (θ_run Cert.ReferenceIdeal.defs _ _).mono (fun r h c => ?_) (Cert.ReferenceIdeal.Value.run (F := Ideal) m' g')
    obtain ⟨h0, h1, h2, hk⟩ := h c
    obtain ⟨a0, a1, a2, a3, a4, a5, a6, a7⟩ := hm c
    refine ⟨h0.trans (funext fun y => ?_), h1.trans (funext fun y => ?_), h2.trans (funext fun y => ?_), hk⟩
    · refine (congrArg _ (eq_ix3 (n0 := 4) (n1 := 2048) (n2 := 2048) y)).trans ?_
      refine (ref0_at m' c _ _ _).trans ?_
      rw [a0, a1, a2, a3, a4, a5]
      rfl
    · rw [a6]
      refine (congrArg _ (eq_ix2 (n0 := 2048) (n1 := 4736) y)).trans ?_
      exact refPack_at (gIn m c) _ _
    · rw [a7]
      refine (congrArg _ (eq_ix2 (n0 := 2048) (n1 := 2048) y)).trans ?_
      exact refCast_at (gOut m c) _ _

end Cert.Proof.Mlp

end
-- ==== Proof.Mlp2.Body.lean ====
module

public import proofs.«01_k».proof.Proof.Gen.Kernel2Ideal.Frame
public import proofs.«01_k».proof.Proof.Gen.Kernel2Ideal.Skeleton
public import proofs.«01_k».proof.Proof.Mlp.Base

@[expose] public section

set_option maxRecDepth 16384

noncomputable section

namespace Cert.Proof.Mlp2

open Cert.Kernel2Ideal Cert.Kernel2Ideal.Gen
open Cert.Proof.Mlp (𝒱₀ pNorm pStep pOut pZero readAt_window read_put whole_S1x128x2048 whole_S1024x2048 whole_S2048x1024 putw_S1x128x2048 putw_S1024x2048)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging memrefs -/

section
variable (c : Dev nD) (i : grid0.Coords)
  (M2 : Memref sig .tc .vmem S1x128x2048 .f32) (h2 : M2.IsWhole)
  (M3 : Memref sig .tc .vmem S1x128x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S8x2048 .f32) (h6 : M6.IsWhole)
  (M7 : Memref sig .tc .vmem S2x2048 .f32) (h7 : M7.IsWhole)
  (M8 : Memref sig .tc .vmem S2x2048 .f32) (h8 : M8.IsWhole)
  (M9 : Memref sig .tc .vmem S2048x1024 .bf16) (h9 : M9.IsWhole)
  (M10 : Memref sig .tc .vmem S1024x2048 .bf16) (h10 : M10.IsWhole)
  (M11 : Memref sig .tc .vmem S1x128x2048 .f32) (h11 : M11.IsWhole)
  (M12 : Memref sig .tc .vmem S1024x2048 .bf16) (h12 : M12.IsWhole)
  (M13 : Memref sig .tc .vmem S1024x2048 .bf16) (h13 : M13.IsWhole)
  (M14 : Memref sig .tc .vmem S1024x2048 .f32) (h14 : M14.IsWhole)
  (M15 : Memref sig .tc .vmem S1024x2048 .f32) (h15 : M15.IsWhole)
  (X2 : Vec F S1x128x2048 .f32)  (X3 : Vec F S1x128x2048 .f32)  (X4 : Vec F S8x2048 .f32)
  (X5 : Vec F S8x2048 .f32)  (X6 : Vec F S8x2048 .f32)  (X7 : Vec F S2x2048 .f32)
  (X8 : Vec F S2x2048 .f32)  (X9 : Vec F S2048x1024 .bf16)  (X10 : Vec F S1024x2048 .bf16)
  (Y11 : Vec F S1x128x2048 .f32) (Y12 : Vec F S1024x2048 .bf16) (Y13 : Vec F S1024x2048 .bf16) (Y14 : Vec F S1024x2048 .f32) (Y15 : Vec F S1024x2048 .f32)

/-- The nine input buffers, each at its block. -/
def ins : sProp 𝕄 :=
  iprop(owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10)

/-- The output buffer and the four scratch buffers. -/
def outs : sProp 𝕄 :=
  iprop(owns (c : Thread nD τ) M11 fullShare Y11
    ∗ owns (c : Thread nD τ) M12 fullShare Y12
    ∗ owns (c : Thread nD τ) M13 fullShare Y13
    ∗ owns (c : Thread nD τ) M14 fullShare Y14
    ∗ owns (c : Thread nD τ) M15 fullShare Y15)

set_option maxHeartbeats 4000000 in
/-- The `first` branch of the body. -/
theorem body_first (hc : k0_cond1 i = 1#1) (n2 : ¬ k0_cond2 i = 1#1) (n3 : ¬ k0_cond3 i = 1#1) (n4 : ¬ k0_cond4 i = 1#1) (n5 : ¬ k0_cond5 i = 1#1) (E : Set ℕ) (K : PUnit → sProp 𝕄) :
    iprop(ins c M2 M3 M4 M5 M6 M7 M8 M9 M10 X2 X3 X4 X5 X6 X7 X8 X9 X10
        ∗ outs c M11 M12 M13 M14 M15 Y11 Y12 Y13 Y14 Y15
        ∗ (iprop(ins c M2 M3 M4 M5 M6 M7 M8 M9 M10 X2 X3 X4 X5 X6 X7 X8 X9 X10
          ∗ outs c M11 M12 M13 M14 M15
              Y11
              (VecWindow.put Y12 (k0_off2 i) S128x2048.size (pNorm X2 (VecWindow.window X7 (![1, 0]) S1x2048.size (inb_S2x2048_S1x2048_1_0)) (VecWindow.window X5 (k0_off1 i) S1x2048.size (k0_off1_inb i hc)) (VecWindow.window X4 (k0_off1 i) S1x2048.size (k0_off1_inb i hc))))
              Y13
              (VecWindow.put Y14 (k0_off2 i) S128x2048.size (pZero (F := F)))
              (VecWindow.put Y15 (k0_off2 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨⟨%f11, %e11, H11⟩, ⟨%f12, %e12, H12⟩, ⟨%f13, %e13, H13⟩, ⟨%f14, %e14, H14⟩, ⟨%f15, %e15, H15⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  sl_unfold [cc0_mlp]
  sl_open_parts
  sl_exec
  sl_step
  iapply Hk
  isplitl [H2 H3 H4 H5 H6 H7 H8 H9 H10]
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  iexists _; isplitr; swap; iexact H15; rotate_left
  all_goals
    ipureintro
    simp only [View.read_writes_full, View.readAt_full, readAt_window, read_put, putw_S1x128x2048, putw_S1024x2048, whole_S1x128x2048, whole_S1024x2048, whole_S2048x1024,
      Memref.IsWhole.read_unread] <;> rfl

set_option maxHeartbeats 4000000 in
/-- The `second` branch of the body. -/
theorem body_second (n1 : ¬ k0_cond1 i = 1#1) (hc : k0_cond2 i = 1#1) (n3 : ¬ k0_cond3 i = 1#1) (n4 : ¬ k0_cond4 i = 1#1) (n5 : ¬ k0_cond5 i = 1#1) (E : Set ℕ) (K : PUnit → sProp 𝕄) :
    iprop(ins c M2 M3 M4 M5 M6 M7 M8 M9 M10 X2 X3 X4 X5 X6 X7 X8 X9 X10
        ∗ outs c M11 M12 M13 M14 M15 Y11 Y12 Y13 Y14 Y15
        ∗ (iprop(ins c M2 M3 M4 M5 M6 M7 M8 M9 M10 X2 X3 X4 X5 X6 X7 X8 X9 X10
          ∗ outs c M11 M12 M13 M14 M15
              Y11
              Y12
              (VecWindow.put Y13 (k0_off4 i) S128x2048.size (pNorm X2 (VecWindow.window X7 (![1, 0]) S1x2048.size (inb_S2x2048_S1x2048_1_0)) (VecWindow.window X5 (k0_off3 i) S1x2048.size (k0_off3_inb i hc)) (VecWindow.window X4 (k0_off3 i) S1x2048.size (k0_off3_inb i hc))))
              (pStep Y12 X9 Y14 X10)
              Y15) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨⟨%f11, %e11, H11⟩, ⟨%f12, %e12, H12⟩, ⟨%f13, %e13, H13⟩, ⟨%f14, %e14, H14⟩, ⟨%f15, %e15, H15⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  sl_unfold [cc0_mlp]
  sl_open_parts
  sl_exec
  sl_step
  iapply Hk
  isplitl [H2 H3 H4 H5 H6 H7 H8 H9 H10]
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  iexists _; isplitr; swap; iexact H15; rotate_left
  all_goals
    ipureintro
    simp only [View.read_writes_full, View.readAt_full, readAt_window, read_put, putw_S1x128x2048, putw_S1024x2048, whole_S1x128x2048, whole_S1024x2048, whole_S2048x1024,
      Memref.IsWhole.read_unread] <;> rfl

set_option maxHeartbeats 4000000 in
/-- The `even` branch of the body. -/
theorem body_even (n1 : ¬ k0_cond1 i = 1#1) (n2 : ¬ k0_cond2 i = 1#1) (hc : k0_cond3 i = 1#1) (n4 : ¬ k0_cond4 i = 1#1) (n5 : ¬ k0_cond5 i = 1#1) (E : Set ℕ) (K : PUnit → sProp 𝕄) :
    iprop(ins c M2 M3 M4 M5 M6 M7 M8 M9 M10 X2 X3 X4 X5 X6 X7 X8 X9 X10
        ∗ outs c M11 M12 M13 M14 M15 Y11 Y12 Y13 Y14 Y15
        ∗ (iprop(ins c M2 M3 M4 M5 M6 M7 M8 M9 M10 X2 X3 X4 X5 X6 X7 X8 X9 X10
          ∗ outs c M11 M12 M13 M14 M15
              (pOut X3 (VecWindow.window X6 (k0_off7 i) S1x2048.size (k0_off7_inb i hc)) (VecWindow.window Y14 (k0_off6 i) S128x2048.size (k0_off6_inb i hc)) (VecWindow.window X8 (![1, 0]) S1x2048.size (inb_S2x2048_S1x2048_1_0)))
              (VecWindow.put Y12 (k0_off6 i) S128x2048.size (pNorm X2 (VecWindow.window X7 (![1, 0]) S1x2048.size (inb_S2x2048_S1x2048_1_0)) (VecWindow.window X5 (k0_off5 i) S1x2048.size (k0_off5_inb i hc)) (VecWindow.window X4 (k0_off5 i) S1x2048.size (k0_off5_inb i hc))))
              Y13
              (VecWindow.put Y14 (k0_off6 i) S128x2048.size (pZero (F := F)))
              (pStep Y13 X9 Y15 X10)) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨⟨%f11, %e11, H11⟩, ⟨%f12, %e12, H12⟩, ⟨%f13, %e13, H13⟩, ⟨%f14, %e14, H14⟩, ⟨%f15, %e15, H15⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  sl_unfold [cc0_mlp]
  sl_open_parts
  sl_exec
  sl_step
  iapply Hk
  isplitl [H2 H3 H4 H5 H6 H7 H8 H9 H10]
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  iexists _; isplitr; swap; iexact H15; rotate_left
  all_goals
    ipureintro
    simp only [View.read_writes_full, View.readAt_full, readAt_window, read_put, putw_S1x128x2048, putw_S1024x2048, whole_S1x128x2048, whole_S1024x2048, whole_S2048x1024,
      Memref.IsWhole.read_unread] <;> rfl

set_option maxHeartbeats 4000000 in
/-- The `odd` branch of the body. -/
theorem body_odd (n1 : ¬ k0_cond1 i = 1#1) (n2 : ¬ k0_cond2 i = 1#1) (n3 : ¬ k0_cond3 i = 1#1) (hc : k0_cond4 i = 1#1) (n5 : ¬ k0_cond5 i = 1#1) (E : Set ℕ) (K : PUnit → sProp 𝕄) :
    iprop(ins c M2 M3 M4 M5 M6 M7 M8 M9 M10 X2 X3 X4 X5 X6 X7 X8 X9 X10
        ∗ outs c M11 M12 M13 M14 M15 Y11 Y12 Y13 Y14 Y15
        ∗ (iprop(ins c M2 M3 M4 M5 M6 M7 M8 M9 M10 X2 X3 X4 X5 X6 X7 X8 X9 X10
          ∗ outs c M11 M12 M13 M14 M15
              (pOut X3 (VecWindow.window X6 (k0_off10 i) S1x2048.size (k0_off10_inb i hc)) (VecWindow.window Y15 (k0_off9 i) S128x2048.size (k0_off9_inb i hc)) (VecWindow.window X8 (![1, 0]) S1x2048.size (inb_S2x2048_S1x2048_1_0)))
              Y12
              (VecWindow.put Y13 (k0_off9 i) S128x2048.size (pNorm X2 (VecWindow.window X7 (![1, 0]) S1x2048.size (inb_S2x2048_S1x2048_1_0)) (VecWindow.window X5 (k0_off8 i) S1x2048.size (k0_off8_inb i hc)) (VecWindow.window X4 (k0_off8 i) S1x2048.size (k0_off8_inb i hc))))
              (pStep Y12 X9 Y14 X10)
              (VecWindow.put Y15 (k0_off9 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨⟨%f11, %e11, H11⟩, ⟨%f12, %e12, H12⟩, ⟨%f13, %e13, H13⟩, ⟨%f14, %e14, H14⟩, ⟨%f15, %e15, H15⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  sl_unfold [cc0_mlp]
  sl_open_parts
  sl_exec
  sl_step
  iapply Hk
  isplitl [H2 H3 H4 H5 H6 H7 H8 H9 H10]
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  iexists _; isplitr; swap; iexact H15; rotate_left
  all_goals
    ipureintro
    simp only [View.read_writes_full, View.readAt_full, readAt_window, read_put, putw_S1x128x2048, putw_S1024x2048, whole_S1x128x2048, whole_S1024x2048, whole_S2048x1024,
      Memref.IsWhole.read_unread] <;> rfl

set_option maxHeartbeats 4000000 in
/-- The `last` branch of the body. -/
theorem body_last (n1 : ¬ k0_cond1 i = 1#1) (n2 : ¬ k0_cond2 i = 1#1) (n3 : ¬ k0_cond3 i = 1#1) (n4 : ¬ k0_cond4 i = 1#1) (hc : k0_cond5 i = 1#1) (E : Set ℕ) (K : PUnit → sProp 𝕄) :
    iprop(ins c M2 M3 M4 M5 M6 M7 M8 M9 M10 X2 X3 X4 X5 X6 X7 X8 X9 X10
        ∗ outs c M11 M12 M13 M14 M15 Y11 Y12 Y13 Y14 Y15
        ∗ (iprop(ins c M2 M3 M4 M5 M6 M7 M8 M9 M10 X2 X3 X4 X5 X6 X7 X8 X9 X10
          ∗ outs c M11 M12 M13 M14 M15
              (pOut X3 (VecWindow.window X6 (k0_off11 i) S1x2048.size (k0_off11_inb i hc)) (VecWindow.window Y15 (k0_off12 i) S128x2048.size (k0_off12_inb i hc)) (VecWindow.window X8 (![1, 0]) S1x2048.size (inb_S2x2048_S1x2048_1_0)))
              Y12
              Y13
              Y14
              (VecWindow.put Y15 (k0_off12 i) S128x2048.size (pZero (F := F)))) -∗ K ⟨⟩))
      ⊢ wp frame (wpE (defs₀ (F := F)) 𝒱₀ c none) E (cc0_mlp i M2 h2 M3 h3 M4 h4 M5 h5 M6 h6 M7 h7 M8 h8 M9 h9 M10 h10 M11 h11 M12 h12 M13 h13 M14 h14 M15 h15) K := by
  unfold ins outs owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨⟨%f11, %e11, H11⟩, ⟨%f12, %e12, H12⟩, ⟨%f13, %e13, H13⟩, ⟨%f14, %e14, H14⟩, ⟨%f15, %e15, H15⟩⟩, Hk⟩
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  sl_unfold [cc0_mlp]
  sl_open_parts
  sl_exec
  sl_step
  iapply Hk
  isplitl [H2 H3 H4 H5 H6 H7 H8 H9 H10]
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  iexists _; isplitr; swap; iexact H10; rotate_left
  isplitl [H11]; iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  iexists _; isplitr; swap; iexact H15; rotate_left
  all_goals
    ipureintro
    simp only [View.read_writes_full, View.readAt_full, readAt_window, read_put, putw_S1x128x2048, putw_S1024x2048, whole_S1x128x2048, whole_S1024x2048, whole_S2048x1024,
      Memref.IsWhole.read_unread] <;> rfl

end

end Cert.Proof.Mlp2

end
-- ==== Proof.Mlp2.Run.lean ====
module

public import proofs.«01_k».proof.Proof.Mlp.Inv
public import proofs.«01_k».proof.Proof.Mlp2.Body
public import Idealize.ShloMosaic.Lib.Pipeline.Frame
public import Idealize.ShloMosaic.Lib.Pipeline.DatRel

@[expose] public section

set_option maxRecDepth 16384

noncomputable section

namespace Cert.Proof.Mlp2

open Cert.Kernel2Ideal Cert.Kernel2Ideal.Gen
open Cert.Proof.Mlp (𝒱₀ pNorm pStep pOut pZero Blk Inv outB nrm inv_zero inv_succ_even inv_succ_odd step_first step_second step_steady step_last
  done_rows row2 window_row8 window_rows128)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches and the offsets are those of the other call -/

theorem cond1_iff (t : Fin grid0.N) : k0_cond1 (grid0.coords t) = 1#1 ↔ t.val / 8 = 0 := Mlp.cond1_iff t
theorem cond2_iff (t : Fin grid0.N) : k0_cond2 (grid0.coords t) = 1#1 ↔ t.val / 8 = 1 := Mlp.cond2_iff t
theorem cond3_iff (t : Fin grid0.N) : k0_cond3 (grid0.coords t) = 1#1 ↔ (2 ≤ t.val / 8 ∧ t.val / 8 ≤ 8) ∧ t.val / 8 % 2 = 0 := Mlp.cond3_iff t
theorem cond4_iff (t : Fin grid0.N) : k0_cond4 (grid0.coords t) = 1#1 ↔ (2 ≤ t.val / 8 ∧ t.val / 8 ≤ 8) ∧ t.val / 8 % 2 = 1 := Mlp.cond4_iff t
theorem cond5_iff (t : Fin grid0.N) : k0_cond5 (grid0.coords t) = 1#1 ↔ t.val / 8 = 9 := Mlp.cond5_iff t
theorem off1_eq (t : Fin grid0.N) : k0_off1 (grid0.coords t) = ![min (t.val / 8) 7 / 2, 0] := Mlp.off1_eq t
theorem off3_eq (t : Fin grid0.N) : k0_off3 (grid0.coords t) = ![min (t.val / 8) 7 / 2, 0] := Mlp.off3_eq t
theorem off5_eq (t : Fin grid0.N) : k0_off5 (grid0.coords t) = ![min (t.val / 8) 7 / 2, 0] := Mlp.off5_eq t
theorem off8_eq (t : Fin grid0.N) : k0_off8 (grid0.coords t) = ![min (t.val / 8) 7 / 2, 0] := Mlp.off8_eq t
theorem off2_eq (t : Fin grid0.N) : k0_off2 (grid0.coords t) = ![128 * (t.val % 8), 0] := Mlp.off2_eq t
theorem off4_eq (t : Fin grid0.N) : k0_off4 (grid0.coords t) = ![128 * (t.val % 8), 0] := Mlp.off4_eq t
theorem off6_eq (t : Fin grid0.N) : k0_off6 (grid0.coords t) = ![128 * (t.val % 8), 0] := Mlp.off6_eq t
theorem off9_eq (t : Fin grid0.N) : k0_off9 (grid0.coords t) = ![128 * (t.val % 8), 0] := Mlp.off9_eq t
theorem off12_eq (t : Fin grid0.N) : k0_off12 (grid0.coords t) = ![128 * (t.val % 8), 0] := Mlp.off12_eq t
theorem off7_eq (t : Fin grid0.N) (h : 2 ≤ t.val / 8) : k0_off7 (grid0.coords t) = ![(t.val / 8 - 2) / 2, 0] := Mlp.off7_eq t h
theorem off10_eq (t : Fin grid0.N) (h : 2 ≤ t.val / 8) : k0_off10 (grid0.coords t) = ![(t.val / 8 - 2) / 2, 0] := Mlp.off10_eq t h
theorem off11_eq (t : Fin grid0.N) (h : 2 ≤ t.val / 8) : k0_off11 (grid0.coords t) = ![(t.val / 8 - 2) / 2, 0] := Mlp.off11_eq t h

/-- The second row of two, set first. -/
def flip2 (x : Vec F S2x2048 .f32) : Vec F S2x2048 .f32 := fun y => x (ix2 (n0 := 2) (n1 := 2048) ⟨1, by decide⟩ (y 1))

theorem window_row2' (x : Vec F S2x2048 .f32) (inb : ∀ a, (![1, 0] : Fin 2 → ℕ) a + S1x2048.size a ≤ S2x2048.size a) :
    VecWindow.window x (![1, 0]) S1x2048.size inb = row2 (flip2 x) := by
  funext y
  unfold VecWindow.window row2 flip2
  refine congrArg x (funext fun a => ?_)
  have hy : (y 0).val < 1 := (y 0).isLt
  match a with
  | ⟨0, _⟩ => exact Fin.ext (show 1 + 1 * (y 0).val = 1 by omega)
  | ⟨1, _⟩ => exact Fin.ext (show 0 + 1 * (y 1).val = (y 1).val by omega)

variable (m : (ℓ : Loc nD τ sig) → Buf (Elt F) ℓ) (ρ : Dev nD → PrngReg)

/-- The input blocks of core `c`. -/
def blk (c : Dev nD) : Blk F where
  x t := iblk m c 0 t
  xd t := iblk m c 1 t
  shift t := iblk m c 2 t
  scale t := iblk m c 3 t
  gate t := iblk m c 4 t
  gpre t := flip2 (iblk m c 5 t)
  gpost t := flip2 (iblk m c 6 t)
  wup t := iblk m c 7 t
  wdn t := iblk m c 8 t

/-! ## The proof data -/

/-- The scratch buffers between the points. -/
def scr (c : Dev nD) (t : ℕ) : sProp 𝕄 :=
  iprop(∃ h0 h1 a0 a1, ⌜Inv (blk m c) t h0 h1 a0 a1⌝ ∗ owns (c : Thread nD τ) (Memref.whole cc0_scratch0) fullShare h0
    ∗ owns (c : Thread nD τ) (Memref.whole cc0_scratch1) fullShare h1
    ∗ owns (c : Thread nD τ) (Memref.whole cc0_scratch2) fullShare a0
    ∗ owns (c : Thread nD τ) (Memref.whole cc0_scratch3) fullShare a1)

/-- The arrays as the region finds them; after the body each input's buffer at its block; between the points the scratch
    buffers at the invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outB (blk m c) t
  Φ t := iprop(scr m c t.val ∗ ∃ r, prngReg c r)
  q w := Pipeline.shareOf spec0 w
  owed _ := 0

/-- The window the body writes. -/
def fgt (w : Fin cfg0.W) : Bool := match w with
  | ⟨9, _⟩ => true
  | _ => false

/-- What the body leaves in the window it writes: the result's rows, from the third tile on. -/
def Rl (c : Dev nD) (w : Fin cfg0.W) (t : Fin cfg0.N) (X : (cfg0.win w).block.Idx → Elt F (cfg0.win w).elt) : Prop :=
  match w with
  | ⟨9, _⟩ => 2 ≤ t.val / 8 → X = outB (blk m c) t
  | _ => True

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a point -/

set_option maxHeartbeats 2000000 in
/-- The body at a point, over the input blocks and any contents of the other buffers that meet the invariant. -/
theorem body_point (c : Dev nD) (t : Fin cfg0.N) (Y11 : Vec F S1x128x2048 .f32)
    (h0 h1 : Vec F S1024x2048 .bf16) (a0 a1 : Vec F S1024x2048 .f32) (hI : Inv (blk m c) t.val h0 h1 a0 a1) (K : PUnit → sProp 𝕄) :
    iprop(ins (F := F) c (st0_0 t) (st0_1 t) (st0_2 t) (st0_3 t) (st0_4 t) (st0_5 t) (st0_6 t) (st0_7 t) (st0_8 t) (iblk m c 0 t) (iblk m c 1 t) (iblk m c 2 t) (iblk m c 3 t) (iblk m c 4 t) (iblk m c 5 t) (iblk m c 6 t) (iblk m c 7 t) (iblk m c 8 t)
        ∗ outs (F := F) c (st0_9 t) (Memref.whole cc0_scratch0) (Memref.whole cc0_scratch1) (Memref.whole cc0_scratch2) (Memref.whole cc0_scratch3) Y11 h0 h1 a0 a1
        ∗ (∀ Z11 z0 z1 b0 b1, iprop(⌜(2 ≤ t.val / 8 → Z11 = outB (blk m c) t) ∧ Inv (blk m c) (t.val + 1) z0 z1 b0 b1⌝
            ∗ ins (F := F) c (st0_0 t) (st0_1 t) (st0_2 t) (st0_3 t) (st0_4 t) (st0_5 t) (st0_6 t) (st0_7 t) (st0_8 t) (iblk m c 0 t) (iblk m c 1 t) (iblk m c 2 t) (iblk m c 3 t) (iblk m c 4 t) (iblk m c 5 t) (iblk m c 6 t) (iblk m c 7 t) (iblk m c 8 t)
            ∗ outs (F := F) c (st0_9 t) (Memref.whole cc0_scratch0) (Memref.whole cc0_scratch1) (Memref.whole cc0_scratch2) (Memref.whole cc0_scratch3) Z11 z0 z1 b0 b1) -∗ K ⟨⟩))
      ⊢ wp frame (wpE (defs₀ (F := F)) 𝒱₀ c none) Set.univ (bodyAt0 t) K := by
  have ht := t.isLt.trans_eq Mlp.hN
  have e1 := cond1_iff t
  have e2 := cond2_iff t
  have e3 := cond3_iff t
  have e4 := cond4_iff t
  have e5 := cond5_iff t
  by_cases c1 : t.val / 8 = 0
  · have hb : k0_cond1 (grid0.coords t) = 1#1 := e1.mpr (by omega)
    unfold Mlp.Inv at hI
    rw [if_pos (by omega)] at hI
    have en : pNorm (iblk m c 0 t) (VecWindow.window (iblk m c 5 t) (![1, 0]) S1x2048.size inb_S2x2048_S1x2048_1_0)
        (VecWindow.window (iblk m c 3 t) (k0_off1 (grid0.coords t)) S1x2048.size (k0_off1_inb (grid0.coords t) hb))
        (VecWindow.window (iblk m c 2 t) (k0_off1 (grid0.coords t)) S1x2048.size (k0_off1_inb (grid0.coords t) hb)) = nrm (blk m c) t := by
      rw [window_row8 (iblk m c 3 t) _ _ (off1_eq t), window_row8 (iblk m c 2 t) _ _ (off1_eq t), window_row2' (iblk m c 5 t)]
      rfl
    have hs := inv_succ_even (blk m c) t.val (by omega) _ _ _ _ (step_first (blk m c) t _ (off2_eq t) _ _ _ _ hI (by omega))
    refine BIBase.Entails.trans ?_ (body_first c (grid0.coords t) (st0_0 t) _ (st0_1 t) _ (st0_2 t) _ (st0_3 t) _ (st0_4 t) _ (st0_5 t) _ (st0_6 t) _ (st0_7 t) _ (st0_8 t) _ (st0_9 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) Y11 h0 h1 a0 a1 hb (fun h => by have := e2.mp h; omega) (fun h => by have := e3.mp h; omega) (fun h => by have := e4.mp h; omega) (fun h => by have := e5.mp h; omega) Set.univ K)
    rw [en]
    iintro ⟨HI, HO, HK⟩
    isplitl [HI]; · iexact HI
    isplitl [HO]; · iexact HO
    iintro ⟨HI, HO⟩
    iapply HK
    isplitr
    · ipureintro
      exact ⟨(fun h => absurd h (by omega) : 2 ≤ t.val / 8 → Y11 = outB (blk m c) t), hs⟩
    isplitl [HI]; · iexact HI
    iexact HO
  by_cases c2 : t.val / 8 = 1
  · have hb : k0_cond2 (grid0.coords t) = 1#1 := e2.mpr (by omega)
    unfold Mlp.Inv at hI
    rw [if_neg (by omega)] at hI
    have en : pNorm (iblk m c 0 t) (VecWindow.window (iblk m c 5 t) (![1, 0]) S1x2048.size inb_S2x2048_S1x2048_1_0)
        (VecWindow.window (iblk m c 3 t) (k0_off3 (grid0.coords t)) S1x2048.size (k0_off3_inb (grid0.coords t) hb))
        (VecWindow.window (iblk m c 2 t) (k0_off3 (grid0.coords t)) S1x2048.size (k0_off3_inb (grid0.coords t) hb)) = nrm (blk m c) t := by
      rw [window_row8 (iblk m c 3 t) _ _ (off3_eq t), window_row8 (iblk m c 2 t) _ _ (off3_eq t), window_row2' (iblk m c 5 t)]
      rfl
    have hs := inv_succ_odd (blk m c) t.val (by omega) _ _ _ _ (step_second (blk m c) t _ (off4_eq t) _ _ _ _ hI (by omega))
    refine BIBase.Entails.trans ?_ (body_second c (grid0.coords t) (st0_0 t) _ (st0_1 t) _ (st0_2 t) _ (st0_3 t) _ (st0_4 t) _ (st0_5 t) _ (st0_6 t) _ (st0_7 t) _ (st0_8 t) _ (st0_9 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) Y11 h0 h1 a0 a1 (fun h => by have := e1.mp h; omega) hb (fun h => by have := e3.mp h; omega) (fun h => by have := e4.mp h; omega) (fun h => by have := e5.mp h; omega) Set.univ K)
    rw [en]
    iintro ⟨HI, HO, HK⟩
    isplitl [HI]; · iexact HI
    isplitl [HO]; · iexact HO
    iintro ⟨HI, HO⟩
    iapply HK
    isplitr
    · ipureintro
      exact ⟨(fun h => absurd h (by omega) : 2 ≤ t.val / 8 → Y11 = outB (blk m c) t), hs⟩
    isplitl [HI]; · iexact HI
    iexact HO
  by_cases c9 : t.val / 8 = 9
  · have hb : k0_cond5 (grid0.coords t) = 1#1 := e5.mpr (by omega)
    unfold Mlp.Inv at hI
    rw [if_neg (by omega)] at hI
    have eo : pOut (iblk m c 1 t) (VecWindow.window (iblk m c 4 t) (k0_off11 (grid0.coords t)) S1x2048.size (k0_off11_inb (grid0.coords t) hb))
        (VecWindow.window a1 (k0_off12 (grid0.coords t)) S128x2048.size (k0_off12_inb (grid0.coords t) hb))
        (VecWindow.window (iblk m c 6 t) (![1, 0]) S1x2048.size inb_S2x2048_S1x2048_1_0) = outB (blk m c) t := by
      rw [window_row8 (iblk m c 4 t) _ _ (off11_eq t (by omega)), window_rows128 a1 _ _ (off12_eq t), window_row2' (iblk m c 6 t),
        done_rows (blk m c) t _ (off12_eq t) _ _ _ _ hI (by omega)]
      rfl
    have hs := inv_succ_odd (blk m c) t.val (by omega) _ _ _ _ (step_last (blk m c) t _ (off12_eq t) _ _ _ _ hI (by omega))
    refine BIBase.Entails.trans ?_ (body_last c (grid0.coords t) (st0_0 t) _ (st0_1 t) _ (st0_2 t) _ (st0_3 t) _ (st0_4 t) _ (st0_5 t) _ (st0_6 t) _ (st0_7 t) _ (st0_8 t) _ (st0_9 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) Y11 h0 h1 a0 a1 (fun h => by have := e1.mp h; omega) (fun h => by have := e2.mp h; omega) (fun h => by have := e3.mp h; omega) (fun h => by have := e4.mp h; omega) hb Set.univ K)
    rw [eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO
  by_cases c3 : t.val / 8 % 2 = 0
  · have hb : k0_cond3 (grid0.coords t) = 1#1 := e3.mpr (by omega)
    unfold Mlp.Inv at hI
    rw [if_pos (by omega)] at hI
    have en : pNorm (iblk m c 0 t) (VecWindow.window (iblk m c 5 t) (![1, 0]) S1x2048.size inb_S2x2048_S1x2048_1_0)
        (VecWindow.window (iblk m c 3 t) (k0_off5 (grid0.coords t)) S1x2048.size (k0_off5_inb (grid0.coords t) hb))
        (VecWindow.window (iblk m c 2 t) (k0_off5 (grid0.coords t)) S1x2048.size (k0_off5_inb (grid0.coords t) hb)) = nrm (blk m c) t := by
      rw [window_row8 (iblk m c 3 t) _ _ (off5_eq t), window_row8 (iblk m c 2 t) _ _ (off5_eq t), window_row2' (iblk m c 5 t)]
      rfl
    have eo : pOut (iblk m c 1 t) (VecWindow.window (iblk m c 4 t) (k0_off7 (grid0.coords t)) S1x2048.size (k0_off7_inb (grid0.coords t) hb))
        (VecWindow.window a0 (k0_off6 (grid0.coords t)) S128x2048.size (k0_off6_inb (grid0.coords t) hb))
        (VecWindow.window (iblk m c 6 t) (![1, 0]) S1x2048.size inb_S2x2048_S1x2048_1_0) = outB (blk m c) t := by
      rw [window_row8 (iblk m c 4 t) _ _ (off7_eq t (by omega)), window_rows128 a0 _ _ (off6_eq t), window_row2' (iblk m c 6 t),
        done_rows (blk m c) t _ (off6_eq t) _ _ _ _ hI (by omega)]
      rfl
    have hs := inv_succ_even (blk m c) t.val (by omega) _ _ _ _ (step_steady (blk m c) t _ (off6_eq t) _ _ _ _ hI (by omega) (by omega))
    refine BIBase.Entails.trans ?_ (body_even c (grid0.coords t) (st0_0 t) _ (st0_1 t) _ (st0_2 t) _ (st0_3 t) _ (st0_4 t) _ (st0_5 t) _ (st0_6 t) _ (st0_7 t) _ (st0_8 t) _ (st0_9 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) Y11 h0 h1 a0 a1 (fun h => by have := e1.mp h; omega) (fun h => by have := e2.mp h; omega) hb (fun h => by have := e4.mp h; omega) (fun h => by have := e5.mp h; omega) Set.univ K)
    rw [en, eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO
  · have hb : k0_cond4 (grid0.coords t) = 1#1 := e4.mpr (by omega)
    unfold Mlp.Inv at hI
    rw [if_neg (by omega)] at hI
    have en : pNorm (iblk m c 0 t) (VecWindow.window (iblk m c 5 t) (![1, 0]) S1x2048.size inb_S2x2048_S1x2048_1_0)
        (VecWindow.window (iblk m c 3 t) (k0_off8 (grid0.coords t)) S1x2048.size (k0_off8_inb (grid0.coords t) hb))
        (VecWindow.window (iblk m c 2 t) (k0_off8 (grid0.coords t)) S1x2048.size (k0_off8_inb (grid0.coords t) hb)) = nrm (blk m c) t := by
      rw [window_row8 (iblk m c 3 t) _ _ (off8_eq t), window_row8 (iblk m c 2 t) _ _ (off8_eq t), window_row2' (iblk m c 5 t)]
      rfl
    have eo : pOut (iblk m c 1 t) (VecWindow.window (iblk m c 4 t) (k0_off10 (grid0.coords t)) S1x2048.size (k0_off10_inb (grid0.coords t) hb))
        (VecWindow.window a1 (k0_off9 (grid0.coords t)) S128x2048.size (k0_off9_inb (grid0.coords t) hb))
        (VecWindow.window (iblk m c 6 t) (![1, 0]) S1x2048.size inb_S2x2048_S1x2048_1_0) = outB (blk m c) t := by
      rw [window_row8 (iblk m c 4 t) _ _ (off10_eq t (by omega)), window_rows128 a1 _ _ (off9_eq t), window_row2' (iblk m c 6 t),
        done_rows (blk m c) t _ (off9_eq t) _ _ _ _ hI (by omega)]
      rfl
    have hs := inv_succ_odd (blk m c) t.val (by omega) _ _ _ _ (step_steady (blk m c) t _ (off9_eq t) _ _ _ _ hI (by omega) (by omega))
    refine BIBase.Entails.trans ?_ (body_odd c (grid0.coords t) (st0_0 t) _ (st0_1 t) _ (st0_2 t) _ (st0_3 t) _ (st0_4 t) _ (st0_5 t) _ (st0_6 t) _ (st0_7 t) _ (st0_8 t) _ (st0_9 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) Y11 h0 h1 a0 a1 (fun h => by have := e1.mp h; omega) (fun h => by have := e2.mp h; omega) (fun h => by have := e3.mp h; omega) hb (fun h => by have := e5.mp h; omega) Set.univ K)
    rw [en, eo]
    iintro ⟨HI, HO, HK⟩
    isplitl [HI]; · iexact HI
    isplitl [HO]; · iexact HO
    iintro ⟨HI, HO⟩
    iapply HK
    isplitr
    · ipureintro
      exact ⟨fun _ => rfl, hs⟩
    isplitl [HI]; · iexact HI
    iexact HO

theorem defs₀_row (t : Fin cfg0.N) : defs₀ (F := F) .tc cfg0.body (cfg0.bodyArgs t (cfg0.slots t)) = bodyAt0 t := by
  unfold defs₀; rw [Defs.onTc_tc]

/-- The data with the written windows held to what the body leaves there. -/
def rdats (c : Dev nD) : Pipeline.RDat τ (Elt F) Unit ℕ (UR sig nD τ) ℕ cfg0 c := (dats m 0 c).toRRel fgt (Rl m c)

theorem phi_in (c : Dev nD) : Pipeline.ΦA spec0 c ⊢ (rdats m c).Φ 0 := by
  rw [show (rdats m c).Φ 0 = iprop(scr m c 0 ∗ ∃ r, prngReg c r) from rfl]
  unfold Pipeline.ΦA scr
  rw [scopedRest0_eq]
  simp only [owns_whole]
  iintro ⟨⟨⟨%f0, S0⟩, ⟨%f1, S1⟩, ⟨%f2, S2⟩, ⟨%f3, S3⟩⟩, HP⟩
  isplitl [S0 S1 S2 S3]
  · iexists f0; iexists f1; iexists f2; iexists f3
    isplitr
    · ipureintro; exact inv_zero _ _ _ _ _
    isplitl [S0]; · iexact S0
    isplitl [S1]; · iexact S1
    isplitl [S2]; · iexact S2
    iexact S3
  iexact HP

theorem phi_out (c : Dev nD) : (rdats m c).Φ (Fin.last cfg0.N) ⊢ Pipeline.ΦA spec0 c := by
  rw [show (rdats m c).Φ (Fin.last cfg0.N) = iprop(scr m c cfg0.N ∗ ∃ r, prngReg c r) from rfl]
  unfold Pipeline.ΦA scr
  rw [scopedRest0_eq]
  simp only [owns_whole]
  iintro ⟨⟨%h0, %h1, %a0, %a1, -, S0, S1, S2, S3⟩, HP⟩
  isplitl [S0 S1 S2 S3]
  · isplitl [S0]; · iexists _; iexact S0
    isplitl [S1]; · iexists _; iexact S1
    isplitl [S2]; · iexists _; iexact S2
    iexists _; iexact S3
  iexact HP

theorem obligation (c : Dev nD) : Pipeline.BodyObligationRel (dats m 0 c) (defs₀ (F := F)) 𝒱₀ () Set.univ fgt (Rl m c) := fun t => by
  rw [bigSep_W0, bigSep_W0, defs₀_row]
  simp only [fgt_0, fgt_1, fgt_2, fgt_3, fgt_4, fgt_5, fgt_6, fgt_7, fgt_8, fgt_9, before0_0, before0_1, before0_2, before0_3, before0_4, before0_5, before0_6, before0_7, before0_8]
  rw [show (dats m 0 c).owesAt () t.succ = (dats m 0 c).owesAt () t.castSucc from rfl, after0_0, after0_1, after0_2, after0_3, after0_4, after0_5, after0_6, after0_7, after0_8]
  rw [show (dats m 0 c).Φ t.castSucc = iprop(scr m c t.val ∗ ∃ r, prngReg c r) from rfl,
    show (dats m 0 c).Φ t.succ = iprop(scr m c (t.val + 1) ∗ ∃ r, prngReg c r) from rfl]
  unfold scr
  iintro ⟨⟨⟨%h0, %h1, %a0, %a1, %hI, S0, S1, S2, S3⟩, HP⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, -, H9⟩⟩
  iapply (body_point m c t Y9 h0 h1 a0 a1 hI _)
  unfold ins outs
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 S0 S1 S2 S3]
  · isplitl [H9]; · iexact H9
    isplitl [S0]; · iexact S0
    isplitl [S1]; · iexact S1
    isplitl [S2]; · iexact S2
    iexact S3
  iintro %Z %z0 %z1 %b0 %b1 ⟨%hZ, ⟨H0, H1, H2, H3, H4, H5, H6, H7, H8⟩, ⟨H9, S0, S1, S2, S3⟩⟩
  isplitl [S0 S1 S2 S3 HP]
  · isplitl [S0 S1 S2 S3]
    · iexists z0; iexists z1; iexists b0; iexists b1
      isplitr
      · ipureintro; exact hZ.2
      isplitl [S0]; · iexact S0
      isplitl [S1]; · iexact S1
      isplitl [S2]; · iexact S2
      iexact S3
    iexact HP
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists Z; isplitr
  · ipureintro; exact hZ.1
  iexact H9

-- the launch theorem's implicit arguments are found by unifying its conclusion with this one
set_option backward.isDefEq.respectTransparency.types false in
/-- From any memory with zero counters every execution of the program ends, with each array at contents the data allow and
    every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track_shared (Q' := fun r => Pipeline.RDat.FramePost cfg0 (rdats m) (V m) r ∧ r.2.sem = fun _ => 0)
    cfgs (0 : Fin 1) launch₀0 defs₀ 𝒱₀ (rdats m) m ρ main
    (hbody := fun c => (obligation m c).toRRel) (hq := fun _ _ _ => rfl) (howed := fun _ _ => rfl)
    (V := V m) (hmain := hmain m 𝒱₀) (hA := fun _ _ => rfl) (hin := fun c => phi_in m c) (hout := fun c => phi_out m c) (hQ' := fun _ h => h)

end Cert.Proof.Mlp2

end
-- ==== Proof.Mlp2.Frames.lean ====
module

public import proofs.«01_k».proof.Defs
public import proofs.«01_k».proof.Proof.Gen.Kernel2
public import proofs.«01_k».proof.Proof.Mlp2.Run

@[expose] public section

set_option maxRecDepth 16384

noncomputable section

namespace Cert.Proof.Mlp2

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are as they were. -/
theorem args_kept (r : PUnit × MemSt nD τ sig (Elt F)) (h : Pipeline.RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 1 rfl).trans (V_main_arg0 m c),
    ((h c).2 main_arg1 (Pipeline.mem_restRefs_of main_arg1 (by decide) (by decide))).trans (V_main_arg1 m c),
    (h.arr_in c 5 rfl).trans (V_main_arg2 m c),
    (h.arr_in c 6 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- From any memory with zero counters the call ends with its arguments unchanged and its counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m _ h.1 c, h.2⟩) (run_main m ρ)

/-- The frame claim of the idealized program. -/
theorem frame_kernelIdeal : Cert.quiescent_Kernel2Ideal := fun m ρ _ => run_frame (F := Ideal) m ρ

/-- The two programs' body tables are the same: each has the one label. -/
theorem defs₀_eq : Cert.Kernel2.defs₀ (F := Bits) = Cert.Kernel2Ideal.defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : Cert.Kernel2.defs (F := Bits) = Cert.Kernel2Ideal.defs (F := Bits) :=
  congrArg (Pipeline.defs (Cert.Kernel2Ideal.pcfgs (F := Bits))) defs₀_eq

/-- The frame claim of the program: the two programs have the same text. -/
theorem frame_kernel : Cert.quiescent_Kernel2 := fun m ρ _ => by
  rw [defs_eq]
  exact run_frame (F := Bits) m ρ

end Cert.Proof.Mlp2

end
-- ==== Proof.Mlp2.Blocks.lean ====
module

public import proofs.«01_k».proof.Proof.Mlp2.Run
public import Idealize.ShloMosaic.Lib.Pipeline.ValueKit

@[expose] public section

set_option maxRecDepth 16384

noncomputable section

namespace Cert.Proof.Mlp2

open Cert.Kernel2Ideal Cert.Kernel2Ideal.Gen

open Idealize.ShloMosaic Idealize.ShloMosaic.TcCoe Idealize.SL.Sem

variable {F : FTy → Type} [FloatOps F] (m : (ℓ : Loc nD τ sig) → Buf (Elt F) ℓ) (c : Dev nD)

/-! ## Where the windows stand -/

theorem idx0 (t : Fin grid0.N) (h : t.val / 8 ≤ 7) : win0_0.index t 0 = t.val / 8 / 2 ∧ win0_0.index t 1 = t.val / 8 % 2 * 8 + t.val % 8 ∧ win0_0.index t 2 = 0 :=
  (by decide +kernel : ∀ t : Fin grid0.N, t.val / 8 ≤ 7 → win0_0.index t 0 = t.val / 8 / 2 ∧ win0_0.index t 1 = t.val / 8 % 2 * 8 + t.val % 8 ∧ win0_0.index t 2 = 0) t h
theorem idx1 (t : Fin grid0.N) (h : 2 ≤ t.val / 8) : win0_1.index t 0 = (t.val / 8 - 2) / 2 ∧ win0_1.index t 1 = (t.val / 8 - 2) % 2 * 8 + t.val % 8 ∧ win0_1.index t 2 = 0 :=
  (by decide +kernel : ∀ t : Fin grid0.N, 2 ≤ t.val / 8 → win0_1.index t 0 = (t.val / 8 - 2) / 2 ∧ win0_1.index t 1 = (t.val / 8 - 2) % 2 * 8 + t.val % 8 ∧ win0_1.index t 2 = 0) t h
theorem idx2 (t : Fin grid0.N) : win0_2.index t 0 = 0 ∧ win0_2.index t 1 = 3 :=
  (by decide +kernel : ∀ t : Fin grid0.N, win0_2.index t 0 = 0 ∧ win0_2.index t 1 = 3) t
theorem idx3 (t : Fin grid0.N) : win0_3.index t 0 = 0 ∧ win0_3.index t 1 = 4 :=
  (by decide +kernel : ∀ t : Fin grid0.N, win0_3.index t 0 = 0 ∧ win0_3.index t 1 = 4) t
theorem idx4 (t : Fin grid0.N) : win0_4.index t 0 = 0 ∧ win0_4.index t 1 = 5 :=
  (by decide +kernel : ∀ t : Fin grid0.N, win0_4.index t 0 = 0 ∧ win0_4.index t 1 = 5) t
theorem idx5 (t : Fin grid0.N) : win0_5.index t 0 = 0 ∧ win0_5.index t 1 = 0 :=
  (by decide +kernel : ∀ t : Fin grid0.N, win0_5.index t 0 = 0 ∧ win0_5.index t 1 = 0) t
theorem idx6 (t : Fin grid0.N) : win0_6.index t 0 = 0 ∧ win0_6.index t 1 = 0 :=
  (by decide +kernel : ∀ t : Fin grid0.N, win0_6.index t 0 = 0 ∧ win0_6.index t 1 = 0) t
theorem idx7 (t : Fin grid0.N) (h : 1 ≤ t.val / 8 ∧ t.val / 8 ≤ 8) : win0_7.index t 0 = 0 ∧ win0_7.index t 1 = t.val % 8 :=
  (by decide +kernel : ∀ t : Fin grid0.N, 1 ≤ t.val / 8 ∧ t.val / 8 ≤ 8 → win0_7.index t 0 = 0 ∧ win0_7.index t 1 = t.val % 8) t h
theorem idx8 (t : Fin grid0.N) (h : 1 ≤ t.val / 8 ∧ t.val / 8 ≤ 8) : win0_8.index t 0 = t.val % 8 ∧ win0_8.index t 1 = 0 :=
  (by decide +kernel : ∀ t : Fin grid0.N, 1 ≤ t.val / 8 ∧ t.val / 8 ≤ 8 → win0_8.index t 0 = t.val % 8 ∧ win0_8.index t 1 = 0) t h
theorem idx9 (t : Fin grid0.N) (h : 2 ≤ t.val / 8) : win0_9.index t 0 = (t.val / 8 - 2) / 2 ∧ win0_9.index t 1 = (t.val / 8 - 2) % 2 * 8 + t.val % 8 ∧ win0_9.index t 2 = 0 :=
  (by decide +kernel : ∀ t : Fin grid0.N, 2 ≤ t.val / 8 → win0_9.index t 0 = (t.val / 8 - 2) / 2 ∧ win0_9.index t 1 = (t.val / 8 - 2) % 2 * 8 + t.val % 8 ∧ win0_9.index t 2 = 0) t h

/-! ## The input blocks, at an index -/

theorem iblk0_at (t : Fin grid0.N) (h : t.val / 8 ≤ 7) (y0 : Fin 1) (y1 : Fin 128) (y2 : Fin 2048)
    (y0' : Fin 4) (y1' : Fin 2048) (y2' : Fin 2048)
    (e0 : y0'.val = (t.val / 8 / 2) * 1 + y0.val) (e1 : y1'.val = (t.val / 8 % 2 * 8 + t.val % 8) * 128 + y1.val) (e2 : y2'.val = (0) * 2048 + y2.val) :
    iblk m c 0 t (ix3 y0 y1 y2) = V m c main_arg0 (ix3 y0' y1' y2') := by
  have hi := idx0 t h
  unfold iblk
  rw [View.read_apply]
  show V m c main_arg0 _ = V m c main_arg0 _
  refine congrArg (V m c main_arg0) (funext fun a => Fin.ext ?_)
  match a with
  | ⟨0, _⟩ => show win0_0.index t 0 * 1 + 1 * y0.val = y0'.val; rw [hi.1]; omega
  | ⟨1, _⟩ => show win0_0.index t 1 * 128 + 1 * y1.val = y1'.val; rw [hi.2.1]; omega
  | ⟨2, _⟩ => show win0_0.index t 2 * 2048 + 1 * y2.val = y2'.val; rw [hi.2.2]; omega

theorem iblk1_at (t : Fin grid0.N) (h : 2 ≤ t.val / 8) (y0 : Fin 1) (y1 : Fin 128) (y2 : Fin 2048)
    (y0' : Fin 4) (y1' : Fin 2048) (y2' : Fin 2048)
    (e0 : y0'.val = ((t.val / 8 - 2) / 2) * 1 + y0.val) (e1 : y1'.val = ((t.val / 8 - 2) % 2 * 8 + t.val % 8) * 128 + y1.val) (e2 : y2'.val = (0) * 2048 + y2.val) :
    iblk m c 1 t (ix3 y0 y1 y2) = V m c main_arg0 (ix3 y0' y1' y2') := by
  have hi := idx1 t h
  unfold iblk
  rw [View.read_apply]
  show V m c main_arg0 _ = V m c main_arg0 _
  refine congrArg (V m c main_arg0) (funext fun a => Fin.ext ?_)
  match a with
  | ⟨0, _⟩ => show win0_1.index t 0 * 1 + 1 * y0.val = y0'.val; rw [hi.1]; omega
  | ⟨1, _⟩ => show win0_1.index t 1 * 128 + 1 * y1.val = y1'.val; rw [hi.2.1]; omega
  | ⟨2, _⟩ => show win0_1.index t 2 * 2048 + 1 * y2.val = y2'.val; rw [hi.2.2]; omega

theorem iblk2_at (t : Fin grid0.N) (y0 : Fin 8) (y1 : Fin 2048)
    (y0' : Fin 8) (y1' : Fin 12288)
    (e0 : y0'.val = (0) * 8 + y0.val) (e1 : y1'.val = (3) * 2048 + y1.val) :
    iblk m c 2 t (ix2 y0 y1) = V m c main_v0 (ix2 y0' y1') := by
  have hi := idx2 t
  unfold iblk
  rw [View.read_apply]
  show V m c main_v0 _ = V m c main_v0 _
  refine congrArg (V m c main_v0) (funext fun a => Fin.ext ?_)
  match a with
  | ⟨0, _⟩ => show win0_2.index t 0 * 8 + 1 * y0.val = y0'.val; rw [hi.1]; omega
  | ⟨1, _⟩ => show win0_2.index t 1 * 2048 + 1 * y1.val = y1'.val; rw [hi.2]; omega

theorem iblk3_at (t : Fin grid0.N) (y0 : Fin 8) (y1 : Fin 2048)
    (y0' : Fin 8) (y1' : Fin 12288)
    (e0 : y0'.val = (0) * 8 + y0.val) (e1 : y1'.val = (4) * 2048 + y1.val) :
    iblk m c 3 t (ix2 y0 y1) = V m c main_v0 (ix2 y0' y1') := by
  have hi := idx3 t
  unfold iblk
  rw [View.read_apply]
  show V m c main_v0 _ = V m c main_v0 _
  refine congrArg (V m c main_v0) (funext fun a => Fin.ext ?_)
  match a with
  | ⟨0, _⟩ => show win0_3.index t 0 * 8 + 1 * y0.val = y0'.val; rw [hi.1]; omega
  | ⟨1, _⟩ => show win0_3.index t 1 * 2048 + 1 * y1.val = y1'.val; rw [hi.2]; omega

theorem iblk4_at (t : Fin grid0.N) (y0 : Fin 8) (y1 : Fin 2048)
    (y0' : Fin 8) (y1' : Fin 12288)
    (e0 : y0'.val = (0) * 8 + y0.val) (e1 : y1'.val = (5) * 2048 + y1.val) :
    iblk m c 4 t (ix2 y0 y1) = V m c main_v0 (ix2 y0' y1') := by
  have hi := idx4 t
  unfold iblk
  rw [View.read_apply]
  show V m c main_v0 _ = V m c main_v0 _
  refine congrArg (V m c main_v0) (funext fun a => Fin.ext ?_)
  match a with
  | ⟨0, _⟩ => show win0_4.index t 0 * 8 + 1 * y0.val = y0'.val; rw [hi.1]; omega
  | ⟨1, _⟩ => show win0_4.index t 1 * 2048 + 1 * y1.val = y1'.val; rw [hi.2]; omega

theorem iblk5_at (t : Fin grid0.N) (y0 : Fin 2) (y1 : Fin 2048)
    (y0' : Fin 2) (y1' : Fin 2048)
    (e0 : y0'.val = (0) * 2 + y0.val) (e1 : y1'.val = (0) * 2048 + y1.val) :
    iblk m c 5 t (ix2 y0 y1) = V m c main_arg2 (ix2 y0' y1') := by
  have hi := idx5 t
  unfold iblk
  rw [View.read_apply]
  show V m c main_arg2 _ = V m c main_arg2 _
  refine congrArg (V m c main_arg2) (funext fun a => Fin.ext ?_)
  match a with
  | ⟨0, _⟩ => show win0_5.index t 0 * 2 + 1 * y0.val = y0'.val; rw [hi.1]; omega
  | ⟨1, _⟩ => show win0_5.index t 1 * 2048 + 1 * y1.val = y1'.val; rw [hi.2]; omega

theorem iblk6_at (t : Fin grid0.N) (y0 : Fin 2) (y1 : Fin 2048)
    (y0' : Fin 2) (y1' : Fin 2048)
    (e0 : y0'.val = (0) * 2 + y0.val) (e1 : y1'.val = (0) * 2048 + y1.val) :
    iblk m c 6 t (ix2 y0 y1) = V m c main_arg3 (ix2 y0' y1') := by
  have hi := idx6 t
  unfold iblk
  rw [View.read_apply]
  show V m c main_arg3 _ = V m c main_arg3 _
  refine congrArg (V m c main_arg3) (funext fun a => Fin.ext ?_)
  match a with
  | ⟨0, _⟩ => show win0_6.index t 0 * 2 + 1 * y0.val = y0'.val; rw [hi.1]; omega
  | ⟨1, _⟩ => show win0_6.index t 1 * 2048 + 1 * y1.val = y1'.val; rw [hi.2]; omega

theorem iblk7_at (t : Fin grid0.N) (h : 1 ≤ t.val / 8 ∧ t.val / 8 ≤ 8) (y0 : Fin 2048) (y1 : Fin 1024)
    (y0' : Fin 2048) (y1' : Fin 8192)
    (e0 : y0'.val = (0) * 2048 + y0.val) (e1 : y1'.val = (t.val % 8) * 1024 + y1.val) :
    iblk m c 7 t (ix2 y0 y1) = V m c main_v3 (ix2 y0' y1') := by
  have hi := idx7 t h
  unfold iblk
  rw [View.read_apply]
  show V m c main_v3 _ = V m c main_v3 _
  refine congrArg (V m c main_v3) (funext fun a => Fin.ext ?_)
  match a with
  | ⟨0, _⟩ => show win0_7.index t 0 * 2048 + 1 * y0.val = y0'.val; rw [hi.1]; omega
  | ⟨1, _⟩ => show win0_7.index t 1 * 1024 + 1 * y1.val = y1'.val; rw [hi.2]; omega

theorem iblk8_at (t : Fin grid0.N) (h : 1 ≤ t.val / 8 ∧ t.val / 8 ≤ 8) (y0 : Fin 1024) (y1 : Fin 2048)
    (y0' : Fin 8192) (y1' : Fin 2048)
    (e0 : y0'.val = (t.val % 8) * 1024 + y0.val) (e1 : y1'.val = (0) * 2048 + y1.val) :
    iblk m c 8 t (ix2 y0 y1) = V m c main_v6 (ix2 y0' y1') := by
  have hi := idx8 t h
  unfold iblk
  rw [View.read_apply]
  show V m c main_v6 _ = V m c main_v6 _
  refine congrArg (V m c main_v6) (funext fun a => Fin.ext ?_)
  match a with
  | ⟨0, _⟩ => show win0_8.index t 0 * 1024 + 1 * y0.val = y0'.val; rw [hi.1]; omega
  | ⟨1, _⟩ => show win0_8.index t 1 * 2048 + 1 * y1.val = y1'.val; rw [hi.2]; omega

end Cert.Proof.Mlp2

end
-- ==== Proof.Mlp2.Host.lean ====
module

public import proofs.«01_k».proof.Proof.Mlp2.Run
public import proofs.«01_k».proof.Proof.Mlp.Pay
public import Idealize.ShloMosaic.Lib.Pointwise

@[expose] public section

set_option maxRecDepth 16384

noncomputable section

namespace Cert.Proof.Mlp2

open Cert.Kernel2Ideal Cert.Kernel2Ideal.Gen

open Idealize.ShloMosaic Idealize.ShloMosaic.TcCoe Idealize.SL.Sem

/-! ## What the host operations before the call leave, at an index -/

variable (m : (ℓ : Loc nD τ sig) → Buf (Elt Ideal) ℓ) (c : Dev nD)

theorem V_v0 : V m c main_v0 = pad S8x12288 ![0, 0] ![4, 0] ![0, 0] (m ((c.tc : Thread nD τ).loc main_arg1))
    (sitofp (F := Ideal) .f32 (constantI S_ 32 0#32)) pads_S4x12288_S8x12288_040_000 h_S_ := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v3 : V m c main_v3 = truncf (F := Ideal) (φ := .f32) .bf16 (shapeCast S2048x8192 (extractStridedSlice S1x2048x8192 ![1, 0, 0] (m ((c.tc : Thread nD τ).loc main_arg4)) slices_S2x2048x8192_S1x2048x8192_1_0_0) shapeCasts_S1x2048x8192_S2048x8192) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v6 : V m c main_v6 = truncf (F := Ideal) (φ := .f32) .bf16 (shapeCast S8192x2048 (extractStridedSlice S1x8192x2048 ![1, 0, 0] (m ((c.tc : Thread nD τ).loc main_arg5)) slices_S2x8192x2048_S1x8192x2048_1_0_0) shapeCasts_S1x8192x2048_S8192x2048) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem pad_at (x : Vec Ideal S4x12288 .f32) (b : Fin 8) (hb : b.val < 4) (k : Fin 12288) :
    pad S8x12288 ![0, 0] ![4, 0] ![0, 0] x (sitofp (F := Ideal) .f32 (constantI S_ 32 0#32)) pads_S4x12288_S8x12288_040_000 h_S_ (ix2 b k)
      = x (ix2 (n0 := 4) (n1 := 12288) ⟨b.val, hb⟩ k) := by
  pointwise
  rw [dif_pos hb]

theorem V_v0_at (b : Fin 8) (hb : b.val < 4) (k : Fin 12288) :
    V m c main_v0 (ix2 b k) = m ((c.tc : Thread nD τ).loc main_arg1) (ix2 (n0 := 4) (n1 := 12288) ⟨b.val, hb⟩ k) := by
  rw [V_v0]
  exact pad_at _ b hb k

theorem V_v3_at (r : Fin 2048) (k : Fin 8192) :
    V m c main_v3 (ix2 r k) = m ((c.tc : Thread nD τ).loc main_arg4) (ix3 1 r k) := by
  rw [V_v3]
  generalize m ((c.tc : Thread nD τ).loc main_arg4) = x
  pointwise

theorem V_v6_at (r : Fin 8192) (k : Fin 2048) :
    V m c main_v6 (ix2 r k) = m ((c.tc : Thread nD τ).loc main_arg5) (ix3 1 r k) := by
  rw [V_v6]
  generalize m ((c.tc : Thread nD τ).loc main_arg5) = x
  pointwise

end Cert.Proof.Mlp2

end
-- ==== Proof.Mlp2.Value.lean ====
module

public import proofs.«01_k».proof.Proof.Mlp2.Blocks
public import proofs.«01_k».proof.Proof.Mlp2.Host
public import proofs.«01_k».proof.Proof.Mlp.Core
public import Idealize.ShloMosaic.Lib.Pipeline.ValueKit

@[expose] public section

set_option maxRecDepth 16384

noncomputable section

namespace Cert.Proof.Mlp2

open Cert.Kernel2Ideal Cert.Kernel2Ideal.Gen

open Idealize.ShloMosaic Idealize.ShloMosaic.TcCoe Idealize.SL.Sem

open Cert.Proof.Mlp (Reads row8 row2)

/-! ## What the call's blocks hold, in its arguments -/

variable (m : (ℓ : Loc nD τ sig) → Buf (Elt Ideal) ℓ) (c : Dev nD)

/-- The arguments of core `c`. -/
abbrev gX : Vec Ideal S4x2048x2048 .f32 := m ((c.tc : Thread nD τ).loc main_arg0)
abbrev gMod : Vec Ideal S4x12288 .f32 := m ((c.tc : Thread nD τ).loc main_arg1)
abbrev gPre : Vec Ideal S2x2048 .f32 := m ((c.tc : Thread nD τ).loc main_arg2)
abbrev gPost : Vec Ideal S2x2048 .f32 := m ((c.tc : Thread nD τ).loc main_arg3)
abbrev gUp : Vec Ideal S2x2048x8192 .f32 := m ((c.tc : Thread nD τ).loc main_arg4)
abbrev gDn : Vec Ideal S2x8192x2048 .f32 := m ((c.tc : Thread nD τ).loc main_arg5)

theorem blk_x (t : Fin grid0.N) : (blk m c).x t = iblk m c 0 t := rfl
theorem blk_xd (t : Fin grid0.N) : (blk m c).xd t = iblk m c 1 t := rfl
theorem blk_wup (t : Fin grid0.N) : (blk m c).wup t = iblk m c 7 t := rfl
theorem blk_wdn (t : Fin grid0.N) : (blk m c).wdn t = iblk m c 8 t := rfl

/-- The blocks hold the arguments. -/
theorem reads : Reads (blk m c) (gX m c) (gMod m c) (gPre m c) (gPost m c) (gUp m c) (gDn m c) 1 where
  h_x t h r k b s e0 e1 := by
    rw [blk_x, iblk0_at m c _ h 0 r k b s k (by show b.val = _ * 1 + 0; omega) e1 (by omega), V_main_arg0]
  h_xd t h r k b s e0 e1 := by
    rw [blk_xd, iblk1_at m c _ h 0 r k b s k (by show b.val = _ * 1 + 0; omega) e1 (by omega), V_main_arg0]
  h_shift t q b h d := by
    show iblk m c 2 t (ix2 ⟨q % 8, _⟩ d) = _
    rw [iblk2_at m c t ⟨q % 8, Nat.mod_lt _ (by decide)⟩ d ⟨b.val, by omega⟩ ⟨6144 + d.val, by omega⟩ (by show b.val = 0 * 8 + q % 8; omega)
      (by show 6144 + d.val = 3 * 2048 + d.val; omega), V_v0_at m c _ b.isLt]
  h_scale t q b h d := by
    show iblk m c 3 t (ix2 ⟨q % 8, _⟩ d) = _
    rw [iblk3_at m c t ⟨q % 8, Nat.mod_lt _ (by decide)⟩ d ⟨b.val, by omega⟩ ⟨8192 + d.val, by omega⟩ (by show b.val = 0 * 8 + q % 8; omega)
      (by show 8192 + d.val = 4 * 2048 + d.val; omega), V_v0_at m c _ b.isLt]
  h_gate t q b h d := by
    show iblk m c 4 t (ix2 ⟨q % 8, _⟩ d) = _
    rw [iblk4_at m c t ⟨q % 8, Nat.mod_lt _ (by decide)⟩ d ⟨b.val, by omega⟩ ⟨10240 + d.val, by omega⟩ (by show b.val = 0 * 8 + q % 8; omega)
      (by show 10240 + d.val = 5 * 2048 + d.val; omega), V_v0_at m c _ b.isLt]
  h_gpre t d := by
    show iblk m c 5 t (ix2 1 d) = _
    rw [iblk5_at m c t 1 d 1 d (by decide) (by omega), V_main_arg2]
  h_gpost t d := by
    show iblk m c 6 t (ix2 1 d) = _
    rw [iblk6_at m c t 1 d 1 d (by decide) (by omega), V_main_arg3]
  h_wup t h k f f' e := by rw [blk_wup, iblk7_at m c _ h k f k f' (by omega) e, V_v3_at]
  h_wdn t h f d f' e := by rw [blk_wdn, iblk8_at m c _ h f d f' d e (by omega), V_v6_at]

end Cert.Proof.Mlp2

end
-- ==== Proof.Mlp2.Ref.lean ====
module

public import proofs.«01_k».proof.Proof.Mlp.Ref
public import proofs.«01_k».proof.Proof.Gen.Reference2Ideal.Run
public import Idealize.ShloMosaic.Lib.Pointwise

@[expose] public section

set_option maxRecDepth 16384

noncomputable section

namespace Cert.Proof.Mlp2

open Cert.Reference2Ideal Cert.Reference2Ideal.Gen Cert.Reference2Ideal.Value

open Idealize.ShloMosaic Idealize.ShloMosaic.TcCoe Idealize.SL.Sem

variable (m : (ℓ : Loc nD τ sig) → Buf (Elt Ideal) ℓ) (c : Dev nD)

open Cert.Proof.Mlp (res mlp act hid rms sqp)

/-- The reference's result, at an index: that of the MLP of the second layer. -/
theorem ref_at (b : Fin 4) (s d : Fin 2048) :
    res_main_v55 (F := Ideal) m c (ix3 b s d)
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) 1 b s d := by
  unfold res_main_v55 res mlp act hid rms sqp
  generalize m ((c.tc : Thread nD τ).loc main_arg0) = x
  generalize m ((c.tc : Thread nD τ).loc main_arg1) = mod
  generalize m ((c.tc : Thread nD τ).loc main_arg2) = gpre
  generalize m ((c.tc : Thread nD τ).loc main_arg3) = gpost
  generalize m ((c.tc : Thread nD τ).loc main_arg4) = wup
  generalize m ((c.tc : Thread nD τ).loc main_arg5) = wdn
  pointwise

end Cert.Proof.Mlp2

end
-- ==== Proof.Mlp2.Algebraic.lean ====
module

public import proofs.«01_k».proof.Proof.Mlp2.Value
public import proofs.«01_k».proof.Proof.Mlp2.Frames
public import proofs.«01_k».proof.Proof.Mlp2.Ref
public import Idealize.ShloMosaic.Lib.Pipeline.ArrRel

@[expose] public section

set_option maxRecDepth 16384

noncomputable section

namespace Cert.Proof.Mlp2

open Cert.Kernel2Ideal Cert.Kernel2Ideal.Gen

open Idealize.ShloMosaic Idealize.ShloMosaic.TcCoe Idealize.SL.Sem

open Cert.Proof.Mlp (res outB outB_at)

/-! ## The array after the call -/

variable (m : (ℓ : Loc nD τ sig) → Buf (Elt Ideal) ℓ) (c : Dev nD)

/-- The result, of the arguments. -/
def out0 : Vec Ideal S4x2048x2048 .f32 := fun y => res (gX m c) (gMod m c) (gPre m c) (gPost m c) (gUp m c) (gDn m c) 1 (y 0) (y 1) (y 2)

theorem flush9 (t : Fin cfg0.N) (h : (cfg0.win 9).flush t = true) : 2 ≤ t.val / 8 :=
  (by decide +kernel : ∀ t : Fin cfg0.N, (cfg0.win 9).flush t = true → 2 ≤ t.val / 8) t h

/-- The arrays at the end, of any contents that the body may have left. -/
theorem arrays (r : PUnit × MemSt nD τ sig (Elt Ideal)) (h : Pipeline.RDat.FramePost cfg0 (rdats m) (V m) r) :
    r.2.mem ((c.tc : Thread nD τ).loc main_v7) = out0 m c := by
  obtain ⟨after, hL, hA⟩ := h.exists_exact c
  have l0 : ∀ t, (cfg0.win 9).flush t = true → after 9 t = outB (blk m c) t := fun t hf =>
    ((dats m 0 c).toRRel_leaves (fgt := fgt) (Rl := Rl m c) fgt_9 (hL 9 t hf)) (flush9 t hf)
  refine (hA 9).trans ?_
  · refine ((rdats m c).withAfter after).arrAt_eq_of_covers 9 (out0 m c) (by decide +kernel) fun t hf y => ?_
    have hi := idx9 t (flush9 t hf)
    rw [Pipeline.RDat.withAfter_after, l0 t hf]
    have e0 : (((cfg0.win 9).blk t).view.emb y 0).val = (t.val / 8 - 2) / 2 := by
      show win0_9.index t 0 * 1 + 1 * (y 0).val = _
      have h0 : (y 0).val < 1 := (y 0).isLt
      rw [hi.1]; omega
    have e1 : (((cfg0.win 9).blk t).view.emb y 1).val = ((t.val / 8 - 2) % 2 * 8 + t.val % 8) * 128 + (y 1).val := by
      show win0_9.index t 1 * 128 + 1 * (y 1).val = _
      rw [hi.2.1]; omega
    have e2 : (((cfg0.win 9).blk t).view.emb y 2).val = (y 2).val := by
      show win0_9.index t 2 * 2048 + 1 * (y 2).val = _
      rw [hi.2.2]; omega
    have ey : (cfg0.win 9).xinj (cfg0.grid.coords t) y = ix3 (n0 := 1) (n1 := 128) (n2 := 2048) 0 (y 1) (y 2) :=
      funext fun a => by
        match a with
        | ⟨0, _⟩ => exact Fin.ext (show (y 0).val = 0 by have h0 : (y 0).val < 1 := (y 0).isLt; omega)
        | ⟨1, _⟩ => rfl
        | ⟨2, _⟩ => rfl
    rw [cast_eq, ey]
    refine (outB_at (reads m c) t (flush9 t hf) (y 1) (y 2) _ _ e0 e1).trans ?_
    unfold out0
    exact congrArg _ (Fin.ext e2.symm)

/-- The call and the reference leave the same result, and their arguments as they were. -/
theorem algebraic : Cert.algebraic_Kernel2Ideal_Reference2Ideal := fun m g m' g' _ hm => by
  refine ⟨fun c => out0 m c, ?_, ?_⟩
  · exact (θ_run defs _ _).mono (fun r h c => ⟨arrays m c r h.1, args_kept m r h.1 c⟩) (run_main m g)
  · refine (θ_run Cert.Reference2Ideal.defs _ _).mono (fun r h c => ?_) (Cert.Reference2Ideal.Value.run (F := Ideal) m' g')
    obtain ⟨h0, hk⟩ := h c
    obtain ⟨a0, a1, a2, a3, a4, a5⟩ := hm c
    refine ⟨h0.trans (funext fun y => ?_), hk⟩
    refine (congrArg _ (eq_ix3 (n0 := 4) (n1 := 2048) (n2 := 2048) y)).trans ?_
    refine (ref_at m' c _ _ _).trans ?_
    rw [a0, a1, a2, a3, a4, a5]
    rfl

end Cert.Proof.Mlp2

end
-- ==== Proof.Out.Body.lean ====
module

public import proofs.«01_k».proof.Proof.Gen.Kernel3Ideal.Frame
public import proofs.«01_k».proof.Proof.Gen.Kernel3Ideal.Skeleton
public import proofs.«01_k».proof.Proof.Mlp.Base

@[expose] public section

set_option maxRecDepth 16384

noncomputable section

namespace Cert.Proof.Out

open Cert.Kernel3Ideal Cert.Kernel3Ideal.Gen
open Cert.Proof.Mlp (𝒱₀ readAt_window read_put window_whole put_whole_at)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values the body computes -/

/-- A tile of rows projected. -/
def pProj (a b : Vec F S1x512x1024 .bf16) (w : Vec F S2048x2048 .bf16) : Vec F S512x2048 .f32 :=
  k0_pay8 a (VecWindow.window w (![0, 0]) S1024x2048.size inb_S2048x2048_S1024x2048_0_0)
    b (VecWindow.window w (![1024, 0]) S1024x2048.size inb_S2048x2048_S1024x2048_1024_0)
/-- A tile of rows of the result. -/
def pFin (x : Vec F S1x512x2048 .f32) (gate : Vec F S1x2048 .f32) (y : Vec F S512x2048 .f32) (g : Vec F S1x2048 .f32) : Vec F S1x512x2048 .f32 :=
  k0_pay9 (k0_pay2 x) (k0_pay3 gate y g)

/-- Whether the point is the first. -/
abbrev cond1 (i : grid0.Coords) : BitVec 1 := Scalar.cmpi .ne (Scalar.extui (Scalar.cmpi .eq (BitVec.ofNat 32 (i 0).val) 0#32) : BitVec 32) 0#32

theorem whole_S1x512x1024 {α : Type} (x : S1x512x1024.Idx → α) (inb : ∀ a, (![0, 0, 0] : Fin 3 → ℕ) a + (![1, 512, 1024] : Fin 3 → ℕ) a ≤ S1x512x1024.size a) :
    VecWindow.window (s := S1x512x1024) x ![0, 0, 0] ![1, 512, 1024] inb = x := window_whole x _ inb
theorem whole_S1x512x2048 {α : Type} (x : S1x512x2048.Idx → α) (inb : ∀ a, (![0, 0, 0] : Fin 3 → ℕ) a + (![1, 512, 2048] : Fin 3 → ℕ) a ≤ S1x512x2048.size a) :
    VecWindow.window (s := S1x512x2048) x ![0, 0, 0] ![1, 512, 2048] inb = x := window_whole x _ inb
theorem whole_S512x2048 {α : Type} (x : S512x2048.Idx → α) (inb : ∀ a, (![0, 0] : Fin 2 → ℕ) a + (![512, 2048] : Fin 2 → ℕ) a ≤ S512x2048.size a) :
    VecWindow.window (s := S512x2048) x ![0, 0] ![512, 2048] inb = x := window_whole x _ inb
theorem putw_S1x512x2048 {α : Type} (x w : S1x512x2048.Idx → α) :
    VecWindow.put (s := S1x512x2048) x ![0, 0, 0] ![1, 512, 2048] w = w := put_whole_at x w _ (by decide)
theorem putw_S512x2048 {α : Type} (x w : S512x2048.Idx → α) :
    VecWindow.put (s := S512x2048) x ![0, 0] ![512, 2048] w = w := put_whole_at x w _ (by decide)

/-! ## The body on any staging memrefs -/

section
variable (c : Dev nD) (i : grid0.Coords)
  (M1 : Memref sig .tc .vmem S1x512x1024 .bf16) (h1 : M1.IsWhole)
  (M2 : Memref sig .tc .vmem S1x512x1024 .bf16) (h2 : M2.IsWhole)
  (M3 : Memref sig .tc .vmem S2048x2048 .bf16) (h3 : M3.IsWhole)
  (M4 : Memref sig .tc .vmem S1x512x2048 .f32) (h4 : M4.IsWhole)
  (M5 : Memref sig .tc .vmem S8x2048 .f32) (h5 : M5.IsWhole)
  (M6 : Memref sig .tc .vmem S2x2048 .f32) (h6 : M6.IsWhole)
  (M7 : Memref sig .tc .vmem S1x512x2048 .f32) (h7 : M7.IsWhole)
  (M8 : Memref sig .tc .vmem S512x2048 .f32) (h8 : M8.IsWhole)
  (M9 : Memref sig .tc .vmem S512x2048 .f32) (h9 : M9.IsWhole)
  (X1 : Vec F S1x512x1024 .bf16) (X2 : Vec F S1x512x1024 .bf16) (X3 : Vec F S2048x2048 .bf16) (X4 : Vec F S1x512x2048 .f32) (X5 : Vec F S8x2048 .f32) (X6 : Vec F S2x2048 .f32)
  (Y7 : Vec F S1x512x2048 .f32) (Y8 : Vec F S512x2048 .f32) (Y9 : Vec F S512x2048 .f32)

/-- The six input buffers, each at its block. -/
def ins : sProp 𝕄 :=
  iprop(owns (c : Thread nD τ) M1 fullShare X1
    ∗ owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6)

/-- The output buffer and the two scratch buffers. -/
def outs : sProp 𝕄 :=
  iprop(owns (c : Thread nD τ) M7 fullShare Y7
    ∗ owns (c : Thread nD τ) M8 fullShare Y8
    ∗ owns (c : Thread nD τ) M9 fullShare Y9)

set_option maxHeartbeats 4000000 in
/-- The `first` branch of the body. -/
theorem body_first (hc : cond1 i = 1#1) (n2 : ¬ k0_cond2 i = 1#1) (n3 : ¬ k0_cond3 i = 1#1) (n4 : ¬ k0_cond4 i = 1#1) (E : Set ℕ) (K : PUnit → sProp 𝕄) :
    iprop(ins c M1 M2 M3 M4 M5 M6 X1 X2 X3 X4 X5 X6
        ∗ outs c M7 M8 M9 Y7 Y8 Y9
        ∗ (iprop(ins c M1 M2 M3 M4 M5 M6 X1 X2 X3 X4 X5 X6
          ∗ outs c M7 M8 M9
              Y7
              (pProj X1 X2 X3)
              Y9) -∗ K ⟨⟩))
      ⊢ wp frame (wpE (defs₀ (F := F)) 𝒱₀ c none) E (cc0_out_proj i M1 h1 M2 h2 M3 h3 M4 h4 M5 h5 M6 h6 M7 h7 M8 h8 M9 h9) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  sl_unfold [cc0_out_proj]
  sl_open_parts
  sl_exec
  sl_step
  iapply Hk
  isplitl [H1 H2 H3 H4 H5 H6]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  iexists _; isplitr; swap; iexact H6; rotate_left
  isplitl [H7]; iexists _; isplitr; swap; iexact H7; rotate_left
  isplitl [H8]; iexists _; isplitr; swap; iexact H8; rotate_left
  iexists _; isplitr; swap; iexact H9; rotate_left
  all_goals
    ipureintro
    simp only [View.read_writes_full, View.readAt_full, readAt_window, read_put, putw_S1x512x2048, putw_S512x2048, whole_S1x512x1024, whole_S1x512x2048, whole_S512x2048,
      Memref.IsWhole.read_unread] <;> rfl

set_option maxHeartbeats 4000000 in
/-- The `odd` branch of the body. -/
theorem body_odd (n1 : ¬ cond1 i = 1#1) (hc : k0_cond2 i = 1#1) (n3 : ¬ k0_cond3 i = 1#1) (n4 : ¬ k0_cond4 i = 1#1) (E : Set ℕ) (K : PUnit → sProp 𝕄) :
    iprop(ins c M1 M2 M3 M4 M5 M6 X1 X2 X3 X4 X5 X6
        ∗ outs c M7 M8 M9 Y7 Y8 Y9
        ∗ (iprop(ins c M1 M2 M3 M4 M5 M6 X1 X2 X3 X4 X5 X6
          ∗ outs c M7 M8 M9
              (pFin X4 (VecWindow.window X5 (k0_off1 i) S1x2048.size (k0_off1_inb i hc)) Y8 (VecWindow.window X6 (![0, 0]) S1x2048.size inb_S2x2048_S1x2048_0_0))
              Y8
              (pProj X1 X2 X3)) -∗ K ⟨⟩))
      ⊢ wp frame (wpE (defs₀ (F := F)) 𝒱₀ c none) E (cc0_out_proj i M1 h1 M2 h2 M3 h3 M4 h4 M5 h5 M6 h6 M7 h7 M8 h8 M9 h9) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  sl_unfold [cc0_out_proj]
  sl_open_parts
  sl_exec
  sl_step
  iapply Hk
  isplitl [H1 H2 H3 H4 H5 H6]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  iexists _; isplitr; swap; iexact H6; rotate_left
  isplitl [H7]; iexists _; isplitr; swap; iexact H7; rotate_left
  isplitl [H8]; iexists _; isplitr; swap; iexact H8; rotate_left
  iexists _; isplitr; swap; iexact H9; rotate_left
  all_goals
    ipureintro
    simp only [View.read_writes_full, View.readAt_full, readAt_window, read_put, putw_S1x512x2048, putw_S512x2048, whole_S1x512x1024, whole_S1x512x2048, whole_S512x2048,
      Memref.IsWhole.read_unread] <;> rfl

set_option maxHeartbeats 4000000 in
/-- The `even` branch of the body. -/
theorem body_even (n1 : ¬ cond1 i = 1#1) (n2 : ¬ k0_cond2 i = 1#1) (hc : k0_cond3 i = 1#1) (n4 : ¬ k0_cond4 i = 1#1) (E : Set ℕ) (K : PUnit → sProp 𝕄) :
    iprop(ins c M1 M2 M3 M4 M5 M6 X1 X2 X3 X4 X5 X6
        ∗ outs c M7 M8 M9 Y7 Y8 Y9
        ∗ (iprop(ins c M1 M2 M3 M4 M5 M6 X1 X2 X3 X4 X5 X6
          ∗ outs c M7 M8 M9
              (pFin X4 (VecWindow.window X5 (k0_off2 i) S1x2048.size (k0_off2_inb i hc)) Y9 (VecWindow.window X6 (![0, 0]) S1x2048.size inb_S2x2048_S1x2048_0_0))
              (pProj X1 X2 X3)
              Y9) -∗ K ⟨⟩))
      ⊢ wp frame (wpE (defs₀ (F := F)) 𝒱₀ c none) E (cc0_out_proj i M1 h1 M2 h2 M3 h3 M4 h4 M5 h5 M6 h6 M7 h7 M8 h8 M9 h9) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  sl_unfold [cc0_out_proj]
  sl_open_parts
  sl_exec
  sl_step
  iapply Hk
  isplitl [H1 H2 H3 H4 H5 H6]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  iexists _; isplitr; swap; iexact H6; rotate_left
  isplitl [H7]; iexists _; isplitr; swap; iexact H7; rotate_left
  isplitl [H8]; iexists _; isplitr; swap; iexact H8; rotate_left
  iexists _; isplitr; swap; iexact H9; rotate_left
  all_goals
    ipureintro
    simp only [View.read_writes_full, View.readAt_full, readAt_window, read_put, putw_S1x512x2048, putw_S512x2048, whole_S1x512x1024, whole_S1x512x2048, whole_S512x2048,
      Memref.IsWhole.read_unread] <;> rfl

set_option maxHeartbeats 4000000 in
/-- The `last` branch of the body. -/
theorem body_last (n1 : ¬ cond1 i = 1#1) (n2 : ¬ k0_cond2 i = 1#1) (n3 : ¬ k0_cond3 i = 1#1) (hc : k0_cond4 i = 1#1) (E : Set ℕ) (K : PUnit → sProp 𝕄) :
    iprop(ins c M1 M2 M3 M4 M5 M6 X1 X2 X3 X4 X5 X6
        ∗ outs c M7 M8 M9 Y7 Y8 Y9
        ∗ (iprop(ins c M1 M2 M3 M4 M5 M6 X1 X2 X3 X4 X5 X6
          ∗ outs c M7 M8 M9
              (pFin X4 (VecWindow.window X5 (k0_off3 i) S1x2048.size (k0_off3_inb i hc)) Y9 (VecWindow.window X6 (![0, 0]) S1x2048.size inb_S2x2048_S1x2048_0_0))
              Y8
              Y9) -∗ K ⟨⟩))
      ⊢ wp frame (wpE (defs₀ (F := F)) 𝒱₀ c none) E (cc0_out_proj i M1 h1 M2 h2 M3 h3 M4 h4 M5 h5 M6 h6 M7 h7 M8 h8 M9 h9) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  sl_unfold [cc0_out_proj]
  sl_open_parts
  sl_exec
  sl_step
  iapply Hk
  isplitl [H1 H2 H3 H4 H5 H6]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  iexists _; isplitr; swap; iexact H6; rotate_left
  isplitl [H7]; iexists _; isplitr; swap; iexact H7; rotate_left
  isplitl [H8]; iexists _; isplitr; swap; iexact H8; rotate_left
  iexists _; isplitr; swap; iexact H9; rotate_left
  all_goals
    ipureintro
    simp only [View.read_writes_full, View.readAt_full, readAt_window, read_put, putw_S1x512x2048, putw_S512x2048, whole_S1x512x1024, whole_S1x512x2048, whole_S512x2048,
      Memref.IsWhole.read_unread] <;> rfl

end

end Cert.Proof.Out

end
-- ==== Proof.Out.Run.lean ====
module

public import proofs.«01_k».proof.Proof.Mlp.Inv
public import proofs.«01_k».proof.Proof.Out.Body
public import Idealize.ShloMosaic.Lib.Pipeline.Frame
public import Idealize.ShloMosaic.Lib.Pipeline.DatRel

@[expose] public section

set_option maxRecDepth 16384

noncomputable section

namespace Cert.Proof.Out

open Cert.Kernel3Ideal Cert.Kernel3Ideal.Gen
open Cert.Proof.Mlp (𝒱₀ row8 row2 window_row8 window_row2)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: the point `t` projects tile `t` and finishes tile `t - 1` -/

theorem hN : grid0.N = 17 := N_0

/-- The point `k`. -/
def pt (k : ℕ) : Fin grid0.N := ⟨min k 16, by rw [hN]; omega⟩

theorem pt_eq (t : Fin grid0.N) : pt t.val = t := by
  have := t.isLt.trans_eq hN
  exact Fin.ext (show min t.val 16 = t.val by omega)

theorem cond1_iff (t : Fin grid0.N) : cond1 (grid0.coords t) = 1#1 ↔ t.val = 0 :=
  (by decide +kernel : ∀ t : Fin grid0.N, cond1 (grid0.coords t) = 1#1 ↔ t.val = 0) t
theorem cond2_iff (t : Fin grid0.N) : k0_cond2 (grid0.coords t) = 1#1 ↔ t.val % 2 = 1 :=
  (by decide +kernel : ∀ t : Fin grid0.N, k0_cond2 (grid0.coords t) = 1#1 ↔ t.val % 2 = 1) t
theorem cond3_iff (t : Fin grid0.N) : k0_cond3 (grid0.coords t) = 1#1 ↔ (1 ≤ t.val ∧ t.val ≤ 15) ∧ t.val % 2 = 0 :=
  (by decide +kernel : ∀ t : Fin grid0.N, k0_cond3 (grid0.coords t) = 1#1 ↔ (1 ≤ t.val ∧ t.val ≤ 15) ∧ t.val % 2 = 0) t
theorem cond4_iff (t : Fin grid0.N) : k0_cond4 (grid0.coords t) = 1#1 ↔ t.val = 16 :=
  (by decide +kernel : ∀ t : Fin grid0.N, k0_cond4 (grid0.coords t) = 1#1 ↔ t.val = 16) t
theorem off1_eq (t : Fin grid0.N) : k0_off1 (grid0.coords t) = ![(t.val - 1) / 4, 0] :=
  (by decide +kernel : ∀ t : Fin grid0.N, k0_off1 (grid0.coords t) = ![(t.val - 1) / 4, 0]) t
theorem off2_eq (t : Fin grid0.N) : k0_off2 (grid0.coords t) = ![(t.val - 1) / 4, 0] :=
  (by decide +kernel : ∀ t : Fin grid0.N, k0_off2 (grid0.coords t) = ![(t.val - 1) / 4, 0]) t
theorem off3_eq (t : Fin grid0.N) : k0_off3 (grid0.coords t) = ![(t.val - 1) / 4, 0] :=
  (by decide +kernel : ∀ t : Fin grid0.N, k0_off3 (grid0.coords t) = ![(t.val - 1) / 4, 0]) t

variable (m : (ℓ : Loc nD τ sig) → Buf (Elt F) ℓ) (ρ : Dev nD → PrngReg)

/-- The rows projected at the point `t`. -/
def prj (c : Dev nD) (t : Fin cfg0.N) : Vec F S512x2048 .f32 := pProj (iblk m c 0 t) (iblk m c 1 t) (iblk m c 2 t)

/-- The rows of the result left at the point `t`. -/
def outB (c : Dev nD) (t : Fin cfg0.N) : Vec F S1x512x2048 .f32 :=
  pFin (iblk m c 3 t) (row8 (iblk m c 4 t) ((t.val - 1) / 4)) (prj m c (pt (t.val - 1))) (row2 (iblk m c 5 t))

/-- Before the point `t` the scratch buffer of the parity of `t - 1` holds the rows projected at the point before. -/
def Inv (c : Dev nD) (t : ℕ) (y0 y1 : Vec F S512x2048 .f32) : Prop :=
  1 ≤ t → (t % 2 = 1 → y0 = prj m c (pt (t - 1))) ∧ (t % 2 = 0 → y1 = prj m c (pt (t - 1)))

theorem inv_even (c : Dev nD) (t : Fin cfg0.N) (h : t.val % 2 = 0) (y1 : Vec F S512x2048 .f32) : Inv m c (t.val + 1) (prj m c t) y1 := fun _ =>
  ⟨fun _ => congrArg (prj m c) (pt_eq t).symm, fun h' => by omega⟩
theorem inv_odd (c : Dev nD) (t : Fin cfg0.N) (h : t.val % 2 = 1) (y0 : Vec F S512x2048 .f32) : Inv m c (t.val + 1) y0 (prj m c t) := fun _ =>
  ⟨fun h' => by omega, fun _ => congrArg (prj m c) (pt_eq t).symm⟩

/-! ## The proof data -/

/-- The scratch buffers between the points. -/
def scr (c : Dev nD) (t : ℕ) : sProp 𝕄 :=
  iprop(∃ y0 y1, ⌜t ≤ 16 → Inv m c t y0 y1⌝ ∗ owns (c : Thread nD τ) (Memref.whole cc0_scratch0) fullShare y0
    ∗ owns (c : Thread nD τ) (Memref.whole cc0_scratch1) fullShare y1)

/-- The arrays as the region finds them; after the body each input's buffer at its block; between the points the scratch
    buffers at the invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := iprop(scr m c t.val ∗ ∃ r, prngReg c r)
  q w := Pipeline.shareOf spec0 w
  owed _ := 0

/-- The window the body writes. -/
def fgt (w : Fin cfg0.W) : Bool := match w with
  | ⟨6, _⟩ => true
  | _ => false

/-- What the body leaves in the window it writes: the result's rows, from the second point on. -/
def Rl (c : Dev nD) (w : Fin cfg0.W) (t : Fin cfg0.N) (X : (cfg0.win w).block.Idx → Elt F (cfg0.win w).elt) : Prop :=
  match w with
  | ⟨6, _⟩ => 1 ≤ t.val → X = outB m c t
  | _ => True

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

set_option maxHeartbeats 2000000 in
/-- The body at a point, over the input blocks and any contents of the other buffers that meet the invariant. -/
theorem body_point (c : Dev nD) (t : Fin cfg0.N) (Y7 : Vec F S1x512x2048 .f32) (y0 y1 : Vec F S512x2048 .f32)
    (hI : t.val ≤ 16 → Inv m c t.val y0 y1) (K : PUnit → sProp 𝕄) :
    iprop(ins (F := F) c (st0_0 t) (st0_1 t) (st0_2 t) (st0_3 t) (st0_4 t) (st0_5 t) (iblk m c 0 t) (iblk m c 1 t) (iblk m c 2 t) (iblk m c 3 t) (iblk m c 4 t) (iblk m c 5 t)
        ∗ outs (F := F) c (st0_6 t) (Memref.whole cc0_scratch0) (Memref.whole cc0_scratch1) Y7 y0 y1
        ∗ (∀ Z7 z0 z1, iprop(⌜(1 ≤ t.val → Z7 = outB m c t) ∧ (t.val + 1 ≤ 16 → Inv m c (t.val + 1) z0 z1)⌝
            ∗ ins (F := F) c (st0_0 t) (st0_1 t) (st0_2 t) (st0_3 t) (st0_4 t) (st0_5 t) (iblk m c 0 t) (iblk m c 1 t) (iblk m c 2 t) (iblk m c 3 t) (iblk m c 4 t) (iblk m c 5 t)
            ∗ outs (F := F) c (st0_6 t) (Memref.whole cc0_scratch0) (Memref.whole cc0_scratch1) Z7 z0 z1) -∗ K ⟨⟩))
      ⊢ wp frame (wpE (defs₀ (F := F)) 𝒱₀ c none) Set.univ (bodyAt0 t) K := by
  have ht := t.isLt.trans_eq hN
  have e1 := cond1_iff t
  have e2 := cond2_iff t
  have e3 := cond3_iff t
  have e4 := cond4_iff t
  by_cases c1 : t.val = 0
  · have hb : cond1 (grid0.coords t) = 1#1 := e1.mpr (by omega)
    refine BIBase.Entails.trans ?_ (body_first c (grid0.coords t) (st0_0 t) _ (st0_1 t) _ (st0_2 t) _ (st0_3 t) _ (st0_4 t) _ (st0_5 t) _ (st0_6 t) _ (Memref.whole cc0_scratch0) _ (Memref.whole cc0_scratch1) _ (iblk m c 0 t) (iblk m c 1 t) (iblk m c 2 t) (iblk m c 3 t) (iblk m c 4 t) (iblk m c 5 t) Y7 y0 y1 hb (fun h => by have := e2.mp h; omega) (fun h => by have := e3.mp h; omega) (fun h => by have := e4.mp h; omega) Set.univ K)
    iintro ⟨HI, HO, HK⟩
    isplitl [HI]; · iexact HI
    isplitl [HO]; · iexact HO
    iintro ⟨HI, HO⟩
    iapply HK
    isplitr
    · ipureintro
      exact ⟨(fun h => absurd h (by omega) : 1 ≤ t.val → Y7 = outB m c t), fun _ => inv_even m c t (by omega) y1⟩
    isplitl [HI]; · iexact HI
    iexact HO
  by_cases c2 : t.val % 2 = 1
  · have hb : k0_cond2 (grid0.coords t) = 1#1 := e2.mpr (by omega)
    have ey : y0 = prj m c (pt (t.val - 1)) := (hI (by omega) (by omega)).1 (by omega)
    have eo : pFin (iblk m c 3 t) (VecWindow.window (iblk m c 4 t) (k0_off1 (grid0.coords t)) S1x2048.size (k0_off1_inb (grid0.coords t) hb)) y0
        (VecWindow.window (iblk m c 5 t) (![0, 0]) S1x2048.size inb_S2x2048_S1x2048_0_0) = outB m c t := by
      rw [window_row8 (iblk m c 4 t) _ _ (off1_eq t), window_row2 (iblk m c 5 t), ey]
      rfl
    refine BIBase.Entails.trans ?_ (body_odd c (grid0.coords t) (st0_0 t) _ (st0_1 t) _ (st0_2 t) _ (st0_3 t) _ (st0_4 t) _ (st0_5 t) _ (st0_6 t) _ (Memref.whole cc0_scratch0) _ (Memref.whole cc0_scratch1) _ (iblk m c 0 t) (iblk m c 1 t) (iblk m c 2 t) (iblk m c 3 t) (iblk m c 4 t) (iblk m c 5 t) Y7 y0 y1 (fun h => by have := e1.mp h; omega) hb (fun h => by have := e3.mp h; omega) (fun h => by have := e4.mp h; omega) Set.univ K)
    rw [eo]
    iintro ⟨HI, HO, HK⟩
    isplitl [HI]; · iexact HI
    isplitl [HO]; · iexact HO
    iintro ⟨HI, HO⟩
    iapply HK
    isplitr
    · ipureintro
      exact ⟨fun _ => rfl, fun _ => inv_odd m c t (by omega) y0⟩
    isplitl [HI]; · iexact HI
    iexact HO
  by_cases c4 : t.val = 16
  · have hb : k0_cond4 (grid0.coords t) = 1#1 := e4.mpr (by omega)
    have ey : y1 = prj m c (pt (t.val - 1)) := (hI (by omega) (by omega)).2 (by omega)
    have eo : pFin (iblk m c 3 t) (VecWindow.window (iblk m c 4 t) (k0_off3 (grid0.coords t)) S1x2048.size (k0_off3_inb (grid0.coords t) hb)) y1
        (VecWindow.window (iblk m c 5 t) (![0, 0]) S1x2048.size inb_S2x2048_S1x2048_0_0) = outB m c t := by
      rw [window_row8 (iblk m c 4 t) _ _ (off3_eq t), window_row2 (iblk m c 5 t), ey]
      rfl
    refine BIBase.Entails.trans ?_ (body_last c (grid0.coords t) (st0_0 t) _ (st0_1 t) _ (st0_2 t) _ (st0_3 t) _ (st0_4 t) _ (st0_5 t) _ (st0_6 t) _ (Memref.whole cc0_scratch0) _ (Memref.whole cc0_scratch1) _ (iblk m c 0 t) (iblk m c 1 t) (iblk m c 2 t) (iblk m c 3 t) (iblk m c 4 t) (iblk m c 5 t) Y7 y0 y1 (fun h => by have := e1.mp h; omega) (fun h => by have := e2.mp h; omega) (fun h => by have := e3.mp h; omega) hb Set.univ K)
    rw [eo]
    iintro ⟨HI, HO, HK⟩
    isplitl [HI]; · iexact HI
    isplitl [HO]; · iexact HO
    iintro ⟨HI, HO⟩
    iapply HK
    isplitr
    · ipureintro
      exact ⟨fun _ => rfl, (fun h => absurd h (by omega) : t.val + 1 ≤ 16 → Inv m c (t.val + 1) y0 y1)⟩
    isplitl [HI]; · iexact HI
    iexact HO
  · have hb : k0_cond3 (grid0.coords t) = 1#1 := e3.mpr (by omega)
    have ey : y1 = prj m c (pt (t.val - 1)) := (hI (by omega) (by omega)).2 (by omega)
    have eo : pFin (iblk m c 3 t) (VecWindow.window (iblk m c 4 t) (k0_off2 (grid0.coords t)) S1x2048.size (k0_off2_inb (grid0.coords t) hb)) y1
        (VecWindow.window (iblk m c 5 t) (![0, 0]) S1x2048.size inb_S2x2048_S1x2048_0_0) = outB m c t := by
      rw [window_row8 (iblk m c 4 t) _ _ (off2_eq t), window_row2 (iblk m c 5 t), ey]
      rfl
    refine BIBase.Entails.trans ?_ (body_even c (grid0.coords t) (st0_0 t) _ (st0_1 t) _ (st0_2 t) _ (st0_3 t) _ (st0_4 t) _ (st0_5 t) _ (st0_6 t) _ (Memref.whole cc0_scratch0) _ (Memref.whole cc0_scratch1) _ (iblk m c 0 t) (iblk m c 1 t) (iblk m c 2 t) (iblk m c 3 t) (iblk m c 4 t) (iblk m c 5 t) Y7 y0 y1 (fun h => by have := e1.mp h; omega) (fun h => by have := e2.mp h; omega) hb (fun h => by have := e4.mp h; omega) Set.univ K)
    rw [eo]
    iintro ⟨HI, HO, HK⟩
    isplitl [HI]; · iexact HI
    isplitl [HO]; · iexact HO
    iintro ⟨HI, HO⟩
    iapply HK
    isplitr
    · ipureintro
      exact ⟨fun _ => rfl, fun _ => inv_even m c t (by omega) y1⟩
    isplitl [HI]; · iexact HI
    iexact HO

theorem defs₀_row (t : Fin cfg0.N) : defs₀ (F := F) .tc cfg0.body (cfg0.bodyArgs t (cfg0.slots t)) = bodyAt0 t := by
  unfold defs₀; rw [Defs.onTc_tc]

/-- The data with the written window held to what the body leaves there. -/
def rdats (c : Dev nD) : Pipeline.RDat τ (Elt F) Unit ℕ (UR sig nD τ) ℕ cfg0 c := (dats m 0 c).toRRel fgt (Rl m c)

theorem phi_in (c : Dev nD) : Pipeline.ΦA spec0 c ⊢ (rdats m c).Φ 0 := by
  rw [show (rdats m c).Φ 0 = iprop(scr m c 0 ∗ ∃ r, prngReg c r) from rfl]
  unfold Pipeline.ΦA scr
  rw [scopedRest0_eq]
  simp only [owns_whole]
  iintro ⟨⟨⟨%f0, S0⟩, ⟨%f1, S1⟩⟩, HP⟩
  isplitl [S0 S1]
  · iexists f0; iexists f1
    isplitr
    · ipureintro; exact fun _ h => absurd h (by omega)
    isplitl [S0]; · iexact S0
    iexact S1
  iexact HP

theorem phi_out (c : Dev nD) : (rdats m c).Φ (Fin.last cfg0.N) ⊢ Pipeline.ΦA spec0 c := by
  rw [show (rdats m c).Φ (Fin.last cfg0.N) = iprop(scr m c cfg0.N ∗ ∃ r, prngReg c r) from rfl]
  unfold Pipeline.ΦA scr
  rw [scopedRest0_eq]
  simp only [owns_whole]
  iintro ⟨⟨%y0, %y1, -, S0, S1⟩, HP⟩
  isplitl [S0 S1]
  · isplitl [S0]; · iexists _; iexact S0
    iexists _; iexact S1
  iexact HP

theorem obligation (c : Dev nD) : Pipeline.BodyObligationRel (dats m 0 c) (defs₀ (F := F)) 𝒱₀ () Set.univ fgt (Rl m c) := fun t => by
  rw [bigSep_W0, bigSep_W0, defs₀_row]
  simp only [fgt_0, fgt_1, fgt_2, fgt_3, fgt_4, fgt_5, fgt_6, before0_0, before0_1, before0_2, before0_3, before0_4, before0_5]
  rw [show (dats m 0 c).owesAt () t.succ = (dats m 0 c).owesAt () t.castSucc from rfl, after0_0, after0_1, after0_2, after0_3, after0_4, after0_5]
  rw [show (dats m 0 c).Φ t.castSucc = iprop(scr m c t.val ∗ ∃ r, prngReg c r) from rfl,
    show (dats m 0 c).Φ t.succ = iprop(scr m c (t.val + 1) ∗ ∃ r, prngReg c r) from rfl]
  unfold scr
  iintro ⟨⟨⟨%y0, %y1, %hI, S0, S1⟩, HP⟩, HW, ⟨%d0, H0⟩, ⟨%d1, H1⟩, ⟨%d2, H2⟩, ⟨%d3, H3⟩, ⟨%d4, H4⟩, ⟨%d5, H5⟩, ⟨%Y6, -, H6⟩⟩
  iapply (body_point m c t Y6 y0 y1 hI _)
  unfold ins outs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 S0 S1]
  · isplitl [H6]; · iexact H6
    isplitl [S0]; · iexact S0
    iexact S1
  iintro %Z %z0 %z1 ⟨%hZ, ⟨H0, H1, H2, H3, H4, H5⟩, ⟨H6, S0, S1⟩⟩
  isplitl [S0 S1 HP]
  · isplitl [S0 S1]
    · iexists z0; iexists z1
      isplitr
      · ipureintro; exact hZ.2
      isplitl [S0]; · iexact S0
      iexact S1
    iexact HP
  isplitl [HW]; · iexact HW
  isplitl [H0]; · iexact H0
  isplitl [H1]; · iexact H1
  isplitl [H2]; · iexact H2
  isplitl [H3]; · iexact H3
  isplitl [H4]; · iexact H4
  isplitl [H5]; · iexact H5
  iexists Z; isplitr
  · ipureintro; exact hZ.1
  iexact H6

-- the launch theorem's implicit arguments are found by unifying its conclusion with this one
set_option backward.isDefEq.respectTransparency.types false in
/-- From any memory with zero counters every execution of the program ends, with each array at contents the data allow and
    every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track_shared (Q' := fun r => Pipeline.RDat.FramePost cfg0 (rdats m) (V m) r ∧ r.2.sem = fun _ => 0)
    cfgs (0 : Fin 1) launch0.to₀ defs₀ 𝒱₀ (rdats m) m ρ main
    (hbody := fun c => (obligation m c).toRRel) (hq := fun _ _ _ => rfl) (howed := fun _ _ => rfl)
    (V := V m) (hmain := hmain m 𝒱₀) (hA := fun _ _ => rfl) (hin := fun c => phi_in m c) (hout := fun c => phi_out m c) (hQ' := fun _ h => h)

end Cert.Proof.Out

end
-- ==== Proof.Out.Frames.lean ====
module

public import proofs.«01_k».proof.Defs
public import proofs.«01_k».proof.Proof.Gen.Kernel3
public import proofs.«01_k».proof.Proof.Out.Run

@[expose] public section

set_option maxRecDepth 16384

noncomputable section

namespace Cert.Proof.Out

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are as they were. -/
theorem args_kept (r : PUnit × MemSt nD τ sig (Elt F)) (h : Pipeline.RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    (h.arr_in c 1 rfl).trans (V_main_arg1 m c),
    ((h c).2 main_arg2 (Pipeline.mem_restRefs_of main_arg2 (by decide) (by decide))).trans (V_main_arg2 m c),
    (h.arr_in c 3 rfl).trans (V_main_arg3 m c),
    ((h c).2 main_arg4 (Pipeline.mem_restRefs_of main_arg4 (by decide) (by decide))).trans (V_main_arg4 m c),
    (h.arr_in c 5 rfl).trans (V_main_arg5 m c)⟩

/-- From any memory with zero counters the call ends with its arguments unchanged and its counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m _ h.1 c, h.2⟩) (run_main m ρ)

/-- The frame claim of the idealized program. -/
theorem frame_kernelIdeal : Cert.quiescent_Kernel3Ideal := fun m ρ _ => run_frame (F := Ideal) m ρ

/-- The two programs' body tables are the same: each has the one label. -/
theorem defs₀_eq : Cert.Kernel3.defs₀ (F := Bits) = Cert.Kernel3Ideal.defs₀ (F := Bits) :=
  congrArg Defs.onTc (funext fun l => funext fun a => by
    match l, a with
    | 0, (t, s) => rfl
    | ⟨_ + 1, h⟩, _ => exact absurd h (Nat.not_lt.2 (Nat.le_add_left _ _)))

theorem defs_eq : Cert.Kernel3.defs (F := Bits) = Cert.Kernel3Ideal.defs (F := Bits) :=
  congrArg (Pipeline.defs (Cert.Kernel3Ideal.pcfgs (F := Bits))) defs₀_eq

/-- The frame claim of the program: the two programs have the same text. -/
theorem frame_kernel : Cert.quiescent_Kernel3 := fun m ρ _ => by
  rw [defs_eq]
  exact run_frame (F := Bits) m ρ

end Cert.Proof.Out

end
-- ==== Proof.Out.Ref.lean ====
module

public import proofs.«01_k».proof.Proof.Mlp.Pay
public import proofs.«01_k».proof.Proof.Gen.Reference3Ideal.Run
public import Idealize.ShloMosaic.Lib.Pointwise

@[expose] public section

set_option maxRecDepth 16384

noncomputable section

namespace Cert.Proof.Out

open Cert.Reference3Ideal Cert.Reference3Ideal.Gen Cert.Reference3Ideal.Value

open Idealize.ShloMosaic Idealize.ShloMosaic.TcCoe Idealize.SL.Sem

open Cert.Proof.Mlp (rms)

/-! ## What the reference computes, at an index -/

variable (hm ha : Vec Ideal S4x2048x1024 .bf16) (w : Vec Ideal S2x2048x2048 .f32) (x : Vec Ideal S4x2048x2048 .f32) (mod : Vec Ideal S4x12288 .f32)
  (gp : Vec Ideal S2x2048 .f32)

/-- The two mixers' columns, side by side. -/
def cat (b : Fin 4) (s k : Fin 2048) : EReal :=
  if h : k.val < 1024 then hm (ix3 b s ⟨k.val, h⟩) else ha (ix3 b s ⟨k.val - 1024, by omega⟩)

/-- The projected row. -/
def proj (b : Fin 4) (s d : Fin 2048) : EReal := ∑ k : Fin 2048, cat hm ha b s k * w (ix3 0 k d)

/-- The rows the call leaves. -/
def res (b : Fin 4) (s d : Fin 2048) : EReal :=
  x (ix3 b s d) + mod (ix2 b ⟨4096 + d.val, by omega⟩) * rms (fun k => proj hm ha w b s k) (gp (ix2 0 d)) d

/-- The contraction by halves. -/
theorem proj_halves (b : Fin 4) (s d : Fin 2048) :
    proj hm ha w b s d = (∑ k : Fin 1024, hm (ix3 b s k) * w (ix3 0 ⟨k.val, by omega⟩ d))
      + ∑ k : Fin 1024, ha (ix3 b s k) * w (ix3 0 ⟨1024 + k.val, by omega⟩ d) := by
  unfold proj
  refine (Fin.sum_univ_add (a := 1024) (b := 1024) (fun k : Fin (1024 + 1024) => cat hm ha b s k * w (ix3 0 k d))).trans ?_
  refine congrArg₂ (· + ·) (Finset.sum_congr rfl fun k _ => ?_) (Finset.sum_congr rfl fun k _ => ?_)
  · have h : (Fin.castAdd 1024 k : Fin 2048).val < 1024 := k.isLt
    unfold cat
    rw [dif_pos h]
    rfl
  · have h : ¬ (Fin.natAdd 1024 k : Fin 2048).val < 1024 := Nat.not_lt.2 (Nat.le_add_right _ _)
    have e : (⟨(Fin.natAdd 1024 k : Fin 2048).val - 1024, by omega⟩ : Fin 1024) = k := Fin.ext (Nat.add_sub_cancel_left _ _)
    unfold cat
    rw [dif_neg h, e]
    rfl

/-- The reference's result. -/
def refOut : FVec Ideal S4x2048x2048 .f32 :=
  addf x (mulf (broadcastInDim S4x2048x2048 ![0, 1, 2] bcast_S4x1x2048_S4x2048x2048_0_1_2 (broadcastInDim S4x1x2048 ![0, 2] bcast_S4x2048_S4x1x2048_0_2 (extractStridedSlice S4x2048 ![0, 4096] mod slices_S4x12288_S4x2048_0_4096))) (mulf (mulf (Host.dotGeneral (φ₂ := .f32) dot_S4x2048x2048_S2048x2048_S4x2048x2048_2_0_01_1_n_n none (concatenate S4x2048x2048 2 [⟨S4x2048x1024, (extf .f32 hm bitsLt_bf16_f32)⟩, ⟨S4x2048x1024, (extf .f32 ha bitsLt_bf16_f32)⟩] concatenates_S4x2048x1024_S4x2048x1024_S4x2048x2048_d2) (shapeCast _ (extractStridedSlice S1x2048x2048 ![0, 0, 0] w slices_S2x2048x2048_S1x2048x2048_0_0_0) shapeCasts_S1x2048x2048_S2048x2048)) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (Host.dotGeneral (φ₂ := .f32) dot_S4x2048x2048_S2048x2048_S4x2048x2048_2_0_01_1_n_n none (concatenate S4x2048x2048 2 [⟨S4x2048x1024, (extf .f32 hm bitsLt_bf16_f32)⟩, ⟨S4x2048x1024, (extf .f32 ha bitsLt_bf16_f32)⟩] concatenates_S4x2048x1024_S4x2048x1024_S4x2048x2048_d2) (shapeCast _ (extractStridedSlice S1x2048x2048 ![0, 0, 0] w slices_S2x2048x2048_S1x2048x2048_0_0_0) shapeCasts_S1x2048x2048_S2048x2048)) (Host.dotGeneral (φ₂ := .f32) dot_S4x2048x2048_S2048x2048_S4x2048x2048_2_0_01_1_n_n none (concatenate S4x2048x2048 2 [⟨S4x2048x1024, (extf .f32 hm bitsLt_bf16_f32)⟩, ⟨S4x2048x1024, (extf .f32 ha bitsLt_bf16_f32)⟩] concatenates_S4x2048x1024_S4x2048x1024_S4x2048x2048_d2) (shapeCast _ (extractStridedSlice S1x2048x2048 ![0, 0, 0] w slices_S2x2048x2048_S1x2048x2048_0_0_0) shapeCasts_S1x2048x2048_S2048x2048))) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] gp slices_S2x2048_S1x2048_0_0) shapeCasts_S1x2048_S2048)))))

theorem refOut_at (b : Fin 4) (s d : Fin 2048) : refOut hm ha w x mod gp (ix3 b s d) = res hm ha w x mod gp b s d := by
  unfold refOut res proj cat rms
  pointwise

end Cert.Proof.Out

end
-- ==== Proof.Out.Value.lean ====
module

public import proofs.«01_k».proof.Proof.Out.Run
public import proofs.«01_k».proof.Proof.Out.Ref
public import Idealize.ShloMosaic.Lib.Pipeline.ValueKit

@[expose] public section

set_option maxRecDepth 16384

noncomputable section

namespace Cert.Proof.Out

open Cert.Kernel3Ideal Cert.Kernel3Ideal.Gen

open Idealize.ShloMosaic Idealize.ShloMosaic.TcCoe Idealize.SL.Sem

open Cert.Proof.Mlp (rms row8 row2)

/-! ## What the payloads hold at an index, over the extended reals -/

theorem pProj_at (a b : Vec Ideal S1x512x1024 .bf16) (w : Vec Ideal S2048x2048 .bf16) (r : Fin 512) (d : Fin 2048) :
    pProj (F := Ideal) a b w (ix2 r d) = (∑ k : Fin 1024, a (ix3 0 r k) * w (ix2 ⟨k.val, by omega⟩ d))
      + ∑ k : Fin 1024, b (ix3 0 r k) * w (ix2 ⟨1024 + k.val, by omega⟩ d) := by
  have e0 : ∀ k : Fin 1024, VecWindow.window w (![0, 0]) S1024x2048.size inb_S2048x2048_S1024x2048_0_0 (ix2 k d) = w (ix2 ⟨k.val, by omega⟩ d) := fun k =>
    congrArg w (funext fun a => by
      match a with
      | ⟨0, _⟩ => exact Fin.ext (show 0 + 1 * k.val = k.val by omega)
      | ⟨1, _⟩ => exact Fin.ext (show 0 + 1 * d.val = d.val by omega))
  have e1 : ∀ k : Fin 1024, VecWindow.window w (![1024, 0]) S1024x2048.size inb_S2048x2048_S1024x2048_1024_0 (ix2 k d) = w (ix2 ⟨1024 + k.val, by omega⟩ d) := fun k =>
    congrArg w (funext fun a => by
      match a with
      | ⟨0, _⟩ => exact Fin.ext (show 1024 + 1 * k.val = 1024 + k.val by omega)
      | ⟨1, _⟩ => exact Fin.ext (show 0 + 1 * d.val = d.val by omega))
  simp only [← e0, ← e1]
  unfold pProj
  generalize VecWindow.window w (![0, 0]) S1024x2048.size inb_S2048x2048_S1024x2048_0_0 = u0
  generalize VecWindow.window w (![1024, 0]) S1024x2048.size inb_S2048x2048_S1024x2048_1024_0 = u1
  unfold k0_pay8
  pointwise

theorem pFin_at (x : Vec Ideal S1x512x2048 .f32) (gate : Vec Ideal S1x2048 .f32) (y : Vec Ideal S512x2048 .f32) (g : Vec Ideal S1x2048 .f32)
    (r : Fin 512) (d : Fin 2048) :
    pFin (F := Ideal) x gate y g (ix3 0 r d) = x (ix3 0 r d) + gate (ix2 0 d) * rms (fun k => y (ix2 r k)) (g (ix2 0 d)) d := by
  unfold pFin k0_pay9 k0_pay2 k0_pay3 rms
  pointwise

/-! ## What the host operations before the call leave, at an index -/

variable (m : (ℓ : Loc nD τ sig) → Buf (Elt Ideal) ℓ) (c : Dev nD)

theorem V_v1 : V m c main_v1 = pad S8x8192 ![0, 0] ![4, 0] ![0, 0] (extractStridedSlice S4x8192 ![0, 4096] (m ((c.tc : Thread nD τ).loc main_arg4)) slices_S4x12288_S4x8192_0_4096)
    (sitofp (F := Ideal) .f32 (constantI S_ 32 0#32)) pads_S4x8192_S8x8192_040_000 h_S_ := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v4 : V m c main_v4 = truncf (F := Ideal) (φ := .f32) .bf16 (shapeCast S2048x2048 (extractStridedSlice S1x2048x2048 ![0, 0, 0] (m ((c.tc : Thread nD τ).loc main_arg2)) slices_S2x2048x2048_S1x2048x2048_0_0_0) shapeCasts_S1x2048x2048_S2048x2048) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_v1_at (b : Fin 8) (hb : b.val < 4) (k : Fin 8192) :
    V m c main_v1 (ix2 b k) = m ((c.tc : Thread nD τ).loc main_arg4) (ix2 (n0 := 4) (n1 := 12288) ⟨b.val, hb⟩ ⟨4096 + k.val, by omega⟩) := by
  rw [V_v1]
  generalize m ((c.tc : Thread nD τ).loc main_arg4) = x
  pointwise
  rw [dif_pos hb]

theorem V_v4_at (r : Fin 2048) (k : Fin 2048) :
    V m c main_v4 (ix2 r k) = m ((c.tc : Thread nD τ).loc main_arg2) (ix3 0 r k) := by
  rw [V_v4]
  generalize m ((c.tc : Thread nD τ).loc main_arg2) = x
  pointwise

/-! ## Where the windows stand -/

theorem idx0 (t : Fin grid0.N) (h : t.val ≤ 15) : win0_0.index t 0 = t.val / 4 ∧ win0_0.index t 1 = t.val % 4 ∧ win0_0.index t 2 = 0 :=
  (by decide +kernel : ∀ t : Fin grid0.N, t.val ≤ 15 → win0_0.index t 0 = t.val / 4 ∧ win0_0.index t 1 = t.val % 4 ∧ win0_0.index t 2 = 0) t h
theorem idx1 (t : Fin grid0.N) (h : t.val ≤ 15) : win0_1.index t 0 = t.val / 4 ∧ win0_1.index t 1 = t.val % 4 ∧ win0_1.index t 2 = 0 :=
  (by decide +kernel : ∀ t : Fin grid0.N, t.val ≤ 15 → win0_1.index t 0 = t.val / 4 ∧ win0_1.index t 1 = t.val % 4 ∧ win0_1.index t 2 = 0) t h
theorem idx2 (t : Fin grid0.N) : win0_2.index t 0 = 0 ∧ win0_2.index t 1 = 0 :=
  (by decide +kernel : ∀ t : Fin grid0.N, win0_2.index t 0 = 0 ∧ win0_2.index t 1 = 0) t
theorem idx3 (t : Fin grid0.N) (h : 1 ≤ t.val) : win0_3.index t 0 = (t.val - 1) / 4 ∧ win0_3.index t 1 = (t.val - 1) % 4 ∧ win0_3.index t 2 = 0 :=
  (by decide +kernel : ∀ t : Fin grid0.N, 1 ≤ t.val → win0_3.index t 0 = (t.val - 1) / 4 ∧ win0_3.index t 1 = (t.val - 1) % 4 ∧ win0_3.index t 2 = 0) t h
theorem idx4 (t : Fin grid0.N) : win0_4.index t 0 = 0 ∧ win0_4.index t 1 = 0 :=
  (by decide +kernel : ∀ t : Fin grid0.N, win0_4.index t 0 = 0 ∧ win0_4.index t 1 = 0) t
theorem idx5 (t : Fin grid0.N) : win0_5.index t 0 = 0 ∧ win0_5.index t 1 = 0 :=
  (by decide +kernel : ∀ t : Fin grid0.N, win0_5.index t 0 = 0 ∧ win0_5.index t 1 = 0) t
theorem idx6 (t : Fin grid0.N) (h : 1 ≤ t.val) : win0_6.index t 0 = (t.val - 1) / 4 ∧ win0_6.index t 1 = (t.val - 1) % 4 ∧ win0_6.index t 2 = 0 :=
  (by decide +kernel : ∀ t : Fin grid0.N, 1 ≤ t.val → win0_6.index t 0 = (t.val - 1) / 4 ∧ win0_6.index t 1 = (t.val - 1) % 4 ∧ win0_6.index t 2 = 0) t h

/-! ## The input blocks, at an index -/

theorem iblk0_at (t : Fin grid0.N) (h : t.val ≤ 15) (y0 : Fin 1) (y1 : Fin 512) (y2 : Fin 1024)
    (y0' : Fin 4) (y1' : Fin 2048) (y2' : Fin 1024)
    (e0 : y0'.val = (t.val / 4) * 1 + y0.val) (e1 : y1'.val = (t.val % 4) * 512 + y1.val) (e2 : y2'.val = (0) * 1024 + y2.val) :
    iblk m c 0 t (ix3 y0 y1 y2) = V m c main_arg0 (ix3 y0' y1' y2') := by
  have hi := idx0 t h
  unfold iblk
  rw [View.read_apply]
  show V m c main_arg0 _ = V m c main_arg0 _
  refine congrArg (V m c main_arg0) (funext fun a => Fin.ext ?_)
  match a with
  | ⟨0, _⟩ => show win0_0.index t 0 * 1 + 1 * y0.val = y0'.val; rw [hi.1]; omega
  | ⟨1, _⟩ => show win0_0.index t 1 * 512 + 1 * y1.val = y1'.val; rw [hi.2.1]; omega
  | ⟨2, _⟩ => show win0_0.index t 2 * 1024 + 1 * y2.val = y2'.val; rw [hi.2.2]; omega

theorem iblk1_at (t : Fin grid0.N) (h : t.val ≤ 15) (y0 : Fin 1) (y1 : Fin 512) (y2 : Fin 1024)
    (y0' : Fin 4) (y1' : Fin 2048) (y2' : Fin 1024)
    (e0 : y0'.val = (t.val / 4) * 1 + y0.val) (e1 : y1'.val = (t.val % 4) * 512 + y1.val) (e2 : y2'.val = (0) * 1024 + y2.val) :
    iblk m c 1 t (ix3 y0 y1 y2) = V m c main_arg1 (ix3 y0' y1' y2') := by
  have hi := idx1 t h
  unfold iblk
  rw [View.read_apply]
  show V m c main_arg1 _ = V m c main_arg1 _
  refine congrArg (V m c main_arg1) (funext fun a => Fin.ext ?_)
  match a with
  | ⟨0, _⟩ => show win0_1.index t 0 * 1 + 1 * y0.val = y0'.val; rw [hi.1]; omega
  | ⟨1, _⟩ => show win0_1.index t 1 * 512 + 1 * y1.val = y1'.val; rw [hi.2.1]; omega
  | ⟨2, _⟩ => show win0_1.index t 2 * 1024 + 1 * y2.val = y2'.val; rw [hi.2.2]; omega

theorem iblk2_at (t : Fin grid0.N) (y0 : Fin 2048) (y1 : Fin 2048)
    (y0' : Fin 2048) (y1' : Fin 2048)
    (e0 : y0'.val = (0) * 2048 + y0.val) (e1 : y1'.val = (0) * 2048 + y1.val) :
    iblk m c 2 t (ix2 y0 y1) = V m c main_v4 (ix2 y0' y1') := by
  have hi := idx2 t
  unfold iblk
  rw [View.read_apply]
  show V m c main_v4 _ = V m c main_v4 _
  refine congrArg (V m c main_v4) (funext fun a => Fin.ext ?_)
  match a with
  | ⟨0, _⟩ => show win0_2.index t 0 * 2048 + 1 * y0.val = y0'.val; rw [hi.1]; omega
  | ⟨1, _⟩ => show win0_2.index t 1 * 2048 + 1 * y1.val = y1'.val; rw [hi.2]; omega

theorem iblk3_at (t : Fin grid0.N) (h : 1 ≤ t.val) (y0 : Fin 1) (y1 : Fin 512) (y2 : Fin 2048)
    (y0' : Fin 4) (y1' : Fin 2048) (y2' : Fin 2048)
    (e0 : y0'.val = ((t.val - 1) / 4) * 1 + y0.val) (e1 : y1'.val = ((t.val - 1) % 4) * 512 + y1.val) (e2 : y2'.val = (0) * 2048 + y2.val) :
    iblk m c 3 t (ix3 y0 y1 y2) = V m c main_arg3 (ix3 y0' y1' y2') := by
  have hi := idx3 t h
  unfold iblk
  rw [View.read_apply]
  show V m c main_arg3 _ = V m c main_arg3 _
  refine congrArg (V m c main_arg3) (funext fun a => Fin.ext ?_)
  match a with
  | ⟨0, _⟩ => show win0_3.index t 0 * 1 + 1 * y0.val = y0'.val; rw [hi.1]; omega
  | ⟨1, _⟩ => show win0_3.index t 1 * 512 + 1 * y1.val = y1'.val; rw [hi.2.1]; omega
  | ⟨2, _⟩ => show win0_3.index t 2 * 2048 + 1 * y2.val = y2'.val; rw [hi.2.2]; omega

theorem iblk4_at (t : Fin grid0.N) (y0 : Fin 8) (y1 : Fin 2048)
    (y0' : Fin 8) (y1' : Fin 8192)
    (e0 : y0'.val = (0) * 8 + y0.val) (e1 : y1'.val = (0) * 2048 + y1.val) :
    iblk m c 4 t (ix2 y0 y1) = V m c main_v1 (ix2 y0' y1') := by
  have hi := idx4 t
  unfold iblk
  rw [View.read_apply]
  show V m c main_v1 _ = V m c main_v1 _
  refine congrArg (V m c main_v1) (funext fun a => Fin.ext ?_)
  match a with
  | ⟨0, _⟩ => show win0_4.index t 0 * 8 + 1 * y0.val = y0'.val; rw [hi.1]; omega
  | ⟨1, _⟩ => show win0_4.index t 1 * 2048 + 1 * y1.val = y1'.val; rw [hi.2]; omega

theorem iblk5_at (t : Fin grid0.N) (y0 : Fin 2) (y1 : Fin 2048)
    (y0' : Fin 2) (y1' : Fin 2048)
    (e0 : y0'.val = (0) * 2 + y0.val) (e1 : y1'.val = (0) * 2048 + y1.val) :
    iblk m c 5 t (ix2 y0 y1) = V m c main_arg5 (ix2 y0' y1') := by
  have hi := idx5 t
  unfold iblk
  rw [View.read_apply]
  show V m c main_arg5 _ = V m c main_arg5 _
  refine congrArg (V m c main_arg5) (funext fun a => Fin.ext ?_)
  match a with
  | ⟨0, _⟩ => show win0_5.index t 0 * 2 + 1 * y0.val = y0'.val; rw [hi.1]; omega
  | ⟨1, _⟩ => show win0_5.index t 1 * 2048 + 1 * y1.val = y1'.val; rw [hi.2]; omega

/-! ## What the call leaves, in its arguments -/

/-- The arguments of core `c`. -/
abbrev gHm : Vec Ideal S4x2048x1024 .bf16 := m ((c.tc : Thread nD τ).loc main_arg0)
abbrev gHa : Vec Ideal S4x2048x1024 .bf16 := m ((c.tc : Thread nD τ).loc main_arg1)
abbrev gW : Vec Ideal S2x2048x2048 .f32 := m ((c.tc : Thread nD τ).loc main_arg2)
abbrev gX : Vec Ideal S4x2048x2048 .f32 := m ((c.tc : Thread nD τ).loc main_arg3)
abbrev gMod : Vec Ideal S4x12288 .f32 := m ((c.tc : Thread nD τ).loc main_arg4)
abbrev gPost : Vec Ideal S2x2048 .f32 := m ((c.tc : Thread nD τ).loc main_arg5)

/-- The rows projected at a point. -/
theorem prj_at (t : Fin grid0.N) (ht : t.val ≤ 15) (r : Fin 512) (d : Fin 2048) (b : Fin 4) (s : Fin 2048) (hb : b.val = t.val / 4)
    (hs : s.val = t.val % 4 * 512 + r.val) : prj m c t (ix2 r d) = proj (gHm m c) (gHa m c) (gW m c) b s d := by
  unfold prj
  rw [pProj_at, proj_halves]
  refine congrArg₂ (· + ·) (Finset.sum_congr rfl fun k _ => ?_) (Finset.sum_congr rfl fun k _ => ?_)
  · rw [iblk0_at m c t ht 0 r k b s k (by show b.val = _ * 1 + 0; omega) hs (by omega), V_main_arg0,
      iblk2_at m c t _ d ⟨k.val, by omega⟩ d (by show k.val = 0 * 2048 + k.val; omega) (by omega), V_v4_at]
  · rw [iblk1_at m c t ht 0 r k b s k (by show b.val = _ * 1 + 0; omega) hs (by omega), V_main_arg1,
      iblk2_at m c t _ d ⟨1024 + k.val, by omega⟩ d (by show 1024 + k.val = 0 * 2048 + (1024 + k.val); omega) (by omega), V_v4_at]

/-- The rows left at a point. -/
theorem outB_at (t : Fin grid0.N) (ht : 1 ≤ t.val) (r : Fin 512) (d : Fin 2048) (b : Fin 4) (s : Fin 2048) (hb : b.val = (t.val - 1) / 4)
    (hs : s.val = (t.val - 1) % 4 * 512 + r.val) :
    outB m c t (ix3 0 r d) = res (gHm m c) (gHa m c) (gW m c) (gX m c) (gMod m c) (gPost m c) b s d := by
  have htN := t.isLt.trans_eq hN
  have hp : (pt (t.val - 1)).val = t.val - 1 := Nat.min_eq_left (by omega)
  have hx : iblk m c 3 t (ix3 0 r d) = gX m c (ix3 b s d) := by
    rw [iblk3_at m c t ht 0 r d b s d (by show b.val = _ * 1 + 0; omega) hs (by omega), V_main_arg3]
  have hg : row8 (iblk m c 4 t) ((t.val - 1) / 4) (ix2 0 d) = gMod m c (ix2 b ⟨4096 + d.val, by omega⟩) := by
    show iblk m c 4 t (ix2 ⟨(t.val - 1) / 4 % 8, _⟩ d) = _
    rw [iblk4_at m c t ⟨(t.val - 1) / 4 % 8, Nat.mod_lt _ (by decide)⟩ d ⟨b.val, by omega⟩ ⟨d.val, by omega⟩ (by show b.val = 0 * 8 + (t.val - 1) / 4 % 8; omega)
      (by show d.val = 0 * 2048 + d.val; omega), V_v1_at m c _ b.isLt]
  have hq : row2 (iblk m c 5 t) (ix2 0 d) = gPost m c (ix2 0 d) := by
    show iblk m c 5 t (ix2 0 d) = _
    rw [iblk5_at m c t 0 d 0 d (by decide) (by omega), V_main_arg5]
  have ha : ∀ k : Fin 2048, prj m c (pt (t.val - 1)) (ix2 r k) = proj (gHm m c) (gHa m c) (gW m c) b s k := fun k =>
    prj_at m c _ (by omega) r k b s (by omega) (by rw [hp]; exact hs)
  unfold outB
  rw [pFin_at, hx, hg, hq, funext ha]
  rfl

end Cert.Proof.Out

end
-- ==== Proof.Out.Algebraic.lean ====
module

public import proofs.«01_k».proof.Proof.Out.Frames
public import Idealize.ShloMosaic.Lib.Pipeline.ArrRel
public import proofs.«01_k».proof.Proof.Out.Value
public import Idealize.ShloMosaic.Lib.Pipeline.ValueKit

@[expose] public section

set_option maxRecDepth 16384

noncomputable section

namespace Cert.Proof.Out

open Cert.Kernel3Ideal Cert.Kernel3Ideal.Gen

open Idealize.ShloMosaic Idealize.ShloMosaic.TcCoe Idealize.SL.Sem

/-! ## The array after the call -/

variable (m : (ℓ : Loc nD τ sig) → Buf (Elt Ideal) ℓ) (c : Dev nD)

/-- The result, of the arguments. -/
def out0 : Vec Ideal S4x2048x2048 .f32 := fun y => res (gHm m c) (gHa m c) (gW m c) (gX m c) (gMod m c) (gPost m c) (y 0) (y 1) (y 2)

theorem flush6 (t : Fin cfg0.N) (h : (cfg0.win 6).flush t = true) : 1 ≤ t.val :=
  (by decide +kernel : ∀ t : Fin cfg0.N, (cfg0.win 6).flush t = true → 1 ≤ t.val) t h

/-- The arrays at the end, of any contents that the body may have left. -/
theorem arrays (r : PUnit × MemSt nD τ sig (Elt Ideal)) (h : Pipeline.RDat.FramePost cfg0 (rdats m) (V m) r) :
    r.2.mem ((c.tc : Thread nD τ).loc main_v5) = out0 m c := by
  obtain ⟨after, hL, hA⟩ := h.exists_exact c
  have l0 : ∀ t, (cfg0.win 6).flush t = true → after 6 t = outB m c t := fun t hf =>
    ((dats m 0 c).toRRel_leaves (fgt := fgt) (Rl := Rl m c) fgt_6 (hL 6 t hf)) (flush6 t hf)
  refine (hA 6).trans ?_
  · refine ((rdats m c).withAfter after).arrAt_eq_of_covers 6 (out0 m c) (by decide +kernel) fun t hf y => ?_
    have hi := idx6 t (flush6 t hf)
    rw [Pipeline.RDat.withAfter_after, l0 t hf]
    have e0 : (((cfg0.win 6).blk t).view.emb y 0).val = (t.val - 1) / 4 := by
      show win0_6.index t 0 * 1 + 1 * (y 0).val = _
      have h0 : (y 0).val < 1 := (y 0).isLt
      rw [hi.1]; omega
    have e1 : (((cfg0.win 6).blk t).view.emb y 1).val = (t.val - 1) % 4 * 512 + (y 1).val := by
      show win0_6.index t 1 * 512 + 1 * (y 1).val = _
      rw [hi.2.1]; omega
    have e2 : (((cfg0.win 6).blk t).view.emb y 2).val = (y 2).val := by
      show win0_6.index t 2 * 2048 + 1 * (y 2).val = _
      rw [hi.2.2]; omega
    have ey : (cfg0.win 6).xinj (cfg0.grid.coords t) y = ix3 (n0 := 1) (n1 := 512) (n2 := 2048) 0 (y 1) (y 2) :=
      funext fun a => by
        match a with
        | ⟨0, _⟩ => exact Fin.ext (show (y 0).val = 0 by have h0 : (y 0).val < 1 := (y 0).isLt; omega)
        | ⟨1, _⟩ => rfl
        | ⟨2, _⟩ => rfl
    rw [cast_eq, ey]
    refine (outB_at m c t (flush6 t hf) (y 1) (y 2) _ _ e0 e1).trans ?_
    unfold out0
    exact congrArg _ (Fin.ext e2.symm)

/-- The call and the reference leave the same result, and their arguments as they were. -/
theorem algebraic : Cert.algebraic_Kernel3Ideal_Reference3Ideal := fun m g m' g' _ hm => by
  refine ⟨fun c => out0 m c, ?_, ?_⟩
  · exact (θ_run defs _ _).mono (fun r h c => ⟨arrays m c r h.1, args_kept m r h.1 c⟩) (run_main m g)
  · refine (θ_run Cert.Reference3Ideal.defs _ _).mono (fun r h c => ?_) (Cert.Reference3Ideal.Value.run (F := Ideal) m' g')
    obtain ⟨h0, hk⟩ := h c
    obtain ⟨a0, a1, a2, a3, a4, a5⟩ := hm c
    refine ⟨h0.trans (funext fun y => ?_), hk⟩
    refine (congrArg _ (eq_ix3 (n0 := 4) (n1 := 2048) (n2 := 2048) y)).trans ?_
    refine (refOut_at _ _ _ _ _ _ _ _ _).trans ?_
    rw [a0, a1, a2, a3, a4, a5]
    rfl

end Cert.Proof.Out

end
-- ==== Proof.In.Base.lean ====
module

public import proofs.«01_k».proof.Proof.Gen.Kernel4Ideal.Frame
public import proofs.«01_k».proof.Proof.Gen.Kernel4Ideal.Skeleton
public import Idealize.ShloMosaic.Lib.Pointwise
public import proofs.«01_k».proof.Proof.Mlp.Base

@[expose] public section

set_option maxRecDepth 16384

noncomputable section

namespace Cert.Proof.In

open Cert.Kernel4Ideal Cert.Kernel4Ideal.Gen
open Cert.Proof.Mlp (𝒱₀ readAt_window window_whole put_whole_at)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values the body computes -/

/-- A tile of rows normed, scaled and shifted. -/
def pH (x : Vec F S1x256x2048 .f32) (g sc sh : Vec F S1x2048 .f32) : Vec F S256x2048 .bf16 := k0_pay5 (k0_pay4 x g sc) sh

theorem pH_first (x : Vec F S1x256x2048 .f32) (g sc sh : Vec F S1x2048 .f32) : k0_pay1 (k0_pay3 x g) sc sh = pH x g sc sh := rfl

/-- The gates of a tile: a row per gate, the forget gates after the log-sigmoid. -/
def pLogs (h : Vec F S256x2048 .bf16) (w : Vec F S2048x128 .bf16) (bi bf : Vec F S2x4 .f32) : FVec F S8x256 .f32 :=
  k0_pay12 (bf (ix2 1 2)) (bf (ix2 1 3)) (k0_pay8 h w) (iota .tc S8x256 32 [0] iota_S8x256_d0_w32)
    (k0_pay9 (bi (ix2 1 0)) (bi (ix2 1 1)) (bi (ix2 1 2)) (bi (ix2 1 3)) (bf (ix2 1 0))) k0_pay10 (k0_pay11 (bf (ix2 1 1)))

/-- The gates of a tile after the first three rounds of the running sum. -/
def pSums (h : Vec F S256x2048 .bf16) (w : Vec F S2048x128 .bf16) (bi bf : Vec F S2x4 .f32) : FVec F S8x256 .f32 :=
  k0_pay14 (bf (ix2 1 2)) (bf (ix2 1 3)) (k0_pay8 h w) (iota .tc S8x256 32 [0] iota_S8x256_d0_w32)
    (k0_pay9 (bi (ix2 1 0)) (bi (ix2 1 1)) (bi (ix2 1 2)) (bi (ix2 1 3)) (bf (ix2 1 0))) k0_pay10 (k0_pay11 (bf (ix2 1 1)))

/-- The three groups of gate rows a tile leaves. -/
def pGv (y : Vec F S1x24x256 .f32) (x s : FVec F S8x256 .f32) : Vec F S1x24x256 .f32 :=
  VecWindow.put (VecWindow.put (VecWindow.put y (![0, 0, 0]) S1x8x256.size (k0_pay18 x k0_pay13 s k0_pay15))
    (![0, 8, 0]) S1x8x256.size (k0_pay23 (k0_pay20 k0_pay13 (k0_pay17 x k0_pay13 s k0_pay15) (k0_pay19 x k0_pay13 s k0_pay15)) (k0_pay21 k0_pay13)
      (k0_pay22 k0_pay13 (k0_pay17 x k0_pay13 s k0_pay15) (k0_pay19 x k0_pay13 s k0_pay15))))
    (![0, 16, 0]) S1x8x256.size (k0_pay24 (k0_pay16 k0_pay13 s k0_pay15))

/-- The columns of the packed weights a product reads. -/
abbrev wQK (w : Vec F S2048x4736 .bf16) : Vec F S2048x1024 .bf16 := VecWindow.window w (![0, 0]) S2048x1024.size inb_S2048x4736_S2048x1024_0_0
abbrev wV (w : Vec F S2048x4736 .bf16) : Vec F S2048x1024 .bf16 := VecWindow.window w (![0, 1024]) S2048x1024.size inb_S2048x4736_S2048x1024_0_1024
abbrev wO (w : Vec F S2048x4736 .bf16) : Vec F S2048x1024 .bf16 := VecWindow.window w (![0, 2048]) S2048x1024.size inb_S2048x4736_S2048x1024_0_2048
abbrev wA (w : Vec F S2048x4736 .bf16) : Vec F S2048x1536 .bf16 := VecWindow.window w (![0, 3072]) S2048x1536.size inb_S2048x4736_S2048x1536_0_3072
abbrev wG (w : Vec F S2048x4736 .bf16) : Vec F S2048x128 .bf16 := VecWindow.window w (![0, 4608]) S2048x128.size inb_S2048x4736_S2048x128_0_4608

/-- Whether the tile the point projects starts a sequence. -/
def starts (i : grid0.Coords) : BitVec 1 :=
  have v97 : BitVec 32 := Scalar.subi (BitVec.ofNat 32 (i 0).val) 1#32
  have v98 : BitVec 1 := Scalar.cmpi .eq 8#32 0#32
  have v99 : BitVec 32 := Scalar.select v98 1#32 8#32
  have v100 : BitVec 32 := Scalar.remsi v97 v99
  have v101 : BitVec 1 := Scalar.cmpi .ne v100 0#32
  have v102 : BitVec 1 := Scalar.cmpi .slt v100 0#32
  have v103 : BitVec 1 := Scalar.cmpi .slt v99 0#32
  have v104 : BitVec 1 := Scalar.xori v102 v103
  have v105 : BitVec 1 := Scalar.andi v104 v101
  have v106 : BitVec 32 := Scalar.addi v100 v99
  have v107 : BitVec 32 := Scalar.select v105 v106 v100
  Scalar.cmpi .eq v107 0#32

/-- The rows the convolution reads: the eight rows before the tile, or zeros, then the tile's. -/
def pBuf (st : BitVec 1) (y : Vec F S264x1024 .f32) (cr : Vec F S8x1024 .f32) (h : Vec F S256x2048 .bf16) (w : Vec F S2048x1024 .bf16) : Vec F S264x1024 .f32 :=
  VecWindow.put (VecWindow.put y (![0, 0]) S8x1024.size (k0_pay26 st cr)) (![8, 0]) S256x1024.size (k0_pay27 h w)

/-- The queries, scaled, and the keys of a tile: the convolution over the rows `B` and its activation. -/
def pQk (y : Vec F S1x256x1024 .bf16) (B : Vec F S264x1024 .f32) (h : Vec F S256x2048 .bf16) (w : Vec F S2048x1024 .bf16) (cw : Vec F S1x4x1024 .f32) (cb : Vec F S1x1024 .f32) : Vec F S1x256x1024 .bf16 :=
  VecWindow.put (VecWindow.put y (![0, 0, 0]) S1x256x512.size (k0_pay33 (k0_pay29 cw) (k0_pay30 h cb w cw) (k0_pay31 cw) (VecWindow.window B (![5, 0]) S256x1024.size inb_S264x1024_S256x1024_5_0)
    (VecWindow.window B (![6, 0]) S256x1024.size inb_S264x1024_S256x1024_6_0) (VecWindow.window B (![7, 0]) S256x1024.size inb_S264x1024_S256x1024_7_0)))
    (![0, 0, 512]) S1x256x512.size (k0_pay34 (k0_pay29 cw) (k0_pay30 h cb w cw) (k0_pay31 cw) (VecWindow.window B (![5, 0]) S256x1024.size inb_S264x1024_S256x1024_5_0)
    (VecWindow.window B (![6, 0]) S256x1024.size inb_S264x1024_S256x1024_6_0) (VecWindow.window B (![7, 0]) S256x1024.size inb_S264x1024_S256x1024_7_0))

/-- The attention's queries, scaled, keys and values of a tile. -/
def pAtt (y : Vec F S1x256x1536 .bf16) (h : Vec F S256x2048 .bf16) (w : Vec F S2048x1536 .bf16) : Vec F S1x256x1536 .bf16 :=
  VecWindow.put (VecWindow.put y (![0, 0, 0]) S1x256x1024.size (k0_pay38 h w)) (![0, 0, 1024]) S1x256x512.size (k0_pay39 h w)

/-- A load after stores reads what the last store put over what was there. -/
theorem read_put_cons {sig : RefSig} {κ : Kind} {sp : Space} {s : Shape} {e : EltTy} {Val : EltTy → Type} (v : View sig κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A cell of the second row of a table, read alone. -/
theorem window_cell {α : Type} (x : S2x4.Idx → α) (k : Fin 4) (inb : ∀ a, (![1, k.val] : Fin 2 → ℕ) a + (![1, 1] : Fin 2 → ℕ) a ≤ S2x4.size a)
    (y : S1x1.Idx) : VecWindow.window x (![1, k.val]) (![1, 1]) inb y = x (ix2 1 k) := by
  refine congrArg x (funext fun a => Fin.ext ?_)
  match a with
  | 0 => have h : (y 0).val < 1 := (y 0).isLt
         show 1 + 1 * (y 0).val = 1
         omega
  | 1 => have h : (y 1).val < 1 := (y 1).isLt
         show k.val + 1 * (y 1).val = k.val
         omega

theorem window_cell0 {α : Type} (x : S2x4.Idx → α) (inb) (y : S1x1.Idx) : VecWindow.window x (![1, 0]) (![1, 1]) inb y = x (ix2 1 0) := window_cell x 0 inb y
theorem window_cell1 {α : Type} (x : S2x4.Idx → α) (inb) (y : S1x1.Idx) : VecWindow.window x (![1, 1]) (![1, 1]) inb y = x (ix2 1 1) := window_cell x 1 inb y
theorem window_cell2 {α : Type} (x : S2x4.Idx → α) (inb) (y : S1x1.Idx) : VecWindow.window x (![1, 2]) (![1, 1]) inb y = x (ix2 1 2) := window_cell x 2 inb y
theorem window_cell3 {α : Type} (x : S2x4.Idx → α) (inb) (y : S1x1.Idx) : VecWindow.window x (![1, 3]) (![1, 1]) inb y = x (ix2 1 3) := window_cell x 3 inb y

/-- A load of the convolution's rows after the two stores that cover them. -/
theorem read_buf {sig : RefSig} {κ : Kind} {sp : Space} (y : Vec F S264x1024 .f32) (v : View sig κ sp S264x1024 .f32) (inb1 inb2) (w1 : Vec F S8x1024 .f32) (w2 : Vec F S256x1024 .f32)
    {off size : Fin 2 → ℕ} (inb : ∀ a, off a + size a ≤ S264x1024.size a) :
    v.readCov (Val := Elt F) [⟨Rect.unit (s := S264x1024) (![8, 0]) (![256, 1024]) inb2, w2⟩, ⟨Rect.unit (s := S264x1024) (![0, 0]) (![8, 1024]) inb1, w1⟩] (Rect.unit off size inb).toLoadRect
      = VecWindow.window (VecWindow.put (VecWindow.put y (![0, 0]) (![8, 1024]) w1) (![8, 0]) (![256, 1024]) w2) off size inb := by
  unfold View.readCov
  rw [readAt_window, read_put_cons, read_put_cons]
  rw [View.writes_nil]
  suffices e : ∀ z : Vec F S264x1024 .f32, VecWindow.put (VecWindow.put z (![0, 0]) (![8, 1024]) w1) (![8, 0]) (![256, 1024]) w2
      = VecWindow.put (VecWindow.put y (![0, 0]) (![8, 1024]) w1) (![8, 0]) (![256, 1024]) w2 from
     congrArg (fun z : Vec F S264x1024 .f32 => VecWindow.window z off size inb) (e _)
  intro z; funext p
  unfold VecWindow.put
  by_cases hp : ∀ a, (![8, 0] : Fin 2 → ℕ) a ≤ (p a).val ∧ (p a).val < (![8, 0] : Fin 2 → ℕ) a + (![256, 1024] : Fin 2 → ℕ) a
  · rw [dif_pos hp, dif_pos hp]
  · rw [dif_neg hp, dif_neg hp]
    have hq : ∀ a, (![0, 0] : Fin 2 → ℕ) a ≤ (p a).val ∧ (p a).val < (![0, 0] : Fin 2 → ℕ) a + (![8, 1024] : Fin 2 → ℕ) a := by
      have h0 : (p 0).val < 264 := (p 0).isLt
      have h1 : (p 1).val < 1024 := (p 1).isLt
      rw [Fin.forall_fin_two] at hp ⊢
      simp only [Matrix.cons_val_zero, Matrix.cons_val_one] at hp ⊢
      omega
    rw [dif_pos hq, dif_pos hq]

/-! The two branches of a tile compute the same values. -/

theorem twin4 : k0_pay41 (F := F) = k0_pay4 := rfl
theorem twin5 : k0_pay42 (F := F) = k0_pay5 := rfl
theorem twin6 : k0_pay43 (F := F) = k0_pay6 := rfl
theorem twin7 : k0_pay44 (F := F) = k0_pay7 := rfl
theorem twin8 : k0_pay45 (F := F) = k0_pay8 := rfl
theorem twin9 : k0_pay46 (F := F) = k0_pay9 := rfl
theorem twin10 : k0_pay47 = k0_pay10 := rfl
theorem twin11 : k0_pay48 (F := F) = k0_pay11 := rfl
theorem twin12 : k0_pay49 (F := F) = k0_pay12 := rfl
theorem twin13 : k0_pay50 = k0_pay13 := rfl
theorem twin14 : k0_pay51 (F := F) = k0_pay14 := rfl
theorem twin15 : k0_pay52 = k0_pay15 := rfl
theorem twin16 : k0_pay53 (F := F) = k0_pay16 := rfl
theorem twin17 : k0_pay54 (F := F) = k0_pay17 := rfl
theorem twin18 : k0_pay55 (F := F) = k0_pay18 := rfl
theorem twin19 : k0_pay56 (F := F) = k0_pay19 := rfl
theorem twin20 : k0_pay57 (F := F) = k0_pay20 := rfl
theorem twin21 : k0_pay58 = k0_pay21 := rfl
theorem twin22 : k0_pay59 (F := F) = k0_pay22 := rfl
theorem twin23 : k0_pay60 (F := F) = k0_pay23 := rfl
theorem twin24 : k0_pay61 (F := F) = k0_pay24 := rfl
theorem twin25 : k0_pay62 (F := F) = k0_pay25 := rfl
theorem twin26 : k0_pay63 (F := F) = k0_pay26 := rfl
theorem twin27 : k0_pay64 (F := F) = k0_pay27 := rfl
theorem twin28 : k0_pay65 (F := F) = k0_pay28 := rfl
theorem twin29 : k0_pay66 (F := F) = k0_pay29 := rfl
theorem twin30 : k0_pay67 (F := F) = k0_pay30 := rfl
theorem twin31 : k0_pay68 (F := F) = k0_pay31 := rfl
theorem twin32 : k0_pay69 (F := F) = k0_pay32 := rfl
theorem twin33 : k0_pay70 (F := F) = k0_pay33 := rfl
theorem twin34 : k0_pay71 (F := F) = k0_pay34 := rfl
theorem twin35 : k0_pay72 (F := F) = k0_pay35 := rfl
theorem twin36 : k0_pay73 (F := F) = k0_pay36 := rfl
theorem twin37 : k0_pay74 (F := F) = k0_pay37 := rfl
theorem twin38 : k0_pay75 (F := F) = k0_pay38 := rfl
theorem twin39 : k0_pay76 (F := F) = k0_pay39 := rfl
theorem twin40 : k0_pay77 (F := F) = k0_pay40 := rfl

theorem whole_S1x256x2048 {α : Type} (x : S1x256x2048.Idx → α) (inb : ∀ a, (![0, 0, 0] : Fin 3 → ℕ) a + (![1, 256, 2048] : Fin 3 → ℕ) a ≤ S1x256x2048.size a) :
    VecWindow.window (s := S1x256x2048) x ![0, 0, 0] ![1, 256, 2048] inb = x := window_whole x _ inb
theorem whole_S256x2048 {α : Type} (x : S256x2048.Idx → α) (inb : ∀ a, (![0, 0] : Fin 2 → ℕ) a + (![256, 2048] : Fin 2 → ℕ) a ≤ S256x2048.size a) :
    VecWindow.window (s := S256x2048) x ![0, 0] ![256, 2048] inb = x := window_whole x _ inb
theorem whole_S1x64x8192 {α : Type} (x : S1x64x8192.Idx → α) (inb : ∀ a, (![0, 0, 0] : Fin 3 → ℕ) a + (![1, 64, 8192] : Fin 3 → ℕ) a ≤ S1x64x8192.size a) :
    VecWindow.window (s := S1x64x8192) x ![0, 0, 0] ![1, 64, 8192] inb = x := window_whole x _ inb
theorem whole_S8x1024 {α : Type} (x : S8x1024.Idx → α) (inb : ∀ a, (![0, 0] : Fin 2 → ℕ) a + (![8, 1024] : Fin 2 → ℕ) a ≤ S8x1024.size a) :
    VecWindow.window (s := S8x1024) x ![0, 0] ![8, 1024] inb = x := window_whole x _ inb
theorem whole_S1x4x1024 {α : Type} (x : S1x4x1024.Idx → α) (inb : ∀ a, (![0, 0, 0] : Fin 3 → ℕ) a + (![1, 4, 1024] : Fin 3 → ℕ) a ≤ S1x4x1024.size a) :
    VecWindow.window (s := S1x4x1024) x ![0, 0, 0] ![1, 4, 1024] inb = x := window_whole x _ inb
theorem putw_S64x8192 {α : Type} (x w : S64x8192.Idx → α) :
    VecWindow.put (s := S64x8192) x ![0, 0] ![64, 8192] w = w := put_whole_at x w _ (by decide)
theorem putw_S256x2048 {α : Type} (x w : S256x2048.Idx → α) :
    VecWindow.put (s := S256x2048) x ![0, 0] ![256, 2048] w = w := put_whole_at x w _ (by decide)
theorem putw_S8x1024 {α : Type} (x w : S8x1024.Idx → α) :
    VecWindow.put (s := S8x1024) x ![0, 0] ![8, 1024] w = w := put_whole_at x w _ (by decide)
theorem putw_S1x256x1024 {α : Type} (x w : S1x256x1024.Idx → α) :
    VecWindow.put (s := S1x256x1024) x ![0, 0, 0] ![1, 256, 1024] w = w := put_whole_at x w _ (by decide)

/-! ## The body on any staging memrefs -/

section
variable (c : Dev nD) (i : grid0.Coords)
  (M1 : Memref sig .tc .smem S2x4 .f32) (h1 : M1.IsWhole)
  (M2 : Memref sig .tc .smem S2x4 .f32) (h2 : M2.IsWhole)
  (M3 : Memref sig .tc .vmem S1x256x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S2x2048 .f32) (h6 : M6.IsWhole)
  (M7 : Memref sig .tc .vmem S2048x4736 .bf16) (h7 : M7.IsWhole)
  (M8 : Memref sig .tc .vmem S1x4x1024 .f32) (h8 : M8.IsWhole)
  (M9 : Memref sig .tc .vmem S2x1024 .f32) (h9 : M9.IsWhole)
  (M10 : Memref sig .tc .vmem S1x64x8192 .f32) (h10 : M10.IsWhole)
  (M11 : Memref sig .tc .vmem S1x256x2048 .f32) (h11 : M11.IsWhole)
  (M12 : Memref sig .tc .vmem S1x256x1024 .bf16) (h12 : M12.IsWhole)
  (M13 : Memref sig .tc .vmem S1x256x1024 .bf16) (h13 : M13.IsWhole)
  (M14 : Memref sig .tc .vmem S1x256x1024 .bf16) (h14 : M14.IsWhole)
  (M15 : Memref sig .tc .vmem S1x256x1536 .bf16) (h15 : M15.IsWhole)
  (M16 : Memref sig .tc .vmem S1x24x256 .f32) (h16 : M16.IsWhole)
  (M17 : Memref sig .tc .vmem S64x8192 .bf16) (h17 : M17.IsWhole)
  (M18 : Memref sig .tc .vmem S256x2048 .bf16) (h18 : M18.IsWhole)
  (M19 : Memref sig .tc .vmem S8x1024 .f32) (h19 : M19.IsWhole)
  (M20 : Memref sig .tc .vmem S264x1024 .f32) (h20 : M20.IsWhole)
  (M21 : Memref sig .tc .vmem S256x2048 .bf16) (h21 : M21.IsWhole)
  (M22 : Memref sig .tc .vmem S256x2048 .bf16) (h22 : M22.IsWhole)
  (X1 : Vec F S2x4 .f32) (X2 : Vec F S2x4 .f32) (X3 : Vec F S1x256x2048 .f32) (X4 : Vec F S8x2048 .f32) (X5 : Vec F S8x2048 .f32) (X6 : Vec F S2x2048 .f32)
  (X7 : Vec F S2048x4736 .bf16) (X8 : Vec F S1x4x1024 .f32) (X9 : Vec F S2x1024 .f32) (X10 : Vec F S1x64x8192 .f32) (X11 : Vec F S1x256x2048 .f32)
  (Y12 : Vec F S1x256x1024 .bf16) (Y13 : Vec F S1x256x1024 .bf16) (Y14 : Vec F S1x256x1024 .bf16) (Y15 : Vec F S1x256x1536 .bf16) (Y16 : Vec F S1x24x256 .f32)
  (Y17 : Vec F S64x8192 .bf16) (Y18 : Vec F S256x2048 .bf16) (Y19 : Vec F S8x1024 .f32) (Y20 : Vec F S264x1024 .f32) (Y21 : Vec F S256x2048 .bf16) (Y22 : Vec F S256x2048 .bf16)

/-- The eleven input buffers, each at its block. -/
def ins : sProp 𝕄 :=
  iprop(owns (c : Thread nD τ) M1 fullShare X1
    ∗ owns (c : Thread nD τ) M2 fullShare X2
    ∗ owns (c : Thread nD τ) M3 fullShare X3
    ∗ owns (c : Thread nD τ) M4 fullShare X4
    ∗ owns (c : Thread nD τ) M5 fullShare X5
    ∗ owns (c : Thread nD τ) M6 fullShare X6
    ∗ owns (c : Thread nD τ) M7 fullShare X7
    ∗ owns (c : Thread nD τ) M8 fullShare X8
    ∗ owns (c : Thread nD τ) M9 fullShare X9
    ∗ owns (c : Thread nD τ) M10 fullShare X10
    ∗ owns (c : Thread nD τ) M11 fullShare X11)

/-- The seven output buffers and the four scratch buffers. -/
def outs : sProp 𝕄 :=
  iprop(owns (c : Thread nD τ) M12 fullShare Y12
    ∗ owns (c : Thread nD τ) M13 fullShare Y13
    ∗ owns (c : Thread nD τ) M14 fullShare Y14
    ∗ owns (c : Thread nD τ) M15 fullShare Y15
    ∗ owns (c : Thread nD τ) M16 fullShare Y16
    ∗ owns (c : Thread nD τ) M17 fullShare Y17
    ∗ owns (c : Thread nD τ) M18 fullShare Y18
    ∗ owns (c : Thread nD τ) M19 fullShare Y19
    ∗ owns (c : Thread nD τ) M20 fullShare Y20
    ∗ owns (c : Thread nD τ) M21 fullShare Y21
    ∗ owns (c : Thread nD τ) M22 fullShare Y22)

end

end Cert.Proof.In

end
-- ==== Proof.In.First.lean ====
module

public import proofs.«01_k».proof.Proof.In.Base

@[expose] public section

set_option maxRecDepth 16384

noncomputable section

namespace Cert.Proof.In

open Cert.Kernel4Ideal Cert.Kernel4Ideal.Gen
open Cert.Proof.Mlp (𝒱₀ readAt_window window_whole put_whole_at)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging memrefs -/

section
variable (c : Dev nD) (i : grid0.Coords)
  (M1 : Memref sig .tc .smem S2x4 .f32) (h1 : M1.IsWhole)
  (M2 : Memref sig .tc .smem S2x4 .f32) (h2 : M2.IsWhole)
  (M3 : Memref sig .tc .vmem S1x256x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S2x2048 .f32) (h6 : M6.IsWhole)
  (M7 : Memref sig .tc .vmem S2048x4736 .bf16) (h7 : M7.IsWhole)
  (M8 : Memref sig .tc .vmem S1x4x1024 .f32) (h8 : M8.IsWhole)
  (M9 : Memref sig .tc .vmem S2x1024 .f32) (h9 : M9.IsWhole)
  (M10 : Memref sig .tc .vmem S1x64x8192 .f32) (h10 : M10.IsWhole)
  (M11 : Memref sig .tc .vmem S1x256x2048 .f32) (h11 : M11.IsWhole)
  (M12 : Memref sig .tc .vmem S1x256x1024 .bf16) (h12 : M12.IsWhole)
  (M13 : Memref sig .tc .vmem S1x256x1024 .bf16) (h13 : M13.IsWhole)
  (M14 : Memref sig .tc .vmem S1x256x1024 .bf16) (h14 : M14.IsWhole)
  (M15 : Memref sig .tc .vmem S1x256x1536 .bf16) (h15 : M15.IsWhole)
  (M16 : Memref sig .tc .vmem S1x24x256 .f32) (h16 : M16.IsWhole)
  (M17 : Memref sig .tc .vmem S64x8192 .bf16) (h17 : M17.IsWhole)
  (M18 : Memref sig .tc .vmem S256x2048 .bf16) (h18 : M18.IsWhole)
  (M19 : Memref sig .tc .vmem S8x1024 .f32) (h19 : M19.IsWhole)
  (M20 : Memref sig .tc .vmem S264x1024 .f32) (h20 : M20.IsWhole)
  (M21 : Memref sig .tc .vmem S256x2048 .bf16) (h21 : M21.IsWhole)
  (M22 : Memref sig .tc .vmem S256x2048 .bf16) (h22 : M22.IsWhole)
  (X1 : Vec F S2x4 .f32) (X2 : Vec F S2x4 .f32) (X3 : Vec F S1x256x2048 .f32) (X4 : Vec F S8x2048 .f32) (X5 : Vec F S8x2048 .f32) (X6 : Vec F S2x2048 .f32)
  (X7 : Vec F S2048x4736 .bf16) (X8 : Vec F S1x4x1024 .f32) (X9 : Vec F S2x1024 .f32) (X10 : Vec F S1x64x8192 .f32) (X11 : Vec F S1x256x2048 .f32)
  (Y12 : Vec F S1x256x1024 .bf16) (Y13 : Vec F S1x256x1024 .bf16) (Y14 : Vec F S1x256x1024 .bf16) (Y15 : Vec F S1x256x1536 .bf16) (Y16 : Vec F S1x24x256 .f32)
  (Y17 : Vec F S64x8192 .bf16) (Y18 : Vec F S256x2048 .bf16) (Y19 : Vec F S8x1024 .f32) (Y20 : Vec F S264x1024 .f32) (Y21 : Vec F S256x2048 .bf16) (Y22 : Vec F S256x2048 .bf16)

set_option maxHeartbeats 4000000 in
/-- The `first` branch of the body. -/
theorem body_first (hc : k0_cond1 i = 1#1) (n2 : ¬ k0_cond2 i = 1#1) (n3 : ¬ k0_cond3 i = 1#1) (E : Set ℕ) (K : PUnit → sProp 𝕄) :
    iprop(ins c M1 M2 M3 M4 M5 M6 M7 M8 M9 M10 M11 X1 X2 X3 X4 X5 X6 X7 X8 X9 X10 X11
        ∗ outs c M12 M13 M14 M15 M16 M17 M18 M19 M20 M21 M22 Y12 Y13 Y14 Y15 Y16 Y17 Y18 Y19 Y20 Y21 Y22
        ∗ (iprop(ins c M1 M2 M3 M4 M5 M6 M7 M8 M9 M10 M11 X1 X2 X3 X4 X5 X6 X7 X8 X9 X10 X11
          ∗ outs c M12 M13 M14 M15 M16 M17 M18 M19 M20 M21 M22
              Y12
              Y13
              Y14
              Y15
              Y16
              Y17
              Y18
              (k0_pay2 (F := F))
              Y20
              (pH X3 (VecWindow.window X6 (![1, 0]) S1x2048.size inb_S2x2048_S1x2048_1_0) (VecWindow.window X5 (k0_off1 i) S1x2048.size (k0_off1_inb i hc)) (VecWindow.window X4 (k0_off1 i) S1x2048.size (k0_off1_inb i hc)))
              Y22) -∗ K ⟨⟩))
      ⊢ wp frame (wpE (defs₀ (F := F)) 𝒱₀ c none) E (cc0_in_proj i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, ⟨⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  obtain rfl := h20.eq_unread e20
  obtain rfl := h21.eq_unread e21
  obtain rfl := h22.eq_unread e22
  sl_unfold [cc0_in_proj]
  sl_open_parts
  sl_exec
  sl_step
  iapply Hk
  isplitl [H1 H2 H3 H4 H5 H6 H7 H8 H9 H10 H11]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  isplitl [H16]; iexists _; isplitr; swap; iexact H16; rotate_left
  isplitl [H17]; iexists _; isplitr; swap; iexact H17; rotate_left
  isplitl [H18]; iexists _; isplitr; swap; iexact H18; rotate_left
  isplitl [H19]; iexists _; isplitr; swap; iexact H19; rotate_left
  isplitl [H20]; iexists _; isplitr; swap; iexact H20; rotate_left
  isplitl [H21]; iexists _; isplitr; swap; iexact H21; rotate_left
  iexists _; isplitr; swap; iexact H22; rotate_left
  all_goals
    ipureintro
    sl_unfold_run_names
    simp only [read_buf Y20, window_cell0, window_cell1, window_cell2, window_cell3, twin4, twin5, twin6, twin7, twin8, twin9, twin10, twin11, twin12, twin13, twin14, twin15, twin16, twin17, twin18, twin19, twin20, twin21, twin22, twin23, twin24, twin25, twin26, twin27, twin28, twin29, twin30, twin31, twin32, twin33, twin34, twin35, twin36, twin37, twin38, twin39, twin40, View.read_writes_full, View.readAt_full, readAt_window, read_put_cons, View.writes_nil, putw_S64x8192, putw_S256x2048, putw_S8x1024, putw_S1x256x1024, whole_S1x256x2048, whole_S256x2048, whole_S1x64x8192, whole_S8x1024, whole_S1x4x1024, pH_first, Memref.IsWhole.read_unread] <;>
    first | with_reducible rfl | rfl

end

end Cert.Proof.In

end
-- ==== Proof.In.Odd.lean ====
module

public import proofs.«01_k».proof.Proof.In.Base

@[expose] public section

set_option maxRecDepth 16384

noncomputable section

namespace Cert.Proof.In

open Cert.Kernel4Ideal Cert.Kernel4Ideal.Gen
open Cert.Proof.Mlp (𝒱₀ readAt_window window_whole put_whole_at)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging memrefs -/

section
variable (c : Dev nD) (i : grid0.Coords)
  (M1 : Memref sig .tc .smem S2x4 .f32) (h1 : M1.IsWhole)
  (M2 : Memref sig .tc .smem S2x4 .f32) (h2 : M2.IsWhole)
  (M3 : Memref sig .tc .vmem S1x256x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S2x2048 .f32) (h6 : M6.IsWhole)
  (M7 : Memref sig .tc .vmem S2048x4736 .bf16) (h7 : M7.IsWhole)
  (M8 : Memref sig .tc .vmem S1x4x1024 .f32) (h8 : M8.IsWhole)
  (M9 : Memref sig .tc .vmem S2x1024 .f32) (h9 : M9.IsWhole)
  (M10 : Memref sig .tc .vmem S1x64x8192 .f32) (h10 : M10.IsWhole)
  (M11 : Memref sig .tc .vmem S1x256x2048 .f32) (h11 : M11.IsWhole)
  (M12 : Memref sig .tc .vmem S1x256x1024 .bf16) (h12 : M12.IsWhole)
  (M13 : Memref sig .tc .vmem S1x256x1024 .bf16) (h13 : M13.IsWhole)
  (M14 : Memref sig .tc .vmem S1x256x1024 .bf16) (h14 : M14.IsWhole)
  (M15 : Memref sig .tc .vmem S1x256x1536 .bf16) (h15 : M15.IsWhole)
  (M16 : Memref sig .tc .vmem S1x24x256 .f32) (h16 : M16.IsWhole)
  (M17 : Memref sig .tc .vmem S64x8192 .bf16) (h17 : M17.IsWhole)
  (M18 : Memref sig .tc .vmem S256x2048 .bf16) (h18 : M18.IsWhole)
  (M19 : Memref sig .tc .vmem S8x1024 .f32) (h19 : M19.IsWhole)
  (M20 : Memref sig .tc .vmem S264x1024 .f32) (h20 : M20.IsWhole)
  (M21 : Memref sig .tc .vmem S256x2048 .bf16) (h21 : M21.IsWhole)
  (M22 : Memref sig .tc .vmem S256x2048 .bf16) (h22 : M22.IsWhole)
  (X1 : Vec F S2x4 .f32) (X2 : Vec F S2x4 .f32) (X3 : Vec F S1x256x2048 .f32) (X4 : Vec F S8x2048 .f32) (X5 : Vec F S8x2048 .f32) (X6 : Vec F S2x2048 .f32)
  (X7 : Vec F S2048x4736 .bf16) (X8 : Vec F S1x4x1024 .f32) (X9 : Vec F S2x1024 .f32) (X10 : Vec F S1x64x8192 .f32) (X11 : Vec F S1x256x2048 .f32)
  (Y12 : Vec F S1x256x1024 .bf16) (Y13 : Vec F S1x256x1024 .bf16) (Y14 : Vec F S1x256x1024 .bf16) (Y15 : Vec F S1x256x1536 .bf16) (Y16 : Vec F S1x24x256 .f32)
  (Y17 : Vec F S64x8192 .bf16) (Y18 : Vec F S256x2048 .bf16) (Y19 : Vec F S8x1024 .f32) (Y20 : Vec F S264x1024 .f32) (Y21 : Vec F S256x2048 .bf16) (Y22 : Vec F S256x2048 .bf16)

set_option maxHeartbeats 4000000 in
/-- The `odd` branch of the body. -/
theorem body_odd (n1 : ¬ k0_cond1 i = 1#1) (hc : k0_cond2 i = 1#1) (n3 : ¬ k0_cond3 i = 1#1) (E : Set ℕ) (K : PUnit → sProp 𝕄) :
    iprop(ins c M1 M2 M3 M4 M5 M6 M7 M8 M9 M10 M11 X1 X2 X3 X4 X5 X6 X7 X8 X9 X10 X11
        ∗ outs c M12 M13 M14 M15 M16 M17 M18 M19 M20 M21 M22 Y12 Y13 Y14 Y15 Y16 Y17 Y18 Y19 Y20 Y21 Y22
        ∗ (iprop(ins c M1 M2 M3 M4 M5 M6 M7 M8 M9 M10 M11 X1 X2 X3 X4 X5 X6 X7 X8 X9 X10 X11
          ∗ outs c M12 M13 M14 M15 M16 M17 M18 M19 M20 M21 M22
              (pQk Y12 (pBuf (starts i) Y20 Y19 Y21 (wQK X7)) Y21 (wQK X7) X8 (VecWindow.window X9 (![1, 0]) S1x1024.size inb_S2x1024_S1x1024_1_0))
              (k0_pay40 Y21 (wV X7))
              (k0_pay36 (k0_pay35 Y21 (wO X7)))
              (pAtt Y15 Y21 (wA X7))
              (pGv Y16 (pLogs Y21 (wG X7) X1 X2) (pSums Y21 (wG X7) X1 X2))
              (k0_pay6 X10)
              (k0_pay7 X11)
              (k0_pay28 Y21 (wQK X7))
              (pBuf (starts i) Y20 Y19 Y21 (wQK X7))
              Y21
              (pH X3 (VecWindow.window X6 (![1, 0]) S1x2048.size inb_S2x2048_S1x2048_1_0) (VecWindow.window X5 (k0_off2 i) S1x2048.size (k0_off2_inb i hc)) (VecWindow.window X4 (k0_off2 i) S1x2048.size (k0_off2_inb i hc)))) -∗ K ⟨⟩))
      ⊢ wp frame (wpE (defs₀ (F := F)) 𝒱₀ c none) E (cc0_in_proj i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, ⟨⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  obtain rfl := h20.eq_unread e20
  obtain rfl := h21.eq_unread e21
  obtain rfl := h22.eq_unread e22
  sl_unfold [cc0_in_proj]
  sl_open_parts
  sl_exec
  sl_step
  iapply Hk
  isplitl [H1 H2 H3 H4 H5 H6 H7 H8 H9 H10 H11]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  isplitl [H16]; iexists _; isplitr; swap; iexact H16; rotate_left
  isplitl [H17]; iexists _; isplitr; swap; iexact H17; rotate_left
  isplitl [H18]; iexists _; isplitr; swap; iexact H18; rotate_left
  isplitl [H19]; iexists _; isplitr; swap; iexact H19; rotate_left
  isplitl [H20]; iexists _; isplitr; swap; iexact H20; rotate_left
  isplitl [H21]; iexists _; isplitr; swap; iexact H21; rotate_left
  iexists _; isplitr; swap; iexact H22; rotate_left
  all_goals
    ipureintro
    sl_unfold_run_names
    simp only [read_buf Y20, window_cell0, window_cell1, window_cell2, window_cell3, twin4, twin5, twin6, twin7, twin8, twin9, twin10, twin11, twin12, twin13, twin14, twin15, twin16, twin17, twin18, twin19, twin20, twin21, twin22, twin23, twin24, twin25, twin26, twin27, twin28, twin29, twin30, twin31, twin32, twin33, twin34, twin35, twin36, twin37, twin38, twin39, twin40, View.read_writes_full, View.readAt_full, readAt_window, read_put_cons, View.writes_nil, putw_S64x8192, putw_S256x2048, putw_S8x1024, putw_S1x256x1024, whole_S1x256x2048, whole_S256x2048, whole_S1x64x8192, whole_S8x1024, whole_S1x4x1024, pH_first, Memref.IsWhole.read_unread] <;>
    first | with_reducible rfl | rfl

end

end Cert.Proof.In

end
-- ==== Proof.In.Even.lean ====
module

public import proofs.«01_k».proof.Proof.In.Base

@[expose] public section

set_option maxRecDepth 16384

noncomputable section

namespace Cert.Proof.In

open Cert.Kernel4Ideal Cert.Kernel4Ideal.Gen
open Cert.Proof.Mlp (𝒱₀ readAt_window window_whole put_whole_at)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any staging memrefs -/

section
variable (c : Dev nD) (i : grid0.Coords)
  (M1 : Memref sig .tc .smem S2x4 .f32) (h1 : M1.IsWhole)
  (M2 : Memref sig .tc .smem S2x4 .f32) (h2 : M2.IsWhole)
  (M3 : Memref sig .tc .vmem S1x256x2048 .f32) (h3 : M3.IsWhole)
  (M4 : Memref sig .tc .vmem S8x2048 .f32) (h4 : M4.IsWhole)
  (M5 : Memref sig .tc .vmem S8x2048 .f32) (h5 : M5.IsWhole)
  (M6 : Memref sig .tc .vmem S2x2048 .f32) (h6 : M6.IsWhole)
  (M7 : Memref sig .tc .vmem S2048x4736 .bf16) (h7 : M7.IsWhole)
  (M8 : Memref sig .tc .vmem S1x4x1024 .f32) (h8 : M8.IsWhole)
  (M9 : Memref sig .tc .vmem S2x1024 .f32) (h9 : M9.IsWhole)
  (M10 : Memref sig .tc .vmem S1x64x8192 .f32) (h10 : M10.IsWhole)
  (M11 : Memref sig .tc .vmem S1x256x2048 .f32) (h11 : M11.IsWhole)
  (M12 : Memref sig .tc .vmem S1x256x1024 .bf16) (h12 : M12.IsWhole)
  (M13 : Memref sig .tc .vmem S1x256x1024 .bf16) (h13 : M13.IsWhole)
  (M14 : Memref sig .tc .vmem S1x256x1024 .bf16) (h14 : M14.IsWhole)
  (M15 : Memref sig .tc .vmem S1x256x1536 .bf16) (h15 : M15.IsWhole)
  (M16 : Memref sig .tc .vmem S1x24x256 .f32) (h16 : M16.IsWhole)
  (M17 : Memref sig .tc .vmem S64x8192 .bf16) (h17 : M17.IsWhole)
  (M18 : Memref sig .tc .vmem S256x2048 .bf16) (h18 : M18.IsWhole)
  (M19 : Memref sig .tc .vmem S8x1024 .f32) (h19 : M19.IsWhole)
  (M20 : Memref sig .tc .vmem S264x1024 .f32) (h20 : M20.IsWhole)
  (M21 : Memref sig .tc .vmem S256x2048 .bf16) (h21 : M21.IsWhole)
  (M22 : Memref sig .tc .vmem S256x2048 .bf16) (h22 : M22.IsWhole)
  (X1 : Vec F S2x4 .f32) (X2 : Vec F S2x4 .f32) (X3 : Vec F S1x256x2048 .f32) (X4 : Vec F S8x2048 .f32) (X5 : Vec F S8x2048 .f32) (X6 : Vec F S2x2048 .f32)
  (X7 : Vec F S2048x4736 .bf16) (X8 : Vec F S1x4x1024 .f32) (X9 : Vec F S2x1024 .f32) (X10 : Vec F S1x64x8192 .f32) (X11 : Vec F S1x256x2048 .f32)
  (Y12 : Vec F S1x256x1024 .bf16) (Y13 : Vec F S1x256x1024 .bf16) (Y14 : Vec F S1x256x1024 .bf16) (Y15 : Vec F S1x256x1536 .bf16) (Y16 : Vec F S1x24x256 .f32)
  (Y17 : Vec F S64x8192 .bf16) (Y18 : Vec F S256x2048 .bf16) (Y19 : Vec F S8x1024 .f32) (Y20 : Vec F S264x1024 .f32) (Y21 : Vec F S256x2048 .bf16) (Y22 : Vec F S256x2048 .bf16)

set_option maxHeartbeats 4000000 in
/-- The `even` branch of the body. -/
theorem body_even (n1 : ¬ k0_cond1 i = 1#1) (n2 : ¬ k0_cond2 i = 1#1) (hc : k0_cond3 i = 1#1) (E : Set ℕ) (K : PUnit → sProp 𝕄) :
    iprop(ins c M1 M2 M3 M4 M5 M6 M7 M8 M9 M10 M11 X1 X2 X3 X4 X5 X6 X7 X8 X9 X10 X11
        ∗ outs c M12 M13 M14 M15 M16 M17 M18 M19 M20 M21 M22 Y12 Y13 Y14 Y15 Y16 Y17 Y18 Y19 Y20 Y21 Y22
        ∗ (iprop(ins c M1 M2 M3 M4 M5 M6 M7 M8 M9 M10 M11 X1 X2 X3 X4 X5 X6 X7 X8 X9 X10 X11
          ∗ outs c M12 M13 M14 M15 M16 M17 M18 M19 M20 M21 M22
              (pQk Y12 (pBuf (starts i) Y20 Y19 Y22 (wQK X7)) Y22 (wQK X7) X8 (VecWindow.window X9 (![1, 0]) S1x1024.size inb_S2x1024_S1x1024_1_0))
              (k0_pay40 Y22 (wV X7))
              (k0_pay36 (k0_pay35 Y22 (wO X7)))
              (pAtt Y15 Y22 (wA X7))
              (pGv Y16 (pLogs Y22 (wG X7) X1 X2) (pSums Y22 (wG X7) X1 X2))
              (k0_pay6 X10)
              (k0_pay7 X11)
              (k0_pay28 Y22 (wQK X7))
              (pBuf (starts i) Y20 Y19 Y22 (wQK X7))
              (pH X3 (VecWindow.window X6 (![1, 0]) S1x2048.size inb_S2x2048_S1x2048_1_0) (VecWindow.window X5 (k0_off3 i) S1x2048.size (k0_off3_inb i hc)) (VecWindow.window X4 (k0_off3 i) S1x2048.size (k0_off3_inb i hc)))
              Y22) -∗ K ⟨⟩))
      ⊢ wp frame (wpE (defs₀ (F := F)) 𝒱₀ c none) E (cc0_in_proj i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) K := by
  unfold ins outs owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩, ⟨⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  obtain rfl := h20.eq_unread e20
  obtain rfl := h21.eq_unread e21
  obtain rfl := h22.eq_unread e22
  sl_unfold [cc0_in_proj]
  sl_open_parts
  sl_exec
  sl_step
  iapply Hk
  isplitl [H1 H2 H3 H4 H5 H6 H7 H8 H9 H10 H11]
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [H9]; iexists _; isplitr; swap; iexact H9; rotate_left
  isplitl [H10]; iexists _; isplitr; swap; iexact H10; rotate_left
  iexists _; isplitr; swap; iexact H11; rotate_left
  isplitl [H12]; iexists _; isplitr; swap; iexact H12; rotate_left
  isplitl [H13]; iexists _; isplitr; swap; iexact H13; rotate_left
  isplitl [H14]; iexists _; isplitr; swap; iexact H14; rotate_left
  isplitl [H15]; iexists _; isplitr; swap; iexact H15; rotate_left
  isplitl [H16]; iexists _; isplitr; swap; iexact H16; rotate_left
  isplitl [H17]; iexists _; isplitr; swap; iexact H17; rotate_left
  isplitl [H18]; iexists _; isplitr; swap; iexact H18; rotate_left
  isplitl [H19]; iexists _; isplitr; swap; iexact H19; rotate_left
  isplitl [H20]; iexists _; isplitr; swap; iexact H20; rotate_left
  isplitl [H21]; iexists _; isplitr; swap; iexact H21; rotate_left
  iexists _; isplitr; swap; iexact H22; rotate_left
  all_goals
    ipureintro
    sl_unfold_run_names
    simp only [read_buf Y20, window_cell0, window_cell1, window_cell2, window_cell3, twin4, twin5, twin6, twin7, twin8, twin9, twin10, twin11, twin12, twin13, twin14, twin15, twin16, twin17, twin18, twin19, twin20, twin21, twin22, twin23, twin24, twin25, twin26, twin27, twin28, twin29, twin30, twin31, twin32, twin33, twin34, twin35, twin36, twin37, twin38, twin39, twin40, View.read_writes_full, View.readAt_full, readAt_window, read_put_cons, View.writes_nil, putw_S64x8192, putw_S256x2048, putw_S8x1024, putw_S1x256x1024, whole_S1x256x2048, whole_S256x2048, whole_S1x64x8192, whole_S8x1024, whole_S1x4x1024, pH_first, Memref.IsWhole.read_unread] <;>
    first | with_reducible rfl | rfl

end

end Cert.Proof.In

end
-- ==== Proof.In.Run.lean ====
module

public import proofs.«01_k».proof.Proof.Mlp.Inv
public import proofs.«01_k».proof.Proof.In.First
public import proofs.«01_k».proof.Proof.In.Odd
public import proofs.«01_k».proof.Proof.In.Even
public import Idealize.ShloMosaic.Lib.Pipeline.Frame
public import Idealize.ShloMosaic.Lib.Pipeline.DatRel

@[expose] public section

set_option maxRecDepth 16384

noncomputable section

namespace Cert.Proof.In

open Cert.Kernel4Ideal Cert.Kernel4Ideal.Gen
open Cert.Proof.Mlp (𝒱₀ row8 window_row8)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: the point `t` norms tile `t` and projects tile `t - 1` -/

theorem hN : grid0.N = 33 := N_0

/-- The point `k`. -/
def pt (k : ℕ) : Fin grid0.N := ⟨min k 32, by rw [hN]; omega⟩

theorem pt_eq (t : Fin grid0.N) : pt t.val = t := by
  have := t.isLt.trans_eq hN
  exact Fin.ext (show min t.val 32 = t.val by omega)

theorem cond1_iff (t : Fin grid0.N) : k0_cond1 (grid0.coords t) = 1#1 ↔ t.val = 0 :=
  (by decide +kernel : ∀ t : Fin grid0.N, k0_cond1 (grid0.coords t) = 1#1 ↔ t.val = 0) t
theorem cond2_iff (t : Fin grid0.N) : k0_cond2 (grid0.coords t) = 1#1 ↔ t.val % 2 = 1 :=
  (by decide +kernel : ∀ t : Fin grid0.N, k0_cond2 (grid0.coords t) = 1#1 ↔ t.val % 2 = 1) t
theorem cond3_iff (t : Fin grid0.N) : k0_cond3 (grid0.coords t) = 1#1 ↔ 1 ≤ t.val ∧ t.val % 2 = 0 :=
  (by decide +kernel : ∀ t : Fin grid0.N, k0_cond3 (grid0.coords t) = 1#1 ↔ 1 ≤ t.val ∧ t.val % 2 = 0) t
theorem off1_eq (t : Fin grid0.N) (h : t.val = 0) : k0_off1 (grid0.coords t) = ![min t.val 31 / 8, 0] :=
  (by decide +kernel : ∀ t : Fin grid0.N, t.val = 0 → k0_off1 (grid0.coords t) = ![min t.val 31 / 8, 0]) t h
theorem off2_eq (t : Fin grid0.N) (h : t.val % 2 = 1) : k0_off2 (grid0.coords t) = ![min t.val 31 / 8, 0] :=
  (by decide +kernel : ∀ t : Fin grid0.N, t.val % 2 = 1 → k0_off2 (grid0.coords t) = ![min t.val 31 / 8, 0]) t h
theorem off3_eq (t : Fin grid0.N) (h : t.val % 2 = 0) : k0_off3 (grid0.coords t) = ![min t.val 31 / 8, 0] :=
  (by decide +kernel : ∀ t : Fin grid0.N, t.val % 2 = 0 → k0_off3 (grid0.coords t) = ![min t.val 31 / 8, 0]) t h

variable (m : (ℓ : Loc nD τ sig) → Buf (Elt F) ℓ) (ρ : Dev nD → PrngReg)

/-- The rows normed at the point `t`. -/
def hT (c : Dev nD) (t : Fin cfg0.N) : Vec F S256x2048 .bf16 :=
  pH (iblk m c 2 t) (VecWindow.window (iblk m c 5 t) (![1, 0]) S1x2048.size inb_S2x2048_S1x2048_1_0) (row8 (iblk m c 4 t) (min t.val 31 / 8)) (row8 (iblk m c 3 t) (min t.val 31 / 8))

/-- The rows the point `t` projects. -/
abbrev hP (c : Dev nD) (t : Fin cfg0.N) : Vec F S256x2048 .bf16 := hT m c (pt (t.val - 1))

/-- The rows the point `t` leaves for the next tile's convolution. -/
def car (c : Dev nD) (t : Fin cfg0.N) : Vec F S8x1024 .f32 := k0_pay28 (hP m c t) (wQK (iblk m c 6 t))

/-- What is kept of the tile before: from the third point on, that tile's last rows. -/
def carOk (c : Dev nD) (t : ℕ) (cr : Vec F S8x1024 .f32) : Prop := 2 ≤ t → cr = car m c (pt (t - 1))

/-- The queries and keys left at the point `t`, over the rows `b` of the buffer before, the rows `cr` kept and the block `y` before. -/
def qkB (c : Dev nD) (t : Fin cfg0.N) (y : Vec F S1x256x1024 .bf16) (b : Vec F S264x1024 .f32) (cr : Vec F S8x1024 .f32) : Vec F S1x256x1024 .bf16 :=
  pQk y (pBuf (starts (grid0.coords t)) b cr (hP m c t) (wQK (iblk m c 6 t))) (hP m c t) (wQK (iblk m c 6 t)) (iblk m c 7 t) (VecWindow.window (iblk m c 8 t) (![1, 0]) S1x1024.size inb_S2x1024_S1x1024_1_0)

/-- The gates left at the point `t`, over the block `y` before. -/
def gvB (c : Dev nD) (t : Fin cfg0.N) (y : Vec F S1x24x256 .f32) : Vec F S1x24x256 .f32 :=
  pGv y (pLogs (hP m c t) (wG (iblk m c 6 t)) (iblk m c 0 t) (iblk m c 1 t)) (pSums (hP m c t) (wG (iblk m c 6 t)) (iblk m c 0 t) (iblk m c 1 t))

/-- What the point `t` leaves in each window it writes. -/
def Ok11 (c : Dev nD) (t : Fin cfg0.N) (X : Vec F S1x256x1024 .bf16) : Prop := 1 ≤ t.val → ∃ y b cr, carOk m c t.val cr ∧ X = qkB m c t y b cr
def Ok12 (c : Dev nD) (t : Fin cfg0.N) (X : Vec F S1x256x1024 .bf16) : Prop := 1 ≤ t.val → X = k0_pay40 (hP m c t) (wV (iblk m c 6 t))
def Ok13 (c : Dev nD) (t : Fin cfg0.N) (X : Vec F S1x256x1024 .bf16) : Prop := 1 ≤ t.val → X = k0_pay36 (k0_pay35 (hP m c t) (wO (iblk m c 6 t)))
def Ok14 (c : Dev nD) (t : Fin cfg0.N) (X : Vec F S1x256x1536 .bf16) : Prop := 1 ≤ t.val → ∃ y, X = pAtt y (hP m c t) (wA (iblk m c 6 t))
def Ok15 (c : Dev nD) (t : Fin cfg0.N) (X : Vec F S1x24x256 .f32) : Prop := 1 ≤ t.val → ∃ y, X = gvB m c t y
def Ok16 (c : Dev nD) (t : Fin cfg0.N) (X : Vec F S64x8192 .bf16) : Prop := 1 ≤ t.val → X = k0_pay6 (iblk m c 9 t)
def Ok17 (c : Dev nD) (t : Fin cfg0.N) (X : Vec F S256x2048 .bf16) : Prop := 1 ≤ t.val → X = k0_pay7 (iblk m c 10 t)

/-- Before the point `t` the scratch buffer of the parity of `t - 1` holds the rows normed at the point before, and the first scratch buffer the rows kept. -/
def Inv (c : Dev nD) (t : ℕ) (cr : Vec F S8x1024 .f32) (y0 y1 : Vec F S256x2048 .bf16) : Prop :=
  1 ≤ t → carOk m c t cr ∧ (t % 2 = 1 → y0 = hT m c (pt (t - 1))) ∧ (t % 2 = 0 → y1 = hT m c (pt (t - 1)))

theorem inv_first (c : Dev nD) (t : Fin cfg0.N) (h : t.val = 0) (cr : Vec F S8x1024 .f32) (y1 : Vec F S256x2048 .bf16) : Inv m c (t.val + 1) cr (hT m c t) y1 := fun _ =>
  ⟨fun h' => by omega, fun _ => congrArg (hT m c) (pt_eq t).symm, fun h' => by omega⟩
theorem inv_even (c : Dev nD) (t : Fin cfg0.N) (h : t.val % 2 = 0) (y1 : Vec F S256x2048 .bf16) : Inv m c (t.val + 1) (car m c t) (hT m c t) y1 := fun _ =>
  ⟨fun _ => congrArg (car m c) (pt_eq t).symm, fun _ => congrArg (hT m c) (pt_eq t).symm, fun h' => by omega⟩
theorem inv_odd (c : Dev nD) (t : Fin cfg0.N) (h : t.val % 2 = 1) (y0 : Vec F S256x2048 .bf16) : Inv m c (t.val + 1) (car m c t) y0 (hT m c t) := fun _ =>
  ⟨fun _ => congrArg (car m c) (pt_eq t).symm, fun h' => by omega, fun _ => congrArg (hT m c) (pt_eq t).symm⟩

/-! ## The proof data -/

/-- The scratch buffers between the points. -/
def scr (c : Dev nD) (t : ℕ) : sProp 𝕄 :=
  iprop(∃ cr b y0 y1, ⌜Inv m c t cr y0 y1⌝ ∗ owns (c : Thread nD τ) (Memref.whole cc0_scratch0) fullShare cr
    ∗ owns (c : Thread nD τ) (Memref.whole cc0_scratch1) fullShare b
    ∗ owns (c : Thread nD τ) (Memref.whole cc0_scratch2) fullShare y0
    ∗ owns (c : Thread nD τ) (Memref.whole cc0_scratch3) fullShare y1)

/-- The arrays as the region finds them; after the body each input's buffer at its block; between the points the scratch
    buffers at the invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨17, _⟩ => fun _ => Classical.arbitrary _
    | ⟨_ + 18, h⟩ => absurd h (Nat.not_lt.2 (Nat.le_add_left _ _))
  Φ t := iprop(scr m c t.val ∗ ∃ r, prngReg c r)
  q w := Pipeline.shareOf spec0 w
  owed _ := 0

/-- The windows the body writes. -/
def fgt (w : Fin cfg0.W) : Bool := match w with
  | ⟨11, _⟩ => true
  | ⟨12, _⟩ => true
  | ⟨13, _⟩ => true
  | ⟨14, _⟩ => true
  | ⟨15, _⟩ => true
  | ⟨16, _⟩ => true
  | ⟨17, _⟩ => true
  | _ => false

/-- What the body leaves in the windows it writes. -/
def Rl (c : Dev nD) (w : Fin cfg0.W) (t : Fin cfg0.N) (X : (cfg0.win w).block.Idx → Elt F (cfg0.win w).elt) : Prop :=
  match w with
  | ⟨11, _⟩ => Ok11 m c t X
  | ⟨12, _⟩ => Ok12 m c t X
  | ⟨13, _⟩ => Ok13 m c t X
  | ⟨14, _⟩ => Ok14 m c t X
  | ⟨15, _⟩ => Ok15 m c t X
  | ⟨16, _⟩ => Ok16 m c t X
  | ⟨17, _⟩ => Ok17 m c t X
  | _ => True

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = false := rfl
theorem fgt_10 : fgt 10 = false := rfl
theorem fgt_11 : fgt 11 = true := rfl
theorem fgt_12 : fgt 12 = true := rfl
theorem fgt_13 : fgt 13 = true := rfl
theorem fgt_14 : fgt 14 = true := rfl
theorem fgt_15 : fgt 15 = true := rfl
theorem fgt_16 : fgt 16 = true := rfl
theorem fgt_17 : fgt 17 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the point `t` leaves: each written window as above, the scratch buffers at the invariant. -/
def Ok (c : Dev nD) (t : Fin cfg0.N) (Y12 : Vec F S1x256x1024 .bf16) (Y13 : Vec F S1x256x1024 .bf16) (Y14 : Vec F S1x256x1024 .bf16) (Y15 : Vec F S1x256x1536 .bf16) (Y16 : Vec F S1x24x256 .f32) (Y17 : Vec F S64x8192 .bf16) (Y18 : Vec F S256x2048 .bf16) (Y19 : Vec F S8x1024 .f32) (Y20 : Vec F S264x1024 .f32) (Y21 : Vec F S256x2048 .bf16) (Y22 : Vec F S256x2048 .bf16) : Prop :=
  (Ok11 m c t Y12 ∧ Ok12 m c t Y13 ∧ Ok13 m c t Y14 ∧ Ok14 m c t Y15 ∧ Ok15 m c t Y16 ∧ Ok16 m c t Y17 ∧ Ok17 m c t Y18) ∧ Inv m c (t.val + 1) Y19 Y21 Y22

/-! ## The body at a point -/

/-- The body at a point, over the input blocks and any contents of the other buffers that meet the invariant. -/
def Point (c : Dev nD) (t : Fin cfg0.N) : Prop := ∀ (Y12 : Vec F S1x256x1024 .bf16) (Y13 : Vec F S1x256x1024 .bf16) (Y14 : Vec F S1x256x1024 .bf16) (Y15 : Vec F S1x256x1536 .bf16) (Y16 : Vec F S1x24x256 .f32) (Y17 : Vec F S64x8192 .bf16) (Y18 : Vec F S256x2048 .bf16) (Y19 : Vec F S8x1024 .f32) (Y20 : Vec F S264x1024 .f32) (Y21 : Vec F S256x2048 .bf16) (Y22 : Vec F S256x2048 .bf16)
    (hI : Inv m c t.val Y19 Y21 Y22) (K : PUnit → sProp 𝕄),
    iprop(ins (F := F) c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
        ∗ outs (F := F) c (st0_11 t) (st0_12 t) (st0_13 t) (st0_14 t) (st0_15 t) (st0_16 t) (st0_17 t) (Memref.whole cc0_scratch0) (Memref.whole cc0_scratch1) (Memref.whole cc0_scratch2) (Memref.whole cc0_scratch3) Y12 Y13 Y14 Y15 Y16 Y17 Y18 Y19 Y20 Y21 Y22
        ∗ (∀ Z12 Z13 Z14 Z15 Z16 Z17 Z18 Z19 Z20 Z21 Z22, iprop(⌜Ok m c t Z12 Z13 Z14 Z15 Z16 Z17 Z18 Z19 Z20 Z21 Z22⌝
            ∗ ins (F := F) c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
            ∗ outs (F := F) c (st0_11 t) (st0_12 t) (st0_13 t) (st0_14 t) (st0_15 t) (st0_16 t) (st0_17 t) (Memref.whole cc0_scratch0) (Memref.whole cc0_scratch1) (Memref.whole cc0_scratch2) (Memref.whole cc0_scratch3) Z12 Z13 Z14 Z15 Z16 Z17 Z18 Z19 Z20 Z21 Z22) -∗ K ⟨⟩))
      ⊢ wp frame (wpE (defs₀ (F := F)) 𝒱₀ c none) Set.univ (bodyAt0 t) K

theorem ok_first (c : Dev nD) (t : Fin cfg0.N) (h : t.val = 0) (Y12 : Vec F S1x256x1024 .bf16) (Y13 : Vec F S1x256x1024 .bf16) (Y14 : Vec F S1x256x1024 .bf16) (Y15 : Vec F S1x256x1536 .bf16) (Y16 : Vec F S1x24x256 .f32) (Y17 : Vec F S64x8192 .bf16) (Y18 : Vec F S256x2048 .bf16) (Y19 : Vec F S8x1024 .f32) (Y20 : Vec F S264x1024 .f32) (Y21 : Vec F S256x2048 .bf16) (Y22 : Vec F S256x2048 .bf16) : Ok m c t Y12 Y13 Y14 Y15 Y16 Y17 Y18 k0_pay2 Y20 (hT m c t) Y22 :=
  ⟨⟨fun h1 => absurd h1 (by omega), fun h1 => absurd h1 (by omega), fun h1 => absurd h1 (by omega), fun h1 => absurd h1 (by omega), fun h1 => absurd h1 (by omega), fun h1 => absurd h1 (by omega), fun h1 => absurd h1 (by omega)⟩, inv_first m c t h _ _⟩

theorem ok_odd (c : Dev nD) (t : Fin cfg0.N) (h1 : 1 ≤ t.val) (h : t.val % 2 = 1) (Y12 : Vec F S1x256x1024 .bf16) (Y13 : Vec F S1x256x1024 .bf16) (Y14 : Vec F S1x256x1024 .bf16) (Y15 : Vec F S1x256x1536 .bf16) (Y16 : Vec F S1x24x256 .f32) (Y17 : Vec F S64x8192 .bf16) (Y18 : Vec F S256x2048 .bf16) (Y19 : Vec F S8x1024 .f32) (Y20 : Vec F S264x1024 .f32) (Y21 : Vec F S256x2048 .bf16) (Y22 : Vec F S256x2048 .bf16) (hc : carOk m c t.val Y19) :
    Ok m c t (qkB m c t Y12 Y20 Y19) (k0_pay40 (hP m c t) (wV (iblk m c 6 t))) (k0_pay36 (k0_pay35 (hP m c t) (wO (iblk m c 6 t)))) (pAtt Y15 (hP m c t) (wA (iblk m c 6 t)))
      (gvB m c t Y16) (k0_pay6 (iblk m c 9 t)) (k0_pay7 (iblk m c 10 t)) (car m c t) (pBuf (starts (grid0.coords t)) Y20 Y19 (hP m c t) (wQK (iblk m c 6 t))) Y21 (hT m c t) :=
  ⟨⟨fun _ => ⟨Y12, Y20, Y19, hc, rfl⟩, fun _ => rfl, fun _ => rfl, fun _ => ⟨Y15, rfl⟩, fun _ => ⟨Y16, rfl⟩, fun _ => rfl, fun _ => rfl⟩, inv_odd m c t h _⟩

theorem ok_even (c : Dev nD) (t : Fin cfg0.N) (h1 : 1 ≤ t.val) (h : t.val % 2 = 0) (Y12 : Vec F S1x256x1024 .bf16) (Y13 : Vec F S1x256x1024 .bf16) (Y14 : Vec F S1x256x1024 .bf16) (Y15 : Vec F S1x256x1536 .bf16) (Y16 : Vec F S1x24x256 .f32) (Y17 : Vec F S64x8192 .bf16) (Y18 : Vec F S256x2048 .bf16) (Y19 : Vec F S8x1024 .f32) (Y20 : Vec F S264x1024 .f32) (Y21 : Vec F S256x2048 .bf16) (Y22 : Vec F S256x2048 .bf16) (hc : carOk m c t.val Y19) :
    Ok m c t (qkB m c t Y12 Y20 Y19) (k0_pay40 (hP m c t) (wV (iblk m c 6 t))) (k0_pay36 (k0_pay35 (hP m c t) (wO (iblk m c 6 t)))) (pAtt Y15 (hP m c t) (wA (iblk m c 6 t)))
      (gvB m c t Y16) (k0_pay6 (iblk m c 9 t)) (k0_pay7 (iblk m c 10 t)) (car m c t) (pBuf (starts (grid0.coords t)) Y20 Y19 (hP m c t) (wQK (iblk m c 6 t))) (hT m c t) Y22 :=
  ⟨⟨fun _ => ⟨Y12, Y20, Y19, hc, rfl⟩, fun _ => rfl, fun _ => rfl, fun _ => ⟨Y15, rfl⟩, fun _ => ⟨Y16, rfl⟩, fun _ => rfl, fun _ => rfl⟩, inv_even m c t h _⟩

set_option maxHeartbeats 2000000 in
theorem point_first (c : Dev nD) (t : Fin cfg0.N) (ht : t.val = 0) : Point m c t := by
  intro Y12 Y13 Y14 Y15 Y16 Y17 Y18 Y19 Y20 Y21 Y22 hI K
  have hb : k0_cond1 (grid0.coords t) = 1#1 := (cond1_iff t).mpr ht
  have eh : pH (iblk m c 2 t) (VecWindow.window (iblk m c 5 t) (![1, 0]) S1x2048.size inb_S2x2048_S1x2048_1_0)
      (VecWindow.window (iblk m c 4 t) (k0_off1 (grid0.coords t)) S1x2048.size (k0_off1_inb (grid0.coords t) hb))
      (VecWindow.window (iblk m c 3 t) (k0_off1 (grid0.coords t)) S1x2048.size (k0_off1_inb (grid0.coords t) hb)) = hT m c t := by
    rw [window_row8 (iblk m c 4 t) _ _ (off1_eq t (by omega)), window_row8 (iblk m c 3 t) _ _ (off1_eq t (by omega))]
    rfl
  refine BIBase.Entails.trans ?_ (body_first c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y12 Y13 Y14 Y15 Y16 Y17 Y18 Y19 Y20 Y21 Y22 hb (fun h => by have := (cond2_iff t).mp h; omega) (fun h => by have := (cond3_iff t).mp h; omega) Set.univ K)
  rw [eh]
  iintro ⟨HI, HO, HK⟩
  isplitl [HI]; · iexact HI
  isplitl [HO]; · iexact HO
  iintro ⟨HI, HO⟩
  iapply HK
  isplitr
  · ipureintro
    exact ok_first m c t ht Y12 Y13 Y14 Y15 Y16 Y17 Y18 Y19 Y20 Y21 Y22
  isplitl [HI]; · iexact HI
  iexact HO

set_option maxHeartbeats 2000000 in
theorem point_odd (c : Dev nD) (t : Fin cfg0.N) (ht : t.val % 2 = 1) : Point m c t := by
  intro Y12 Y13 Y14 Y15 Y16 Y17 Y18 Y19 Y20 Y21 Y22 hI K
  have hb : k0_cond2 (grid0.coords t) = 1#1 := (cond2_iff t).mpr ht
  have eh : pH (iblk m c 2 t) (VecWindow.window (iblk m c 5 t) (![1, 0]) S1x2048.size inb_S2x2048_S1x2048_1_0)
      (VecWindow.window (iblk m c 4 t) (k0_off2 (grid0.coords t)) S1x2048.size (k0_off2_inb (grid0.coords t) hb))
      (VecWindow.window (iblk m c 3 t) (k0_off2 (grid0.coords t)) S1x2048.size (k0_off2_inb (grid0.coords t) hb)) = hT m c t := by
    rw [window_row8 (iblk m c 4 t) _ _ (off2_eq t (by omega)), window_row8 (iblk m c 3 t) _ _ (off2_eq t (by omega))]
    rfl
  have ey : Y21 = hP m c t := (hI (by omega)).2.1 (by omega)
  have hc : carOk m c t.val Y19 := (hI (by omega)).1
  clear hI
  subst ey
  refine BIBase.Entails.trans ?_ (body_odd c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y12 Y13 Y14 Y15 Y16 Y17 Y18 Y19 Y20 (hP m c t) Y22 (fun h => by have := (cond1_iff t).mp h; omega) hb (fun h => by have := (cond3_iff t).mp h; omega) Set.univ K)
  rw [eh]
  iintro ⟨HI, HO, HK⟩
  isplitl [HI]; · iexact HI
  isplitl [HO]; · iexact HO
  iintro ⟨HI, HO⟩
  iapply HK
  isplitr
  · ipureintro
    exact ok_odd m c t (by omega) (by omega) Y12 Y13 Y14 Y15 Y16 Y17 Y18 Y19 Y20 (hP m c t) Y22 hc
  isplitl [HI]; · iexact HI
  iexact HO

set_option maxHeartbeats 2000000 in
theorem point_even (c : Dev nD) (t : Fin cfg0.N) (ht : 1 ≤ t.val ∧ t.val % 2 = 0) : Point m c t := by
  intro Y12 Y13 Y14 Y15 Y16 Y17 Y18 Y19 Y20 Y21 Y22 hI K
  have hb : k0_cond3 (grid0.coords t) = 1#1 := (cond3_iff t).mpr ht
  have eh : pH (iblk m c 2 t) (VecWindow.window (iblk m c 5 t) (![1, 0]) S1x2048.size inb_S2x2048_S1x2048_1_0)
      (VecWindow.window (iblk m c 4 t) (k0_off3 (grid0.coords t)) S1x2048.size (k0_off3_inb (grid0.coords t) hb))
      (VecWindow.window (iblk m c 3 t) (k0_off3 (grid0.coords t)) S1x2048.size (k0_off3_inb (grid0.coords t) hb)) = hT m c t := by
    rw [window_row8 (iblk m c 4 t) _ _ (off3_eq t (by omega)), window_row8 (iblk m c 3 t) _ _ (off3_eq t (by omega))]
    rfl
  have ey : Y22 = hP m c t := (hI (by omega)).2.2 (by omega)
  have hc : carOk m c t.val Y19 := (hI (by omega)).1
  clear hI
  subst ey
  refine BIBase.Entails.trans ?_ (body_even c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (Memref.whole cc0_scratch0) _ (Memref.whole cc0_scratch1) _ (Memref.whole cc0_scratch2) _ (Memref.whole cc0_scratch3) _ (iblk m c 0 t) (iblk m c 1 t) (iblk m c 2 t) (iblk m c 3 t) (iblk m c 4 t) (iblk m c 5 t) (iblk m c 6 t) (iblk m c 7 t) (iblk m c 8 t) (iblk m c 9 t) (iblk m c 10 t) Y12 Y13 Y14 Y15 Y16 Y17 Y18 Y19 Y20 Y21 (hP m c t) (fun h => by have := (cond1_iff t).mp h; omega) (fun h => by have := (cond2_iff t).mp h; omega) hb Set.univ K)
  rw [eh]
  iintro ⟨HI, HO, HK⟩
  isplitl [HI]; · iexact HI
  isplitl [HO]; · iexact HO
  iintro ⟨HI, HO⟩
  iapply HK
  isplitr
  · ipureintro
    exact ok_even m c t (by omega) (by omega) Y12 Y13 Y14 Y15 Y16 Y17 Y18 Y19 Y20 Y21 (hP m c t) hc
  isplitl [HI]; · iexact HI
  iexact HO

theorem point (c : Dev nD) (t : Fin cfg0.N) : Point m c t := by
  by_cases h0 : t.val = 0
  · exact point_first m c t h0
  by_cases h1 : t.val % 2 = 1
  · exact point_odd m c t h1
  · exact point_even m c t ⟨by omega, by omega⟩

theorem defs₀_row (t : Fin cfg0.N) : defs₀ (F := F) .tc cfg0.body (cfg0.bodyArgs t (cfg0.slots t)) = bodyAt0 t := by
  unfold defs₀; rw [Defs.onTc_tc]

/-- The data with the written windows held to what the body leaves there. -/
def rdats (c : Dev nD) : Pipeline.RDat τ (Elt F) Unit ℕ (UR sig nD τ) ℕ cfg0 c := (dats m 0 c).toRRel fgt (Rl m c)

theorem phi_in (c : Dev nD) : Pipeline.ΦA spec0 c ⊢ (rdats m c).Φ 0 := by
  rw [show (rdats m c).Φ 0 = iprop(scr m c 0 ∗ ∃ r, prngReg c r) from rfl]
  unfold Pipeline.ΦA scr
  rw [scopedRest0_eq]
  simp only [owns_whole]
  iintro ⟨⟨⟨%f0, S0⟩, ⟨%f1, S1⟩, ⟨%f2, S2⟩, ⟨%f3, S3⟩⟩, HP⟩
  isplitl [S0 S1 S2 S3]
  · iexists f0; iexists f1; iexists f2; iexists f3
    isplitr
    · ipureintro; exact fun h => absurd h (by omega)
    isplitl [S0]; · iexact S0
    isplitl [S1]; · iexact S1
    isplitl [S2]; · iexact S2
    iexact S3
  iexact HP

theorem phi_out (c : Dev nD) : (rdats m c).Φ (Fin.last cfg0.N) ⊢ Pipeline.ΦA spec0 c := by
  rw [show (rdats m c).Φ (Fin.last cfg0.N) = iprop(scr m c cfg0.N ∗ ∃ r, prngReg c r) from rfl]
  unfold Pipeline.ΦA scr
  rw [scopedRest0_eq]
  simp only [owns_whole]
  iintro ⟨⟨%f0, %f1, %f2, %f3, -, S0, S1, S2, S3⟩, HP⟩
  isplitl [S0 S1 S2 S3]
  · isplitl [S0]; · iexists _; iexact S0
    isplitl [S1]; · iexists _; iexact S1
    isplitl [S2]; · iexists _; iexact S2
    iexists _; iexact S3
  iexact HP

set_option maxHeartbeats 2000000 in
theorem obligation (c : Dev nD) : Pipeline.BodyObligationRel (dats m 0 c) (defs₀ (F := F)) 𝒱₀ () Set.univ fgt (Rl m c) := fun t => by
  rw [bigSep_W0, bigSep_W0, defs₀_row]
  simp only [fgt_0, fgt_1, fgt_2, fgt_3, fgt_4, fgt_5, fgt_6, fgt_7, fgt_8, fgt_9, fgt_10, fgt_11, fgt_12, fgt_13, fgt_14, fgt_15, fgt_16, fgt_17, before0_0, before0_1, before0_2, before0_3, before0_4, before0_5, before0_6, before0_7, before0_8, before0_9, before0_10]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.castSucc = iprop(scr m c t.val ∗ ∃ r, prngReg c r) from rfl,
    show (dats m 0 c).Φ t.succ = iprop(scr m c (t.val + 1) ∗ ∃ r, prngReg c r) from rfl]
  unfold scr
  iintro ⟨⟨⟨%cr, %b, %y0, %y1, %hI, S0, S1, S2, S3⟩, HP⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, -, H11⟩, ⟨%Y12, -, H12⟩, ⟨%Y13, -, H13⟩, ⟨%Y14, -, H14⟩, ⟨%Y15, -, H15⟩, ⟨%Y16, -, H16⟩, ⟨%Y17, -, H17⟩⟩
  iapply (point m c t Y11 Y12 Y13 Y14 Y15 Y16 Y17 cr b y0 y1 hI _)
  unfold ins outs
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15 H16 H17 S0 S1 S2 S3]
  · isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    iexact S3
  iintro %Z12 %Z13 %Z14 %Z15 %Z16 %Z17 %Z18 %Z19 %Z20 %Z21 %Z22 ⟨%hZ, ⟨H0, H1, H2, H3, H4, H5, H6, H7, H8, H9, H10⟩, ⟨H11, H12, H13, H14, H15, H16, H17, S0, S1, S2, S3⟩⟩
  isplitl [S0 S1 S2 S3 HP]
  · isplitl [S0 S1 S2 S3]
    · iexists Z19; iexists Z20; iexists Z21; iexists Z22
      isplitr
      · ipureintro; exact hZ.2
      isplitl [S0]; · iexact S0
      isplitl [S1]; · iexact S1
      isplitl [S2]; · iexact S2
      iexact S3
    iexact HP
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Z12; isplitr
    · ipureintro; exact hZ.1.1
    iexact H11
  isplitl [H12]
  · iexists Z13; isplitr
    · ipureintro; exact hZ.1.2.1
    iexact H12
  isplitl [H13]
  · iexists Z14; isplitr
    · ipureintro; exact hZ.1.2.2.1
    iexact H13
  isplitl [H14]
  · iexists Z15; isplitr
    · ipureintro; exact hZ.1.2.2.2.1
    iexact H14
  isplitl [H15]
  · iexists Z16; isplitr
    · ipureintro; exact hZ.1.2.2.2.2.1
    iexact H15
  isplitl [H16]
  · iexists Z17; isplitr
    · ipureintro; exact hZ.1.2.2.2.2.2.1
    iexact H16
  iexists Z18; isplitr
  · ipureintro; exact hZ.1.2.2.2.2.2.2
  iexact H17

-- the launch theorem's implicit arguments are found by unifying its conclusion with this one
set_option backward.isDefEq.respectTransparency.types false in
/-- From any memory with zero counters every execution of the program ends, with each array at contents the data allow and
    every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track_shared (Q' := fun r => Pipeline.RDat.FramePost cfg0 (rdats m) (V m) r ∧ r.2.sem = fun _ => 0)
    cfgs (0 : Fin 1) launch₀0 defs₀ 𝒱₀ (rdats m) m ρ main
    (hbody := fun c => (obligation m c).toRRel) (hq := fun _ _ _ => rfl) (howed := fun _ _ => rfl)
    (V := V m) (hmain := hmain m 𝒱₀) (hA := fun _ _ => rfl) (hin := fun c => phi_in m c) (hout := fun c => phi_out m c) (hQ' := fun _ h => h)

end Cert.Proof.In

end
-- ==== Proof.In.Frames.lean ====
module

public import proofs.«01_k».proof.Defs
public import proofs.«01_k».proof.Proof.Gen.Kernel4
public import proofs.«01_k».proof.Proof.In.Run

@[expose] public section

set_option maxRecDepth 16384

noncomputable section

namespace Cert.Proof.In

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments are as they were. -/
theorem args_kept (r : PUnit × MemSt nD τ sig (Elt F)) (h : Pipeline.RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h.arr_in c 2 rfl).trans (V_main_arg0 m c),
    ((h c).2 main_arg1 (Pipeline.mem_restRefs_of main_arg1 (by decide) (by decide))).trans (V_main_arg1 m c),
    (h.arr_in c 5 rfl).trans (V_main_arg2 m c),
    (h.arr_in c 6 rfl).trans (V_main_arg3 m c),
    (h.arr_in c 7 rfl).trans (V_main_arg4 m c),
    (h.arr_in c 8 rfl).trans (V_main_arg5 m c),
    (h.arr_in c 0 rfl).trans (V_main_arg6 m c),
    (h.arr_in c 1 rfl).trans (V_main_arg7 m c),
    (h.arr_in c 9 rfl).trans (V_main_arg8 m c),
    (h.arr_in c 10 rfl).trans (V_main_arg9 m c)⟩

/-- From any memory with zero counters the call ends with its arguments unchanged and its counters at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => args_kept m _ h.1 c, h.2⟩) (run_main m ρ)

/-- The frame claim of the idealized program. -/
theorem frame_kernelIdeal : Cert.quiescent_Kernel4Ideal := fun m ρ _ => run_frame (F := Ideal) m ρ

/-- The two programs' body tables are the same: each has the one label. -/
theorem defs₀_eq : Cert.Kernel4.defs₀ (F := Bits) = Cert.Kernel4Ideal.defs₀ (F := Bits) :=
  congrArg Defs.onTc (funext fun l => funext fun a => by
    match l, a with
    | 0, (t, s) => rfl
    | ⟨_ + 1, h⟩, _ => exact absurd h (Nat.not_lt.2 (Nat.le_add_left _ _)))

set_option maxHeartbeats 4000000 in
theorem defs_eq : Cert.Kernel4.defs (F := Bits) = Cert.Kernel4Ideal.defs (F := Bits) :=
  congrArg (Pipeline.defs (Cert.Kernel4Ideal.pcfgs (F := Bits))) defs₀_eq

set_option maxHeartbeats 4000000 in
/-- The frame claim of the program: the two programs have the same text. -/
theorem frame_kernel : Cert.quiescent_Kernel4 := fun m ρ _ => by
  rw [defs_eq]
  exact run_frame (F := Bits) m ρ

end Cert.Proof.In

end
-- ==== Proof.In.Spec.lean ====
module

public import proofs.«01_k».proof.Proof.Mlp.Pay
public import Idealize.ShloMosaic.Lib.Pointwise

@[expose] public section

set_option maxRecDepth 16384

noncomputable section

namespace Cert.Proof.In

open Cert.Proof.Mlp (rms)

open Idealize.ShloMosaic Idealize.ShloMosaic.TcCoe Idealize.SL.Sem

/-! ## What the call computes, in its arguments -/

variable (x : Fin 4 → Fin 2048 → Fin 2048 → EReal) (mod : Fin 4 → Fin 12288 → EReal) (gp : Fin 2048 → EReal) (wp : Fin 2048 → Fin 4736 → EReal)
  (q : Fin 4 → Fin 2048 → Fin 4736 → EReal) (cw : Fin 4 → Fin 1024 → EReal) (cb : Fin 1024 → EReal)

/-- The row normed, scaled and shifted. -/
def hid (b : Fin 4) (s d : Fin 2048) : EReal :=
  rms (fun k => x b s k) (gp d) d * (1 + mod b ⟨2048 + d.val, by omega⟩) + mod b ⟨d.val, by omega⟩

/-- The projected row. -/
def proj (b : Fin 4) (s : Fin 2048) (j : Fin 4736) : EReal := ∑ k : Fin 2048, hid x mod gp b s k * wp k j

/-- The sigmoid. -/
def sgm (u : EReal) : EReal := Ideal.div 1 (1 + Ideal.exp (-u))

theorem sgm_sub (u : EReal) : sgm u = Ideal.div 1 (1 + Ideal.exp (0 - u)) := by
  unfold sgm
  rw [sub_eq_add_neg, zero_add]

/-- The projected row that tap `j` of the convolution reads: the row `3 - j` rows above, or zero before the first. -/
def tap (b : Fin 4) (s : Fin 2048) (j : Fin 4) (d : Fin 1024) : EReal :=
  if h : 3 ≤ s.val + j.val then q b ⟨s.val + j.val - 3, by omega⟩ ⟨d.val, by omega⟩ else 0

/-- The convolution. -/
def cnv (b : Fin 4) (s : Fin 2048) (d : Fin 1024) : EReal :=
  cb d + cw 0 d * tap q b s 0 d + cw 1 d * tap q b s 1 d + cw 2 d * tap q b s 2 d + cw 3 d * tap q b s 3 d

/-- The queries, scaled, and the keys. -/
def qkR (b : Fin 4) (s : Fin 2048) (d : Fin 1024) : EReal :=
  if d.val < 512 then cnv q cw cb b s d * sgm (cnv q cw cb b s d) * Ideal.ofBits .f32 0x3DB504F3#32 else cnv q cw cb b s d * sgm (cnv q cw cb b s d)

/-- The attention's queries, scaled, keys and values. -/
def attR (b : Fin 4) (s : Fin 2048) (d : Fin 1536) : EReal :=
  if d.val < 1024 then q b s ⟨3072 + d.val, by omega⟩ * Ideal.ofBits .f32 0x3E000000#32 else q b s ⟨3072 + d.val, by omega⟩

end Cert.Proof.In

end
-- ==== Proof.In.Scan.lean ====
module

public import proofs.«01_k».proof.Proof.In.Spec
public import Idealize.ShloMosaic.Lib.Pointwise

@[expose] public section

set_option maxRecDepth 16384

noncomputable section

namespace Cert.Proof.In

open Idealize.ShloMosaic Idealize.ShloMosaic.TcCoe Idealize.SL.Sem

/-! ## The log-sigmoid -/

/-- The logarithm of the sigmoid. -/
def lsg (u : EReal) : EReal := min u 0 - Ideal.log1p (Ideal.exp (-(max u (-u))))

theorem lsg_kernel (u : EReal) : min u 0 - Ideal.log1p (Ideal.exp (0 - max u (-u))) = lsg u := by
  unfold lsg
  rw [sub_eq_add_neg 0 (max u (-u)), zero_add]

theorem exp_nonneg (z : EReal) : 0 ≤ Ideal.exp z := by
  induction z with
  | bot => exact le_refl _
  | top => exact le_top
  | coe r => exact EReal.coe_nonneg.2 (Real.exp_pos r).le

theorem log_nonneg (y : EReal) (h : 1 ≤ y) : 0 ≤ Ideal.log y := by
  induction y with
  | bot => exact absurd (le_bot_iff.1 h) (EReal.coe_ne_bot (1 : ℝ))
  | top => exact le_top
  | coe r =>
    have h1 : (1 : ℝ) ≤ r := by exact_mod_cast h
    show (0 : EReal) ≤ if r ≤ 0 then ⊥ else (Real.log r : EReal)
    rw [if_neg (by linarith)]
    exact EReal.coe_nonneg.2 (Real.log_nonneg h1)

theorem log1p_nonneg (z : EReal) : 0 ≤ Ideal.log1p (Ideal.exp z) :=
  log_nonneg _ (le_add_of_nonneg_right (exp_nonneg z))

theorem lsg_ref (u : EReal) : -(max (-u) 0 + Ideal.log1p (Ideal.exp (-(max (-u) (- -u))))) = lsg u := by
  have h := log1p_nonneg (-(max (-u) (- -u)))
  have ha : (0 : EReal) ≤ max (-u) 0 := le_max_right _ _
  rw [EReal.neg_add (Or.inl fun e => by rw [e] at ha; exact absurd ha (by simp)) (Or.inr fun e => by rw [e] at h; exact absurd h (by simp))]
  unfold lsg
  rw [neg_neg, max_comm (-u) u]
  refine congrArg (· - Ideal.log1p (Ideal.exp (-(max u (-u))))) ?_
  rcases le_total u 0 with hu | hu
  · rw [min_eq_left hu, max_eq_left (EReal.neg_le_neg_iff.1 (by rw [neg_neg, neg_zero]; exact hu)), neg_neg]
  · rw [min_eq_right hu, max_eq_right (EReal.neg_le_neg_iff.1 (by rw [neg_neg, neg_zero]; exact hu)), neg_zero]

/-! ## Sums and maxima over the last places of a row, by doubling -/

/-- The sum over the last `n` places up to `l`. -/
def wsum (n : ℕ) (f : Fin 256 → EReal) (l : Fin 256) : EReal := ∑ j : Fin 256, if j.val ≤ l.val ∧ l.val < j.val + n then f j else 0

/-- The largest over the last `n` places up to `l`. -/
def wmax (n : ℕ) (f : Fin 256 → EReal) (l : Fin 256) : EReal := Finset.univ.sup fun j : Fin 256 => if j.val ≤ l.val ∧ l.val < j.val + n then f j else ⊥

theorem wsum_one (f : Fin 256 → EReal) (l : Fin 256) : f l = wsum 1 f l := by
  unfold wsum
  refine Eq.symm ((Finset.sum_eq_single l (fun j _ hj => if_neg fun h => hj (Fin.ext (by omega))) (fun h => absurd (Finset.mem_univ l) h)).trans ?_)
  exact if_pos (by omega)

theorem wsum_double (n : ℕ) (f : Fin 256 → EReal) (l : Fin 256) :
    (wsum n f l + if h : n ≤ l.val then wsum n f ⟨l.val - n, by omega⟩ else 0) = wsum (n + n) f l := by
  unfold wsum
  by_cases h : n ≤ l.val
  · rw [dif_pos h, ← Finset.sum_add_distrib]
    refine Finset.sum_congr rfl fun j _ => ?_
    show _ + (if j.val ≤ l.val - n ∧ l.val - n < j.val + n then f j else 0) = _
    by_cases h1 : j.val ≤ l.val ∧ l.val < j.val + n
    · rw [if_pos h1, if_neg (by omega), if_pos (by omega), add_zero]
    · by_cases h2 : j.val ≤ l.val - n ∧ l.val - n < j.val + n
      · rw [if_neg h1, if_pos h2, if_pos (by omega), zero_add]
      · rw [if_neg h1, if_neg h2, if_neg (by omega), zero_add]
  · rw [dif_neg h, add_zero]
    exact Finset.sum_congr rfl fun j _ => if_congr (by omega) rfl rfl

theorem wmax_one (f : Fin 256 → EReal) (l : Fin 256) : f l = wmax 1 f l := by
  unfold wmax
  refine le_antisymm ?_ (Finset.sup_le fun j _ => ?_)
  · refine le_trans (le_of_eq (if_pos (by omega)).symm) (Finset.le_sup (f := fun j : Fin 256 => if j.val ≤ l.val ∧ l.val < j.val + 1 then f j else ⊥) (Finset.mem_univ l))
  · by_cases h : j.val ≤ l.val ∧ l.val < j.val + 1
    · rw [if_pos h, show j = l from Fin.ext (by omega)]
    · rw [if_neg h]
      exact bot_le

theorem wmax_double (n : ℕ) (f : Fin 256 → EReal) (l : Fin 256) :
    max (wmax n f l) (if h : n ≤ l.val then wmax n f ⟨l.val - n, by omega⟩ else ⊥) = wmax (n + n) f l := by
  unfold wmax
  by_cases h : n ≤ l.val
  · rw [dif_pos h]
    refine (Finset.sup_sup).symm.trans (Finset.sup_congr rfl fun j _ => ?_)
    show max (if j.val ≤ l.val ∧ l.val < j.val + n then f j else ⊥) (if j.val ≤ l.val - n ∧ l.val - n < j.val + n then f j else ⊥) = _
    by_cases h1 : j.val ≤ l.val ∧ l.val < j.val + n
    · rw [if_pos h1, if_neg (by omega), if_pos (by omega)]
      exact max_eq_left bot_le
    · by_cases h2 : j.val ≤ l.val - n ∧ l.val - n < j.val + n
      · rw [if_neg h1, if_pos h2, if_pos (by omega)]
        exact max_eq_right bot_le
      · rw [if_neg h1, if_neg h2, if_neg (by omega)]
        exact max_self _
  · rw [dif_neg h]
    refine (max_eq_left bot_le).trans (Finset.sup_congr rfl fun j _ => if_congr (by omega) rfl rfl)

/-! ## The gates of a tile, in the logarithms `f` of its gates -/

section
variable (f : Fin 8 → Fin 256 → EReal)

/-- The running sum. -/
def cumS (g : Fin 8) (l : Fin 256) : EReal := ∑ j : Fin 256, if j.val ≤ l.val then f g j else 0
/-- The running sum of the gate four rows on. -/
def decS (g : Fin 8) (l : Fin 256) : EReal := cumS f ⟨(g.val + 4) % 8, Nat.mod_lt _ (by decide)⟩ l
/-- A gate less the running sum of the gate four rows on. -/
def difS (g : Fin 8) (l : Fin 256) : EReal := f g l - decS f g l
/-- Its running maximum. -/
def topS (g : Fin 8) (l : Fin 256) : EReal := Finset.univ.sup fun j : Fin 256 => if j.val ≤ l.val then difS f g j else ⊥
/-- The three groups of rows. -/
def gatesS (g : Fin 24) (l : Fin 256) : EReal :=
  if h : g.val < 8 then difS f ⟨g.val, h⟩ l else if h' : g.val - 8 < 8 then topS f ⟨g.val - 8, h'⟩ l else decS f ⟨g.val - 8 - 8, by omega⟩ l

theorem wsum_all (g : Fin 8) (l : Fin 256) : wsum 256 (f g) l = cumS f g l :=
  Finset.sum_congr rfl fun j _ => if_congr (by omega) rfl rfl

theorem wmax_all (g : Fin 8) (l : Fin 256) : wmax 256 (difS f g) l = topS f g l :=
  Finset.sup_congr rfl fun j _ => if_congr (by omega) rfl rfl

end

/-- The logarithms of the gates of the row `s`. -/
def lgt (q : Fin 4 → Fin 2048 → Fin 4736 → EReal) (bi bf : Fin 4 → EReal) (b : Fin 4) (s : Fin 2048) (g : Fin 8) : EReal :=
  if h : g.val < 4 then q b s ⟨4608 + g.val, by omega⟩ + bi ⟨g.val, h⟩ else lsg (q b s ⟨4608 + g.val, by omega⟩ + bf ⟨g.val - 4, by omega⟩)

/-- The gates of the row `s`: the tile's that it lies in. -/
def gatesR (q : Fin 4 → Fin 2048 → Fin 4736 → EReal) (bi bf : Fin 4 → EReal) (b : Fin 4) (g : Fin 24) (s : Fin 2048) : EReal :=
  gatesS (fun g j => lgt q bi bf b ⟨s.val / 256 * 256 + j.val, by omega⟩ g) g ⟨s.val % 256, Nat.mod_lt _ (by decide)⟩

/-! ## The masks -/

theorem le_bit (l x : Fin 256) : IntOp.cmpi .sge (BitVec.ofNat 32 l.val) (BitVec.ofNat 32 x.val) = if x.val ≤ l.val then 1#1 else 0#1 :=
  (by decide +kernel : ∀ l x : Fin 256, IntOp.cmpi .sge (BitVec.ofNat 32 l.val) (BitVec.ofNat 32 x.val) = if x.val ≤ l.val then 1#1 else 0#1) l x

theorem low_bits (l : Fin 256) : IntOp.andi (BitVec.ofNat 32 l.val) 255#32 = BitVec.ofNat 32 l.val :=
  (by decide +kernel : ∀ l : Fin 256, IntOp.andi (BitVec.ofNat 32 l.val) 255#32 = BitVec.ofNat 32 l.val) l

theorem select_le {α : Type} (l x : Fin 256) (a b : α) :
    Scalar.select (IntOp.cmpi .sge (BitVec.ofNat 32 l.val) (BitVec.ofNat 32 x.val)) a b = if x.val ≤ l.val then a else b := by
  rw [le_bit]
  by_cases h : x.val ≤ l.val
  · rw [if_pos h, if_pos h]; exact if_pos (by decide)
  · rw [if_neg h, if_neg h]; exact if_neg (by decide)

theorem ninf_eq : Ideal.ofBits .f32 0xFF800000#32 = (⊥ : EReal) := by
  unfold Ideal.ofBits Ideal.ieee
  simp

end Cert.Proof.In

end
-- ==== Proof.In.Pay.lean ====
module

public import proofs.«01_k».proof.Proof.In.Spec
public import proofs.«01_k».proof.Proof.In.Run

@[expose] public section

set_option maxRecDepth 16384

noncomputable section

namespace Cert.Proof.In

open Cert.Kernel4Ideal Cert.Kernel4Ideal.Gen
open Cert.Proof.Mlp (rms)

open Idealize.ShloMosaic Idealize.ShloMosaic.TcCoe Idealize.SL.Sem

/-! ## What the payloads hold at an index, over the extended reals -/

theorem pH_at (x : Vec Ideal S1x256x2048 .f32) (g sc sh : Vec Ideal S1x2048 .f32) (r : Fin 256) (d : Fin 2048) :
    pH (F := Ideal) x g sc sh (ix2 r d) = rms (fun k => x (ix3 0 r k)) (g (ix2 0 d)) d * (1 + sc (ix2 0 d)) + sh (ix2 0 d) := by
  unfold pH k0_pay5 k0_pay4 rms
  pointwise

/-- A window of columns of the packed weights. -/
theorem cols_at (w : Vec Ideal S2048x4736 .bf16) (o n : ℕ) (inb) (k : Fin 2048) (d : Fin n) (h : o + n ≤ 4736) :
    VecWindow.window w (![0, o]) (![2048, n]) inb (ix2 k d) = w (ix2 k ⟨o + d.val, by omega⟩) :=
  congrArg w (funext fun a => by
    match a with
    | ⟨0, _⟩ => exact Fin.ext (show 0 + 1 * k.val = k.val by omega)
    | ⟨1, _⟩ => exact Fin.ext (show o + 1 * d.val = o + d.val by omega))

theorem pay40_at (h : Vec Ideal S256x2048 .bf16) (w : Vec Ideal S2048x1024 .bf16) (r : Fin 256) (d : Fin 1024) :
    k0_pay40 (F := Ideal) h w (ix3 0 r d) = ∑ k : Fin 2048, h (ix2 r k) * w (ix2 k d) := by
  unfold k0_pay40
  pointwise

theorem pay36_at (h : Vec Ideal S256x2048 .bf16) (w : Vec Ideal S2048x1024 .bf16) (r : Fin 256) (d : Fin 1024) :
    k0_pay36 (F := Ideal) (k0_pay35 h w) (ix3 0 r d) = sgm (∑ k : Fin 2048, h (ix2 r k) * w (ix2 k d)) := by
  rw [sgm_sub]
  unfold k0_pay36 k0_pay35
  pointwise

theorem pay38_at (h : Vec Ideal S256x2048 .bf16) (w : Vec Ideal S2048x1536 .bf16) (r : Fin 256) (d : Fin 1024) :
    k0_pay38 (F := Ideal) h w (ix3 0 r d) = (∑ k : Fin 2048, h (ix2 r k) * w (ix2 k ⟨d.val, by omega⟩)) * Ideal.ofBits .f32 0x3E000000#32 := by
  unfold k0_pay38 k0_pay37
  pointwise

theorem pay39_at (h : Vec Ideal S256x2048 .bf16) (w : Vec Ideal S2048x1536 .bf16) (r : Fin 256) (d : Fin 512) :
    k0_pay39 (F := Ideal) h w (ix3 0 r d) = ∑ k : Fin 2048, h (ix2 r k) * w (ix2 k ⟨1024 + d.val, by omega⟩) := by
  unfold k0_pay39 k0_pay37
  pointwise

theorem pay25_at (h : Vec Ideal S256x2048 .bf16) (w : Vec Ideal S2048x1024 .bf16) (r : Fin 256) (d : Fin 1024) :
    k0_pay25 (F := Ideal) h w (ix2 r d) = ∑ k : Fin 2048, h (ix2 r k) * w (ix2 k d) := by
  unfold k0_pay25
  pointwise

theorem pay27_at (h : Vec Ideal S256x2048 .bf16) (w : Vec Ideal S2048x1024 .bf16) (r : Fin 256) (d : Fin 1024) :
    k0_pay27 (F := Ideal) h w (ix2 r d) = ∑ k : Fin 2048, h (ix2 r k) * w (ix2 k d) := by
  unfold k0_pay27 k0_pay25
  pointwise

theorem pay28_at (h : Vec Ideal S256x2048 .bf16) (w : Vec Ideal S2048x1024 .bf16) (r : Fin 8) (d : Fin 1024) :
    k0_pay28 (F := Ideal) h w (ix2 r d) = ∑ k : Fin 2048, h (ix2 ⟨248 + r.val, by omega⟩ k) * w (ix2 k d) := by
  unfold k0_pay28 k0_pay25
  pointwise

theorem pay26_at (st : BitVec 1) (cr : Vec Ideal S8x1024 .f32) (r : Fin 8) (d : Fin 1024) :
    k0_pay26 (F := Ideal) st cr (ix2 r d) = Scalar.select st (0 : EReal) (cr (ix2 r d)) := by
  rcases BitVec.eq_zero_or_eq_one st with e | e <;> subst e
  · show k0_pay26 (F := Ideal) 0#1 cr (ix2 r d) = cr (ix2 r d)
    unfold k0_pay26
    simp only [Scalar.select]
    rw [if_neg (by decide)]
    pointwise
  · show k0_pay26 (F := Ideal) 1#1 cr (ix2 r d) = 0
    unfold k0_pay26
    simp only [Scalar.select]
    rw [if_pos (by decide)]
    pointwise

theorem pay32_at (h : Vec Ideal S256x2048 .bf16) (w : Vec Ideal S2048x1024 .bf16) (cw : Vec Ideal S1x4x1024 .f32) (cb : Vec Ideal S1x1024 .f32)
    (x0 x1 x2 : Vec Ideal S256x1024 .f32) (r : Fin 256) (d : Fin 1024) (u : EReal)
    (hu : u = cb (ix2 0 d) + cw (ix3 0 0 d) * x0 (ix2 r d) + cw (ix3 0 1 d) * x1 (ix2 r d) + cw (ix3 0 2 d) * x2 (ix2 r d) + cw (ix3 0 3 d) * k0_pay25 (F := Ideal) h w (ix2 r d)) :
    k0_pay32 (F := Ideal) (k0_pay29 cw) (k0_pay30 h cb w cw) (k0_pay31 cw) x0 x1 x2 (ix2 r d) = u * sgm u := by
  have e : u = cw (ix3 0 3 d) * k0_pay25 (F := Ideal) h w (ix2 r d) + cb (ix2 0 d) + cw (ix3 0 0 d) * x0 (ix2 r d) + cw (ix3 0 1 d) * x1 (ix2 r d) + cw (ix3 0 2 d) * x2 (ix2 r d) := by
    rw [hu]; ac_rfl
  rw [sgm_sub, e]
  unfold k0_pay32 k0_pay30 k0_pay31 k0_pay29
  generalize k0_pay25 (F := Ideal) h w = p
  pointwise

theorem pay33_at (v286 : FVec Ideal S4x1024 .f32) (v291 : FVec Ideal S256x1024 .f32) (v292 : FVec Ideal S1x1024 .f32) (x0 x1 x2 : Vec Ideal S256x1024 .f32) (r : Fin 256) (d : Fin 512) :
    k0_pay33 (F := Ideal) v286 v291 v292 x0 x1 x2 (ix3 0 r d) = k0_pay32 (F := Ideal) v286 v291 v292 x0 x1 x2 (ix2 r ⟨d.val, by omega⟩) * Ideal.ofBits .f32 0x3DB504F3#32 := by
  unfold k0_pay33
  generalize k0_pay32 (F := Ideal) v286 v291 v292 x0 x1 x2 = p
  pointwise

theorem pay34_at (v286 : FVec Ideal S4x1024 .f32) (v291 : FVec Ideal S256x1024 .f32) (v292 : FVec Ideal S1x1024 .f32) (x0 x1 x2 : Vec Ideal S256x1024 .f32) (r : Fin 256) (d : Fin 512) :
    k0_pay34 (F := Ideal) v286 v291 v292 x0 x1 x2 (ix3 0 r d) = k0_pay32 (F := Ideal) v286 v291 v292 x0 x1 x2 (ix2 r ⟨512 + d.val, by omega⟩) := by
  unfold k0_pay34
  generalize k0_pay32 (F := Ideal) v286 v291 v292 x0 x1 x2 = p
  pointwise

theorem pay6_at (x : Vec Ideal S1x64x8192 .f32) (r : Fin 64) (d : Fin 8192) : k0_pay6 (F := Ideal) x (ix2 r d) = x (ix3 0 r d) := by
  unfold k0_pay6
  pointwise

theorem pay7_at (x : Vec Ideal S1x256x2048 .f32) (r : Fin 256) (d : Fin 2048) : k0_pay7 (F := Ideal) x (ix2 r d) = x (ix3 0 r d) := by
  unfold k0_pay7
  pointwise

/-! ## Windows put side by side -/

theorem put3_in {α : Type} {n0 n1 n2 k0 k1 k2 o0 o1 o2 : ℕ} (x : (⟨3, ![n0, n1, n2]⟩ : Shape).Idx → α) (w : (⟨3, ![k0, k1, k2]⟩ : Shape).Idx → α)
    (a : Fin n0) (b : Fin n1) (d : Fin n2) (a' : Fin k0) (b' : Fin k1) (d' : Fin k2) (h0 : a.val = o0 + a'.val) (h1 : b.val = o1 + b'.val) (h2 : d.val = o2 + d'.val) :
    VecWindow.put (s := ⟨3, ![n0, n1, n2]⟩) x (![o0, o1, o2]) (![k0, k1, k2]) w (ix3 a b d) = w (ix3 a' b' d') := by
  have ha := a'.isLt
  have hb := b'.isLt
  have hd := d'.isLt
  unfold VecWindow.put
  refine (dif_pos (fun e => ?_)).trans (congrArg w (funext fun e => Fin.ext ?_))
  · match e with
    | ⟨0, _⟩ => exact (show o0 ≤ a.val ∧ a.val < o0 + k0 by omega)
    | ⟨1, _⟩ => exact (show o1 ≤ b.val ∧ b.val < o1 + k1 by omega)
    | ⟨2, _⟩ => exact (show o2 ≤ d.val ∧ d.val < o2 + k2 by omega)
  · match e with
    | ⟨0, _⟩ => exact (show a.val - o0 = a'.val by omega)
    | ⟨1, _⟩ => exact (show b.val - o1 = b'.val by omega)
    | ⟨2, _⟩ => exact (show d.val - o2 = d'.val by omega)

theorem put2_in {α : Type} {n0 n1 k0 k1 o0 o1 : ℕ} (x : (⟨2, ![n0, n1]⟩ : Shape).Idx → α) (w : (⟨2, ![k0, k1]⟩ : Shape).Idx → α)
    (a : Fin n0) (b : Fin n1) (a' : Fin k0) (b' : Fin k1) (h0 : a.val = o0 + a'.val) (h1 : b.val = o1 + b'.val) :
    VecWindow.put (s := ⟨2, ![n0, n1]⟩) x (![o0, o1]) (![k0, k1]) w (ix2 a b) = w (ix2 a' b') := by
  have ha := a'.isLt
  have hb := b'.isLt
  unfold VecWindow.put
  refine (dif_pos (fun e => ?_)).trans (congrArg w (funext fun e => Fin.ext ?_))
  · match e with
    | ⟨0, _⟩ => exact (show o0 ≤ a.val ∧ a.val < o0 + k0 by omega)
    | ⟨1, _⟩ => exact (show o1 ≤ b.val ∧ b.val < o1 + k1 by omega)
  · match e with
    | ⟨0, _⟩ => exact (show a.val - o0 = a'.val by omega)
    | ⟨1, _⟩ => exact (show b.val - o1 = b'.val by omega)

theorem put_out {α : Type} {s : Shape} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  exact dif_neg fun h' => by have := h' a; omega

end Cert.Proof.In

end
-- ==== Proof.In.Value.lean ====
module

public import proofs.«01_k».proof.Proof.In.Run
public import proofs.«01_k».proof.Proof.In.Pay
public import Idealize.ShloMosaic.Lib.Pipeline.ValueKit

@[expose] public section

set_option maxRecDepth 16384

noncomputable section

namespace Cert.Proof.In

open Cert.Kernel4Ideal Cert.Kernel4Ideal.Gen
open Cert.Proof.Mlp (rms row8)

open Idealize.ShloMosaic Idealize.ShloMosaic.TcCoe Idealize.SL.Sem

/-! ## Where the windows stand -/

theorem idx2 (t : Fin grid0.N) : win0_2.index t 0 = min t.val 31 / 8 ∧ win0_2.index t 1 = min t.val 31 % 8 ∧ win0_2.index t 2 = 0 :=
  (by decide +kernel : ∀ t : Fin grid0.N, win0_2.index t 0 = min t.val 31 / 8 ∧ win0_2.index t 1 = min t.val 31 % 8 ∧ win0_2.index t 2 = 0) t
theorem idx3 (t : Fin grid0.N) : win0_3.index t 0 = 0 ∧ win0_3.index t 1 = 0 :=
  (by decide +kernel : ∀ t : Fin grid0.N, win0_3.index t 0 = 0 ∧ win0_3.index t 1 = 0) t
theorem idx4 (t : Fin grid0.N) : win0_4.index t 0 = 0 ∧ win0_4.index t 1 = 1 :=
  (by decide +kernel : ∀ t : Fin grid0.N, win0_4.index t 0 = 0 ∧ win0_4.index t 1 = 1) t
theorem idx5 (t : Fin grid0.N) : win0_5.index t 0 = 0 ∧ win0_5.index t 1 = 0 :=
  (by decide +kernel : ∀ t : Fin grid0.N, win0_5.index t 0 = 0 ∧ win0_5.index t 1 = 0) t
theorem idx6 (t : Fin grid0.N) : win0_6.index t 0 = 0 ∧ win0_6.index t 1 = 0 :=
  (by decide +kernel : ∀ t : Fin grid0.N, win0_6.index t 0 = 0 ∧ win0_6.index t 1 = 0) t
theorem idx7 (t : Fin grid0.N) : win0_7.index t 0 = 1 ∧ win0_7.index t 1 = 0 ∧ win0_7.index t 2 = 0 :=
  (by decide +kernel : ∀ t : Fin grid0.N, win0_7.index t 0 = 1 ∧ win0_7.index t 1 = 0 ∧ win0_7.index t 2 = 0) t
theorem idx8 (t : Fin grid0.N) : win0_8.index t 0 = 0 ∧ win0_8.index t 1 = 0 :=
  (by decide +kernel : ∀ t : Fin grid0.N, win0_8.index t 0 = 0 ∧ win0_8.index t 1 = 0) t
theorem idx9 (t : Fin grid0.N) : win0_9.index t 0 = 1 ∧ win0_9.index t 1 = (t.val - 1) ∧ win0_9.index t 2 = 0 :=
  (by decide +kernel : ∀ t : Fin grid0.N, win0_9.index t 0 = 1 ∧ win0_9.index t 1 = (t.val - 1) ∧ win0_9.index t 2 = 0) t
theorem idx10 (t : Fin grid0.N) : win0_10.index t 0 = 1 ∧ win0_10.index t 1 = (t.val - 1) ∧ win0_10.index t 2 = 0 :=
  (by decide +kernel : ∀ t : Fin grid0.N, win0_10.index t 0 = 1 ∧ win0_10.index t 1 = (t.val - 1) ∧ win0_10.index t 2 = 0) t
theorem idx11 (t : Fin grid0.N) : win0_11.index t 0 = (t.val - 1) / 8 ∧ win0_11.index t 1 = (t.val - 1) % 8 ∧ win0_11.index t 2 = 0 :=
  (by decide +kernel : ∀ t : Fin grid0.N, win0_11.index t 0 = (t.val - 1) / 8 ∧ win0_11.index t 1 = (t.val - 1) % 8 ∧ win0_11.index t 2 = 0) t
theorem idx12 (t : Fin grid0.N) : win0_12.index t 0 = (t.val - 1) / 8 ∧ win0_12.index t 1 = (t.val - 1) % 8 ∧ win0_12.index t 2 = 0 :=
  (by decide +kernel : ∀ t : Fin grid0.N, win0_12.index t 0 = (t.val - 1) / 8 ∧ win0_12.index t 1 = (t.val - 1) % 8 ∧ win0_12.index t 2 = 0) t
theorem idx13 (t : Fin grid0.N) : win0_13.index t 0 = (t.val - 1) / 8 ∧ win0_13.index t 1 = (t.val - 1) % 8 ∧ win0_13.index t 2 = 0 :=
  (by decide +kernel : ∀ t : Fin grid0.N, win0_13.index t 0 = (t.val - 1) / 8 ∧ win0_13.index t 1 = (t.val - 1) % 8 ∧ win0_13.index t 2 = 0) t
theorem idx14 (t : Fin grid0.N) : win0_14.index t 0 = (t.val - 1) / 8 ∧ win0_14.index t 1 = (t.val - 1) % 8 ∧ win0_14.index t 2 = 0 :=
  (by decide +kernel : ∀ t : Fin grid0.N, win0_14.index t 0 = (t.val - 1) / 8 ∧ win0_14.index t 1 = (t.val - 1) % 8 ∧ win0_14.index t 2 = 0) t
theorem idx15 (t : Fin grid0.N) : win0_15.index t 0 = (t.val - 1) / 8 ∧ win0_15.index t 1 = 0 ∧ win0_15.index t 2 = (t.val - 1) % 8 :=
  (by decide +kernel : ∀ t : Fin grid0.N, win0_15.index t 0 = (t.val - 1) / 8 ∧ win0_15.index t 1 = 0 ∧ win0_15.index t 2 = (t.val - 1) % 8) t
theorem idx16 (t : Fin grid0.N) : win0_16.index t 0 = t.val - 1 ∧ win0_16.index t 1 = 0 :=
  (by decide +kernel : ∀ t : Fin grid0.N, win0_16.index t 0 = t.val - 1 ∧ win0_16.index t 1 = 0) t
theorem idx17 (t : Fin grid0.N) : win0_17.index t 0 = t.val - 1 ∧ win0_17.index t 1 = 0 :=
  (by decide +kernel : ∀ t : Fin grid0.N, win0_17.index t 0 = t.val - 1 ∧ win0_17.index t 1 = 0) t

/-! ## The input blocks, at an index -/

variable (m : (ℓ : Loc nD τ sig) → Buf (Elt Ideal) ℓ) (c : Dev nD)

theorem iblk2_at (t : Fin grid0.N) (y0 : Fin 1) (y1 : Fin 256) (y2 : Fin 2048) (y0' : Fin 4) (y1' : Fin 2048) (y2' : Fin 2048)
    (e0 : y0'.val = (min t.val 31 / 8) * 1 + y0.val) (e1 : y1'.val = (min t.val 31 % 8) * 256 + y1.val) (e2 : y2'.val = (0) * 2048 + y2.val) : iblk m c 2 t (ix3 y0 y1 y2) = V m c main_arg0 (ix3 y0' y1' y2') := by
  have hi := idx2 t
  unfold iblk
  rw [View.read_apply]
  show V m c main_arg0 _ = V m c main_arg0 _
  refine congrArg (V m c main_arg0) (funext fun a => Fin.ext ?_)
  match a with
  | ⟨0, _⟩ => show win0_2.index t 0 * 1 + 1 * y0.val = y0'.val; rw [hi.1]; omega
  | ⟨1, _⟩ => show win0_2.index t 1 * 256 + 1 * y1.val = y1'.val; rw [hi.2.1]; omega
  | ⟨2, _⟩ => show win0_2.index t 2 * 2048 + 1 * y2.val = y2'.val; rw [hi.2.2]; omega

theorem iblk3_at (t : Fin grid0.N) (y0 : Fin 8) (y1 : Fin 2048) (y0' : Fin 8) (y1' : Fin 12288)
    (e0 : y0'.val = (0) * 8 + y0.val) (e1 : y1'.val = (0) * 2048 + y1.val) : iblk m c 3 t (ix2 y0 y1) = V m c main_v0 (ix2 y0' y1') := by
  have hi := idx3 t
  unfold iblk
  rw [View.read_apply]
  show V m c main_v0 _ = V m c main_v0 _
  refine congrArg (V m c main_v0) (funext fun a => Fin.ext ?_)
  match a with
  | ⟨0, _⟩ => show win0_3.index t 0 * 8 + 1 * y0.val = y0'.val; rw [hi.1]; omega
  | ⟨1, _⟩ => show win0_3.index t 1 * 2048 + 1 * y1.val = y1'.val; rw [hi.2]; omega

theorem iblk4_at (t : Fin grid0.N) (y0 : Fin 8) (y1 : Fin 2048) (y0' : Fin 8) (y1' : Fin 12288)
    (e0 : y0'.val = (0) * 8 + y0.val) (e1 : y1'.val = (1) * 2048 + y1.val) : iblk m c 4 t (ix2 y0 y1) = V m c main_v0 (ix2 y0' y1') := by
  have hi := idx4 t
  unfold iblk
  rw [View.read_apply]
  show V m c main_v0 _ = V m c main_v0 _
  refine congrArg (V m c main_v0) (funext fun a => Fin.ext ?_)
  match a with
  | ⟨0, _⟩ => show win0_4.index t 0 * 8 + 1 * y0.val = y0'.val; rw [hi.1]; omega
  | ⟨1, _⟩ => show win0_4.index t 1 * 2048 + 1 * y1.val = y1'.val; rw [hi.2]; omega

theorem iblk5_at (t : Fin grid0.N) (y0 : Fin 2) (y1 : Fin 2048) (y0' : Fin 2) (y1' : Fin 2048)
    (e0 : y0'.val = (0) * 2 + y0.val) (e1 : y1'.val = (0) * 2048 + y1.val) : iblk m c 5 t (ix2 y0 y1) = V m c main_arg2 (ix2 y0' y1') := by
  have hi := idx5 t
  unfold iblk
  rw [View.read_apply]
  show V m c main_arg2 _ = V m c main_arg2 _
  refine congrArg (V m c main_arg2) (funext fun a => Fin.ext ?_)
  match a with
  | ⟨0, _⟩ => show win0_5.index t 0 * 2 + 1 * y0.val = y0'.val; rw [hi.1]; omega
  | ⟨1, _⟩ => show win0_5.index t 1 * 2048 + 1 * y1.val = y1'.val; rw [hi.2]; omega

theorem iblk6_at (t : Fin grid0.N) (y0 : Fin 2048) (y1 : Fin 4736) (y0' : Fin 2048) (y1' : Fin 4736)
    (e0 : y0'.val = (0) * 2048 + y0.val) (e1 : y1'.val = (0) * 4736 + y1.val) : iblk m c 6 t (ix2 y0 y1) = V m c main_arg3 (ix2 y0' y1') := by
  have hi := idx6 t
  unfold iblk
  rw [View.read_apply]
  show V m c main_arg3 _ = V m c main_arg3 _
  refine congrArg (V m c main_arg3) (funext fun a => Fin.ext ?_)
  match a with
  | ⟨0, _⟩ => show win0_6.index t 0 * 2048 + 1 * y0.val = y0'.val; rw [hi.1]; omega
  | ⟨1, _⟩ => show win0_6.index t 1 * 4736 + 1 * y1.val = y1'.val; rw [hi.2]; omega

theorem iblk7_at (t : Fin grid0.N) (y0 : Fin 1) (y1 : Fin 4) (y2 : Fin 1024) (y0' : Fin 2) (y1' : Fin 4) (y2' : Fin 1024)
    (e0 : y0'.val = (1) * 1 + y0.val) (e1 : y1'.val = (0) * 4 + y1.val) (e2 : y2'.val = (0) * 1024 + y2.val) : iblk m c 7 t (ix3 y0 y1 y2) = V m c main_arg4 (ix3 y0' y1' y2') := by
  have hi := idx7 t
  unfold iblk
  rw [View.read_apply]
  show V m c main_arg4 _ = V m c main_arg4 _
  refine congrArg (V m c main_arg4) (funext fun a => Fin.ext ?_)
  match a with
  | ⟨0, _⟩ => show win0_7.index t 0 * 1 + 1 * y0.val = y0'.val; rw [hi.1]; omega
  | ⟨1, _⟩ => show win0_7.index t 1 * 4 + 1 * y1.val = y1'.val; rw [hi.2.1]; omega
  | ⟨2, _⟩ => show win0_7.index t 2 * 1024 + 1 * y2.val = y2'.val; rw [hi.2.2]; omega

theorem iblk8_at (t : Fin grid0.N) (y0 : Fin 2) (y1 : Fin 1024) (y0' : Fin 2) (y1' : Fin 1024)
    (e0 : y0'.val = (0) * 2 + y0.val) (e1 : y1'.val = (0) * 1024 + y1.val) : iblk m c 8 t (ix2 y0 y1) = V m c main_arg5 (ix2 y0' y1') := by
  have hi := idx8 t
  unfold iblk
  rw [View.read_apply]
  show V m c main_arg5 _ = V m c main_arg5 _
  refine congrArg (V m c main_arg5) (funext fun a => Fin.ext ?_)
  match a with
  | ⟨0, _⟩ => show win0_8.index t 0 * 2 + 1 * y0.val = y0'.val; rw [hi.1]; omega
  | ⟨1, _⟩ => show win0_8.index t 1 * 1024 + 1 * y1.val = y1'.val; rw [hi.2]; omega

theorem iblk9_at (t : Fin grid0.N) (y0 : Fin 1) (y1 : Fin 64) (y2 : Fin 8192) (y0' : Fin 2) (y1' : Fin 2048) (y2' : Fin 8192)
    (e0 : y0'.val = (1) * 1 + y0.val) (e1 : y1'.val = ((t.val - 1)) * 64 + y1.val) (e2 : y2'.val = (0) * 8192 + y2.val) : iblk m c 9 t (ix3 y0 y1 y2) = V m c main_arg8 (ix3 y0' y1' y2') := by
  have hi := idx9 t
  unfold iblk
  rw [View.read_apply]
  show V m c main_arg8 _ = V m c main_arg8 _
  refine congrArg (V m c main_arg8) (funext fun a => Fin.ext ?_)
  match a with
  | ⟨0, _⟩ => show win0_9.index t 0 * 1 + 1 * y0.val = y0'.val; rw [hi.1]; omega
  | ⟨1, _⟩ => show win0_9.index t 1 * 64 + 1 * y1.val = y1'.val; rw [hi.2.1]; omega
  | ⟨2, _⟩ => show win0_9.index t 2 * 8192 + 1 * y2.val = y2'.val; rw [hi.2.2]; omega

theorem iblk10_at (t : Fin grid0.N) (y0 : Fin 1) (y1 : Fin 256) (y2 : Fin 2048) (y0' : Fin 2) (y1' : Fin 8192) (y2' : Fin 2048)
    (e0 : y0'.val = (1) * 1 + y0.val) (e1 : y1'.val = ((t.val - 1)) * 256 + y1.val) (e2 : y2'.val = (0) * 2048 + y2.val) : iblk m c 10 t (ix3 y0 y1 y2) = V m c main_arg9 (ix3 y0' y1' y2') := by
  have hi := idx10 t
  unfold iblk
  rw [View.read_apply]
  show V m c main_arg9 _ = V m c main_arg9 _
  refine congrArg (V m c main_arg9) (funext fun a => Fin.ext ?_)
  match a with
  | ⟨0, _⟩ => show win0_10.index t 0 * 1 + 1 * y0.val = y0'.val; rw [hi.1]; omega
  | ⟨1, _⟩ => show win0_10.index t 1 * 256 + 1 * y1.val = y1'.val; rw [hi.2.1]; omega
  | ⟨2, _⟩ => show win0_10.index t 2 * 2048 + 1 * y2.val = y2'.val; rw [hi.2.2]; omega

/-! ## What the host operations before the call leave, at an index -/

theorem V_v0 : V m c main_v0 = pad S8x12288 ![0, 0] ![4, 0] ![0, 0] (m ((c.tc : Thread nD τ).loc main_arg1))
    (sitofp (F := Ideal) .f32 (constantI S_ 32 0#32)) pads_S4x12288_S8x12288_040_000 h_S_ := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem mod8_at (x : Vec Ideal S4x12288 .f32) (b : Fin 8) (hb : b.val < 4) (k : Fin 12288) :
    pad S8x12288 ![0, 0] ![4, 0] ![0, 0] x (sitofp (F := Ideal) .f32 (constantI S_ 32 0#32)) pads_S4x12288_S8x12288_040_000 h_S_ (ix2 b k) = x (ix2 ⟨b.val, hb⟩ k) := by
  pointwise
  rw [dif_pos hb]

theorem V_v0_at (b : Fin 8) (hb : b.val < 4) (k : Fin 12288) :
    V m c main_v0 (ix2 b k) = m ((c.tc : Thread nD τ).loc main_arg1) (ix2 (n0 := 4) (n1 := 12288) ⟨b.val, hb⟩ k) :=
  (congrFun (V_v0 m c) _).trans (mod8_at _ b hb k)

/-! ## What the call leaves, in its arguments -/

/-- The arguments of core `c`, by index. -/
abbrev kX : Fin 4 → Fin 2048 → Fin 2048 → EReal := fun b s d => (m ((c.tc : Thread nD τ).loc main_arg0) : Vec Ideal S4x2048x2048 .f32) (ix3 b s d)
abbrev kMod : Fin 4 → Fin 12288 → EReal := fun b j => (m ((c.tc : Thread nD τ).loc main_arg1) : Vec Ideal S4x12288 .f32) (ix2 b j)
abbrev kG : Fin 2048 → EReal := fun d => (m ((c.tc : Thread nD τ).loc main_arg2) : Vec Ideal S2x2048 .f32) (ix2 1 d)
abbrev kW : Fin 2048 → Fin 4736 → EReal := fun k j => (m ((c.tc : Thread nD τ).loc main_arg3) : Vec Ideal S2048x4736 .bf16) (ix2 k j)
abbrev kCw : Fin 4 → Fin 1024 → EReal := fun j d => (m ((c.tc : Thread nD τ).loc main_arg4) : Vec Ideal S2x4x1024 .f32) (ix3 1 j d)
abbrev kCb : Fin 1024 → EReal := fun d => (m ((c.tc : Thread nD τ).loc main_arg5) : Vec Ideal S2x1024 .f32) (ix2 1 d)
abbrev kQ : Fin 4 → Fin 2048 → Fin 4736 → EReal := proj (kX m c) (kMod m c) (kG m c) (kW m c)

/-- The rows normed at a point. -/
theorem hT_at (t : Fin grid0.N) (ht : t.val ≤ 31) (r : Fin 256) (d : Fin 2048) (b : Fin 4) (s : Fin 2048) (hb : b.val = t.val / 8)
    (hs : s.val = t.val % 8 * 256 + r.val) : hT m c t (ix2 r d) = hid (kX m c) (kMod m c) (kG m c) b s d := by
  have hm : min t.val 31 = t.val := by omega
  have hx : ∀ k : Fin 2048, iblk m c 2 t (ix3 0 r k) = kX m c b s k := fun k => by
    rw [iblk2_at m c t 0 r k b s k (by show b.val = _ * 1 + 0; omega) (by omega) (by omega), V_main_arg0]
  have hg : VecWindow.window (iblk m c 5 t) (![1, 0]) S1x2048.size inb_S2x2048_S1x2048_1_0 (ix2 0 d) = kG m c d := by
    refine (congrArg (iblk m c 5 t) (funext fun a => ?_ : _ = ix2 (n0 := 2) (n1 := 2048) 1 d)).trans ?_
    · match a with
      | ⟨0, _⟩ => exact Fin.ext (show 1 + 1 * 0 = 1 by decide)
      | ⟨1, _⟩ => exact Fin.ext (show 0 + 1 * d.val = d.val by omega)
    · rw [iblk5_at m c t 1 d 1 d (by decide) (by omega), V_main_arg2]
  have hc : row8 (iblk m c 4 t) (min t.val 31 / 8) (ix2 0 d) = kMod m c b ⟨2048 + d.val, by omega⟩ := by
    show iblk m c 4 t (ix2 ⟨min t.val 31 / 8 % 8, _⟩ d) = _
    rw [iblk4_at m c t ⟨min t.val 31 / 8 % 8, Nat.mod_lt _ (by decide)⟩ d ⟨b.val, by omega⟩ ⟨2048 + d.val, by omega⟩ (by show b.val = 0 * 8 + min t.val 31 / 8 % 8; omega)
      (by show 2048 + d.val = 1 * 2048 + d.val; omega), V_v0_at m c _ b.isLt]
  have hh : row8 (iblk m c 3 t) (min t.val 31 / 8) (ix2 0 d) = kMod m c b ⟨d.val, by omega⟩ := by
    show iblk m c 3 t (ix2 ⟨min t.val 31 / 8 % 8, _⟩ d) = _
    rw [iblk3_at m c t ⟨min t.val 31 / 8 % 8, Nat.mod_lt _ (by decide)⟩ d ⟨b.val, by omega⟩ ⟨d.val, by omega⟩ (by show b.val = 0 * 8 + min t.val 31 / 8 % 8; omega)
      (by show d.val = 0 * 2048 + d.val; omega), V_v0_at m c _ b.isLt]
  unfold hT
  rw [pH_at, hg, hc, hh, funext hx]
  rfl

/-- A product of the rows a point normed with a column of the packed weights. -/
theorem prod_at (t u : Fin grid0.N) (ht : t.val ≤ 31) (r : Fin 256) (n o : ℕ) (inb) (d : Fin n) (h : o + n ≤ 4736) (b : Fin 4) (s : Fin 2048) (hb : b.val = t.val / 8)
    (hs : s.val = t.val % 8 * 256 + r.val) :
    (∑ k : Fin 2048, hT m c t (ix2 r k) * VecWindow.window (iblk m c 6 u : Vec Ideal S2048x4736 .bf16) (![0, o]) (![2048, n]) inb (ix2 k d)) = kQ m c b s ⟨o + d.val, by omega⟩ := by
  unfold kQ proj
  refine Finset.sum_congr rfl fun k _ => ?_
  rw [hT_at m c t ht r k b s hb hs, cols_at _ _ _ _ _ _ h, iblk6_at m c u k ⟨o + d.val, by omega⟩ k ⟨o + d.val, by omega⟩ (by omega) (by omega), V_main_arg3]

section
variable (t : Fin grid0.N) (ht : 1 ≤ t.val) (r : Fin 256) (b : Fin 4) (s : Fin 2048) (hb : b.val = (t.val - 1) / 8)
    (hs : s.val = (t.val - 1) % 8 * 256 + r.val)
include ht hb hs

/-- The same at the rows a point projects. -/
theorem prodP_at (n o : ℕ) (inb) (d : Fin n) (h : o + n ≤ 4736) :
    (∑ k : Fin 2048, hP m c t (ix2 r k) * VecWindow.window (iblk m c 6 t : Vec Ideal S2048x4736 .bf16) (![0, o]) (![2048, n]) inb (ix2 k d)) = kQ m c b s ⟨o + d.val, by omega⟩ := by
  have htN := t.isLt.trans_eq hN
  have hp : (pt (t.val - 1)).val = t.val - 1 := Nat.min_eq_left (by omega)
  exact prod_at m c (pt (t.val - 1)) t (by omega) r n o inb d h b s (by rw [hp]; exact hb) (by rw [hp]; exact hs)

theorem v_at (d : Fin 1024) : k0_pay40 (hP m c t) (wV (iblk m c 6 t)) (ix3 0 r d) = kQ m c b s ⟨1024 + d.val, by omega⟩ :=
  (pay40_at _ _ r d).trans (prodP_at m c t ht r b s hb hs 1024 1024 _ d (by decide))

theorem og_at (d : Fin 1024) : k0_pay36 (k0_pay35 (hP m c t) (wO (iblk m c 6 t))) (ix3 0 r d) = sgm (kQ m c b s ⟨2048 + d.val, by omega⟩) :=
  (pay36_at _ _ r d).trans (congrArg sgm (prodP_at m c t ht r b s hb hs 1024 2048 _ d (by decide)))

theorem att_at (y : Vec Ideal S1x256x1536 .bf16) (d : Fin 1536) : pAtt y (hP m c t) (wA (iblk m c 6 t)) (ix3 0 r d) = attR (kQ m c) b s d := by
  have e := fun d : Fin 1536 => prodP_at m c t ht r b s hb hs 1536 3072 inb_S2048x4736_S2048x1536_0_3072 d (by decide)
  have hr := r.isLt
  have hd := d.isLt
  unfold pAtt attR
  by_cases h : d.val < 1024
  · rw [if_pos h]
    refine (put_out _ _ _ _ _ 2 (Or.inl h)).trans ?_
    refine (put3_in (k0 := 1) (k1 := 256) (k2 := 1024) _ _ 0 r d 0 r ⟨d.val, h⟩ rfl (by omega) (by show d.val = 0 + (d.val); omega)).trans ?_
    · exact (pay38_at _ _ r ⟨d.val, h⟩).trans (congrArg₂ (· * ·) (e d) rfl)
  · rw [if_neg h]
    refine (put3_in (k0 := 1) (k1 := 256) (k2 := 512) _ _ 0 r d 0 r ⟨d.val - 1024, by omega⟩ rfl (by omega) (by show d.val = 1024 + (d.val - 1024); omega)).trans ?_
    · have ed : (⟨1024 + (d.val - 1024), by omega⟩ : Fin 1536) = d := Fin.ext (by show 1024 + (d.val - 1024) = d.val; omega)
      refine (pay39_at _ _ r ⟨d.val - 1024, by omega⟩).trans ?_
      show (∑ k : Fin 2048, hP m c t (ix2 r k) * wA (iblk m c 6 t) (ix2 k (⟨1024 + (d.val - 1024), _⟩ : Fin 1536))) = _
      rw [ed]
      exact e d

end

/-! ## The convolution -/

theorem starts_iff (t : Fin grid0.N) : starts (grid0.coords t) = if 1 ≤ t.val ∧ (t.val - 1) % 8 = 0 then 1#1 else 0#1 :=
  (by decide +kernel : ∀ t : Fin grid0.N, starts (grid0.coords t) = if 1 ≤ t.val ∧ (t.val - 1) % 8 = 0 then 1#1 else 0#1) t

/-- The rows the convolution of a point reads: the projected rows from eight above the tile on, zeros before the sequence. -/
theorem buf_at (t : Fin grid0.N) (ht : 1 ≤ t.val) (y : Vec Ideal S264x1024 .f32) (cr : Vec Ideal S8x1024 .f32) (hcr : carOk m c t.val cr) (i : Fin 264) (d : Fin 1024)
    (b : Fin 4) (hb : b.val = (t.val - 1) / 8) :
    pBuf (starts (grid0.coords t)) y cr (hP m c t) (wQK (iblk m c 6 t)) (ix2 i d)
      = if h : 8 ≤ (t.val - 1) % 8 * 256 + i.val then kQ m c b ⟨(t.val - 1) % 8 * 256 + i.val - 8, by omega⟩ ⟨d.val, by omega⟩ else 0 := by
  have htN := t.isLt.trans_eq hN
  have hd := d.isLt
  have ed : ∀ h, (⟨0 + d.val, h⟩ : Fin 4736) = ⟨d.val, by omega⟩ := fun _ => Fin.ext (Nat.zero_add _)
  unfold pBuf
  by_cases hi : 8 ≤ i.val
  · rw [dif_pos (by omega)]
    refine (put2_in (k0 := 256) (k1 := 1024) _ _ i d ⟨i.val - 8, by omega⟩ d (by show i.val = 8 + (i.val - 8); omega) (by omega)).trans ?_
    · refine (pay27_at _ _ _ d).trans ((prodP_at m c t ht _ b ⟨(t.val - 1) % 8 * 256 + i.val - 8, by omega⟩ hb (by show (t.val - 1) % 8 * 256 + i.val - 8 = (t.val - 1) % 8 * 256 + (i.val - 8); omega) 1024 0 _ d (by decide)).trans ?_)
      rw [ed]
  · refine (put_out _ _ _ _ _ 0 (Or.inl (show i.val < 8 by omega))).trans ?_
    refine (put2_in (k0 := 8) (k1 := 1024) _ _ i d ⟨i.val, by omega⟩ d (by show i.val = 0 + (i.val); omega) (by omega)).trans ?_
    · refine (pay26_at _ _ _ d).trans ?_
      rw [starts_iff]
      by_cases h8 : (t.val - 1) % 8 = 0
      · rw [if_pos ⟨ht, h8⟩, dif_neg (by omega)]
        exact if_pos (by decide)
      · rw [if_neg (fun h => h8 h.2), dif_pos (by omega)]
        refine (if_neg (by decide)).trans ?_
        have h1 : (pt (t.val - 1)).val = t.val - 1 := Nat.min_eq_left (by omega)
        have h2 : (pt ((pt (t.val - 1)).val - 1)).val = t.val - 2 := by rw [h1]; exact Nat.min_eq_left (by omega)
        rw [hcr (by omega)]
        unfold car
        refine (pay28_at _ _ _ d).trans ((prod_at m c (pt ((pt (t.val - 1)).val - 1)) (pt (t.val - 1)) (by omega) _ 1024 0 _ d (by decide) b ⟨(t.val - 1) % 8 * 256 + i.val - 8, by omega⟩
          (by omega) (by rw [h2]; show (t.val - 1) % 8 * 256 + i.val - 8 = (t.val - 2) % 8 * 256 + (248 + i.val); omega)).trans ?_)
        rw [ed]

theorem qk_at (t : Fin grid0.N) (ht : 1 ≤ t.val) (r : Fin 256) (b : Fin 4) (s : Fin 2048) (hb : b.val = (t.val - 1) / 8)
    (hs : s.val = (t.val - 1) % 8 * 256 + r.val) (y : Vec Ideal S1x256x1024 .bf16) (B : Vec Ideal S264x1024 .f32) (cr : Vec Ideal S8x1024 .f32) (hcr : carOk m c t.val cr) (d : Fin 1024) :
    qkB m c t y B cr (ix3 0 r d) = qkR (kQ m c) (kCw m c) (kCb m c) b s d := by
  have htN := t.isLt.trans_eq hN
  have hr := r.isLt
  have hd := d.isLt
  have hw : ∀ (j : Fin 4) (inb) (d : Fin 1024), j.val < 3 → VecWindow.window (pBuf (starts (grid0.coords t)) B cr (hP m c t) (wQK (iblk m c 6 t))) (![5 + j.val, 0]) S256x1024.size inb (ix2 r d)
      = tap (kQ m c) b s j d := fun j inb d hj => by
    refine (congrArg (pBuf (starts (grid0.coords t)) B cr (hP m c t) (wQK (iblk m c 6 t))) (funext fun a => ?_ : _ = ix2 (n0 := 264) (n1 := 1024) ⟨5 + j.val + r.val, by omega⟩ d)).trans ?_
    · match a with
      | ⟨0, _⟩ => exact Fin.ext (show 5 + j.val + 1 * r.val = 5 + j.val + r.val by omega)
      | ⟨1, _⟩ => exact Fin.ext (show 0 + 1 * d.val = d.val by omega)
    · rw [buf_at m c t ht B cr hcr _ d b hb]
      unfold tap
      by_cases h : 3 ≤ s.val + j.val
      · rw [dif_pos (by show 8 ≤ (t.val - 1) % 8 * 256 + (5 + j.val + r.val); omega), dif_pos h]
        exact congrArg (fun s' => kQ m c b s' ⟨d.val, by omega⟩) (Fin.ext (by show (t.val - 1) % 8 * 256 + (5 + j.val + r.val) - 8 = s.val + j.val - 3; omega))
      · rw [dif_neg (by show ¬ 8 ≤ (t.val - 1) % 8 * 256 + (5 + j.val + r.val); omega), dif_neg h]
  have h3 : ∀ d : Fin 1024, k0_pay25 (F := Ideal) (hP m c t) (wQK (iblk m c 6 t)) (ix2 r d) = tap (kQ m c) b s 3 d := fun d => by
    refine (pay25_at _ _ r d).trans ((prodP_at m c t ht r b s hb hs 1024 0 _ d (by decide)).trans ?_)
    unfold tap
    rw [dif_pos (by show 3 ≤ s.val + 3; omega)]
    exact congrArg₂ (kQ m c b) (Fin.ext (by show s.val = s.val + 3 - 3; omega)) (Fin.ext (Nat.zero_add _))
  have hcw : ∀ (j : Fin 4) (d : Fin 1024), iblk m c 7 t (ix3 0 j d) = kCw m c j d := fun j d => by
    rw [iblk7_at m c t 0 j d 1 j d (by decide) (by omega) (by omega), V_main_arg4]
  have hcb : ∀ d : Fin 1024, VecWindow.window (iblk m c 8 t) (![1, 0]) S1x1024.size inb_S2x1024_S1x1024_1_0 (ix2 0 d) = kCb m c d := fun d => by
    refine (congrArg (iblk m c 8 t) (funext fun a => ?_ : _ = ix2 (n0 := 2) (n1 := 1024) 1 d)).trans ?_
    · match a with
      | ⟨0, _⟩ => exact Fin.ext (show 1 + 1 * 0 = 1 by decide)
      | ⟨1, _⟩ => exact Fin.ext (show 0 + 1 * d.val = d.val by omega)
    · rw [iblk8_at m c t 1 d 1 d (by decide) (by omega), V_main_arg5]
  have hc := fun d : Fin 1024 => pay32_at (hP m c t) (wQK (iblk m c 6 t)) (iblk m c 7 t) (VecWindow.window (iblk m c 8 t) (![1, 0]) S1x1024.size inb_S2x1024_S1x1024_1_0)
    (VecWindow.window (pBuf (starts (grid0.coords t)) B cr (hP m c t) (wQK (iblk m c 6 t))) (![5, 0]) S256x1024.size inb_S264x1024_S256x1024_5_0)
    (VecWindow.window (pBuf (starts (grid0.coords t)) B cr (hP m c t) (wQK (iblk m c 6 t))) (![6, 0]) S256x1024.size inb_S264x1024_S256x1024_6_0)
    (VecWindow.window (pBuf (starts (grid0.coords t)) B cr (hP m c t) (wQK (iblk m c 6 t))) (![7, 0]) S256x1024.size inb_S264x1024_S256x1024_7_0) r d
    (cnv (kQ m c) (kCw m c) (kCb m c) b s d) (by
      rw [hcb, hcw, hcw, hcw, hcw, h3]
      exact (congrArg₂ (· + ·) (congrArg₂ (· + ·) (congrArg₂ (· + ·) (congrArg₂ (· + ·) rfl (congrArg₂ (· * ·) rfl (hw 0 _ d (by decide)))) (congrArg₂ (· * ·) rfl (hw 1 _ d (by decide))))
        (congrArg₂ (· * ·) rfl (hw 2 _ d (by decide)))) rfl).symm)
  unfold qkB pQk qkR
  by_cases h : d.val < 512
  · rw [if_pos h]
    refine (put_out _ _ _ _ _ 2 (Or.inl h)).trans ?_
    refine (put3_in (k0 := 1) (k1 := 256) (k2 := 512) _ _ 0 r d 0 r ⟨d.val, h⟩ rfl (by omega) (by show d.val = 0 + (d.val); omega)).trans ?_
    · exact (pay33_at _ _ _ _ _ _ r ⟨d.val, h⟩).trans (congrArg₂ (· * ·) (hc d) rfl)
  · rw [if_neg h]
    refine (put3_in (k0 := 1) (k1 := 256) (k2 := 512) _ _ 0 r d 0 r ⟨d.val - 512, by omega⟩ rfl (by omega) (by show d.val = 512 + (d.val - 512); omega)).trans ?_
    · have ed : (⟨512 + (d.val - 512), by omega⟩ : Fin 1024) = d := Fin.ext (by show 512 + (d.val - 512) = d.val; omega)
      refine (pay34_at _ _ _ _ _ _ r ⟨d.val - 512, by omega⟩).trans ?_
      refine (congrArg (fun e : Fin 1024 => k0_pay32 (F := Ideal) _ _ _ _ _ _ (ix2 r e)) ed).trans (hc d)

end Cert.Proof.In

end
-- ==== Proof.In.Gates.lean ====
module

public import proofs.«01_k».proof.Proof.In.Scan
public import proofs.«01_k».proof.Proof.In.Value

@[expose] public section

set_option maxRecDepth 16384

noncomputable section

namespace Cert.Proof.In

open Cert.Kernel4Ideal Cert.Kernel4Ideal.Gen

open Idealize.ShloMosaic Idealize.ShloMosaic.TcCoe Idealize.SL.Sem

/-! ## A tile's gates, at an index -/

/-- A round of the running sum: a row plus the row moved by `n` places. -/
def rndS (n : BitVec 32) (x : FVec Ideal S8x256 .f32) : FVec Ideal S8x256 .f32 :=
  addf x (select (cmpi .sge k0_pay13 (broadcast S8x256 n)) (dynamicRotate 1 n none x rotates_S8x256_d1) (broadcast S8x256 (Scalar.ofBits (F := Ideal) .f32 0x00000000#32)))

/-- A round of the running maximum. -/
def rndM (n : BitVec 32) (x : FVec Ideal S8x256 .f32) : FVec Ideal S8x256 .f32 :=
  maximumf x (select (cmpi .sge k0_pay13 (broadcast S8x256 n)) (dynamicRotate 1 n none x rotates_S8x256_d1) (broadcast S8x256 (Scalar.ofBits (F := Ideal) .f32 0xFF800000#32)))

theorem back (n l : Fin 256) : (l.val + 256 - n.val) % 256 = if n.val ≤ l.val then l.val - n.val else l.val + 256 - n.val := by
  by_cases h : n.val ≤ l.val
  · rw [if_pos h]; omega
  · rw [if_neg h]; omega

theorem rndS_at (n : Fin 256) (x : FVec Ideal S8x256 .f32) (g : Fin 8) (l : Fin 256) :
    rndS (BitVec.ofNat 32 n.val) x (ix2 g l) = x (ix2 g l) + if h : n.val ≤ l.val then x (ix2 g ⟨l.val - n.val, by omega⟩) else (0 : EReal) := by
  have hn : (BitVec.ofNat 32 n.val).toNat = n.val := by rw [BitVec.toNat_ofNat]; omega
  unfold rndS k0_pay13
  pointwise
  rw [low_bits, select_le]
  refine congrArg₂ (· + ·) rfl ?_
  by_cases h : n.val ≤ l.val
  · rw [if_pos h, dif_pos h]
    exact congrArg (fun e => x (ix2 g e)) (Fin.ext (by simp only [hn]; omega))
  · rw [if_neg h, dif_neg h]

theorem rndM_at (n : Fin 256) (x : FVec Ideal S8x256 .f32) (g : Fin 8) (l : Fin 256) :
    rndM (BitVec.ofNat 32 n.val) x (ix2 g l) = max (x (ix2 g l)) (if h : n.val ≤ l.val then x (ix2 g ⟨l.val - n.val, by omega⟩) else (⊥ : EReal)) := by
  have hn : (BitVec.ofNat 32 n.val).toNat = n.val := by rw [BitVec.toNat_ofNat]; omega
  unfold rndM k0_pay13
  pointwise
  rw [low_bits, select_le, ninf_eq]
  refine congrArg₂ max rfl ?_
  by_cases h : n.val ≤ l.val
  · rw [if_pos h, dif_pos h]
    exact congrArg (fun e => x (ix2 g e)) (Fin.ext (by simp only [hn]; omega))
  · rw [if_neg h, dif_neg h]

theorem rndS_wsum (n : Fin 256) (k : ℕ) (hk : k = n.val + n.val) (f : Fin 8 → Fin 256 → EReal) (x : FVec Ideal S8x256 .f32) (h : ∀ g l, x (ix2 g l) = wsum n.val (f g) l) :
    ∀ g l, rndS (BitVec.ofNat 32 n.val) x (ix2 g l) = wsum k (f g) l := fun g l => by
  subst hk
  rw [rndS_at, ← wsum_double]
  simp only [h]

theorem rndM_wmax (n : Fin 256) (k : ℕ) (hk : k = n.val + n.val) (f : Fin 8 → Fin 256 → EReal) (x : FVec Ideal S8x256 .f32) (h : ∀ g l, x (ix2 g l) = wmax n.val (f g) l) :
    ∀ g l, rndM (BitVec.ofNat 32 n.val) x (ix2 g l) = wmax k (f g) l := fun g l => by
  subst hk
  rw [rndM_at, ← wmax_double]
  simp only [h]

/-- The eight rounds of the running sum. -/
theorem sums_at (x : FVec Ideal S8x256 .f32) (g : Fin 8) (l : Fin 256) :
    rndS 128#32 (rndS 64#32 (rndS 32#32 (rndS 16#32 (rndS 8#32 (rndS 4#32 (rndS 2#32 (rndS 1#32 x))))))) (ix2 g l) = cumS (fun g j => x (ix2 g j)) g l :=
  (rndS_wsum 128 256 rfl _ _ (rndS_wsum 64 128 rfl _ _ (rndS_wsum 32 64 rfl _ _ (rndS_wsum 16 32 rfl _ _ (rndS_wsum 8 16 rfl _ _ (rndS_wsum 4 8 rfl _ _ (rndS_wsum 2 4 rfl _ _
    (rndS_wsum 1 2 rfl (fun g j => x (ix2 g j)) _ fun g l => wsum_one (fun j => x (ix2 g j)) l))))))) g l).trans (wsum_all (fun g j => x (ix2 g j)) g l)

/-- The eight rounds of the running maximum. -/
theorem tops_at (x : FVec Ideal S8x256 .f32) (f : Fin 8 → Fin 256 → EReal) (hx : ∀ g l, x (ix2 g l) = difS f g l) (g : Fin 8) (l : Fin 256) :
    rndM 128#32 (rndM 64#32 (rndM 32#32 (rndM 16#32 (rndM 8#32 (rndM 4#32 (rndM 2#32 (rndM 1#32 x))))))) (ix2 g l) = topS f g l :=
  (rndM_wmax 128 256 rfl _ _ (rndM_wmax 64 128 rfl _ _ (rndM_wmax 32 64 rfl _ _ (rndM_wmax 16 32 rfl _ _ (rndM_wmax 8 16 rfl _ _ (rndM_wmax 4 8 rfl _ _ (rndM_wmax 2 4 rfl _ _
    (rndM_wmax 1 2 rfl (difS f) _ fun g l => (hx g l).trans (wmax_one _ l)))))))) g l).trans (wmax_all _ g l)

theorem pSums_eq (h : Vec Ideal S256x2048 .bf16) (w : Vec Ideal S2048x128 .bf16) (bi bf : Vec Ideal S2x4 .f32) :
    pSums h w bi bf = rndS 4#32 (rndS 2#32 (rndS 1#32 (pLogs h w bi bf))) := rfl

theorem pay16_eq (s : FVec Ideal S8x256 .f32) :
    k0_pay16 (F := Ideal) k0_pay13 s k0_pay15 = dynamicRotate 0 4#32 none (rndS 128#32 (rndS 64#32 (rndS 32#32 (rndS 16#32 (rndS 8#32 s))))) rotates_S8x256_d0 := rfl

theorem pay23_eq (x s : FVec Ideal S8x256 .f32) :
    k0_pay23 (F := Ideal) (k0_pay20 k0_pay13 (k0_pay17 x k0_pay13 s k0_pay15) (k0_pay19 x k0_pay13 s k0_pay15)) (k0_pay21 k0_pay13)
      (k0_pay22 k0_pay13 (k0_pay17 x k0_pay13 s k0_pay15) (k0_pay19 x k0_pay13 s k0_pay15))
    = shapeCast S1x8x256 (rndM 128#32 (rndM 64#32 (rndM 32#32 (rndM 16#32 (rndM 8#32 (rndM 4#32 (rndM 2#32 (rndM 1#32 (k0_pay17 x k0_pay13 s k0_pay15))))))))) shapeCasts_S8x256_S1x8x256 := rfl

section
variable (x : FVec Ideal S8x256 .f32) (f : Fin 8 → Fin 256 → EReal) (hf : ∀ g l, x (ix2 g l) = f g l)
include hf

theorem dec_at (g : Fin 8) (l : Fin 256) : k0_pay16 (F := Ideal) k0_pay13 (rndS 4#32 (rndS 2#32 (rndS 1#32 x))) k0_pay15 (ix2 g l) = decS f g l := by
  have e := sums_at x
  rw [show (fun (g : Fin 8) (j : Fin 256) => x (ix2 g j)) = f from funext fun g => funext fun j => hf g j] at e
  unfold decS
  rw [pay16_eq, ← e]
  generalize rndS 128#32 (rndS 64#32 (rndS 32#32 (rndS 16#32 (rndS 8#32 (rndS 4#32 (rndS 2#32 (rndS 1#32 x))))))) = y
  pointwise
  refine congrArg (fun e => y (ix2 e l)) (Fin.ext ?_)
  show (g.val + 8 - 4) % 8 = (g.val + 4) % 8
  omega

theorem dif_at (g : Fin 8) (l : Fin 256) : k0_pay17 (F := Ideal) x k0_pay13 (rndS 4#32 (rndS 2#32 (rndS 1#32 x))) k0_pay15 (ix2 g l) = difS f g l := by
  unfold difS
  rw [← dec_at x f hf, ← hf]
  unfold k0_pay17
  generalize k0_pay16 (F := Ideal) k0_pay13 (rndS 4#32 (rndS 2#32 (rndS 1#32 x))) k0_pay15 = y
  pointwise

theorem cast_at (y : FVec Ideal S8x256 .f32) (g : Fin 8) (l : Fin 256) : shapeCast S1x8x256 y shapeCasts_S8x256_S1x8x256 (ix3 0 g l) = y (ix2 g l) := by
  pointwise

theorem pGv_at (y : Vec Ideal S1x24x256 .f32) (g : Fin 24) (l : Fin 256) : pGv (F := Ideal) y x (rndS 4#32 (rndS 2#32 (rndS 1#32 x))) (ix3 0 g l) = gatesS f g l := by
  unfold pGv gatesS
  by_cases h : g.val < 8
  · rw [dif_pos h]
    refine (put_out _ _ _ _ _ 1 (Or.inl (show g.val < 16 by omega))).trans ((put_out _ _ _ _ _ 1 (Or.inl (show g.val < 8 by omega))).trans ?_)
    refine (put3_in (k0 := 1) (k1 := 8) (k2 := 256) _ _ 0 g l 0 ⟨g.val, h⟩ l rfl (by show g.val = 0 + g.val; omega) (by omega)).trans ?_
    exact (cast_at x f hf _ _ l).trans (dif_at x f hf _ l)
  · rw [dif_neg h]
    by_cases h' : g.val - 8 < 8
    · rw [dif_pos h']
      refine (put_out _ _ _ _ _ 1 (Or.inl (show g.val < 16 by omega))).trans ?_
      refine (put3_in (k0 := 1) (k1 := 8) (k2 := 256) _ _ 0 g l 0 ⟨g.val - 8, h'⟩ l rfl (by show g.val = 8 + (g.val - 8); omega) (by omega)).trans ?_
      rw [pay23_eq]
      exact (cast_at x f hf _ _ l).trans (tops_at _ f (dif_at x f hf) _ l)
    · rw [dif_neg h']
      refine (put3_in (k0 := 1) (k1 := 8) (k2 := 256) _ _ 0 g l 0 ⟨g.val - 8 - 8, by omega⟩ l rfl (by show g.val = 16 + (g.val - 8 - 8); omega) (by omega)).trans ?_
      exact (cast_at x f hf _ _ l).trans (dec_at x f hf _ l)

end

/-! ## The logarithms -/

/-- A gate's bias: a row of its own. -/
theorem bias (bi bf : Fin 4 → EReal) (g : Fin 8) :
    Scalar.select (IntOp.cmpi CmpIPredicate.eq (BitVec.ofNat 32 g.val) 7#32) (bf 3)
      (Scalar.select (IntOp.cmpi CmpIPredicate.eq (BitVec.ofNat 32 g.val) 6#32) (bf 2)
        (Scalar.select (IntOp.cmpi CmpIPredicate.eq (BitVec.ofNat 32 g.val) 5#32) (bf 1)
          (Scalar.select (IntOp.cmpi CmpIPredicate.eq (BitVec.ofNat 32 g.val) 4#32) (bf 0)
            (Scalar.select (IntOp.cmpi CmpIPredicate.eq (BitVec.ofNat 32 g.val) 3#32) (bi 3)
              (Scalar.select (IntOp.cmpi CmpIPredicate.eq (BitVec.ofNat 32 g.val) 2#32) (bi 2)
                (Scalar.select (IntOp.cmpi CmpIPredicate.eq (BitVec.ofNat 32 g.val) 1#32) (bi 1)
                  (Scalar.select (IntOp.cmpi CmpIPredicate.eq (BitVec.ofNat 32 g.val) 0#32) (bi 0) (0 : EReal))))))))
    = if h : g.val < 4 then bi ⟨g.val, h⟩ else bf ⟨g.val - 4, by omega⟩ := by
  match g with
  | 0 => rfl
  | 1 => rfl
  | 2 => rfl
  | 3 => rfl
  | 4 => rfl
  | 5 => rfl
  | 6 => rfl
  | 7 => rfl

theorem four_le (g : Fin 8) (a b : EReal) : Scalar.select (IntOp.cmpi CmpIPredicate.sge (BitVec.ofNat 32 g.val) 4#32) a b = if g.val < 4 then b else a := by
  match g with
  | 0 => rfl
  | 1 => rfl
  | 2 => rfl
  | 3 => rfl
  | 4 => rfl
  | 5 => rfl
  | 6 => rfl
  | 7 => rfl

theorem pLogs_at (h : Vec Ideal S256x2048 .bf16) (w : Vec Ideal S2048x128 .bf16) (bi bf : Vec Ideal S2x4 .f32) (g : Fin 8) (l : Fin 256) :
    pLogs h w bi bf (ix2 g l) = if h' : g.val < 4 then (∑ k : Fin 2048, h (ix2 l k) * w (ix2 k ⟨g.val, by omega⟩)) + bi (ix2 1 ⟨g.val, h'⟩)
      else lsg ((∑ k : Fin 2048, h (ix2 l k) * w (ix2 k ⟨g.val, by omega⟩)) + bf (ix2 1 ⟨g.val - 4, by omega⟩)) := by
  unfold pLogs k0_pay12 k0_pay8 k0_pay9 k0_pay10 k0_pay11
  pointwise
  rw [four_le, bias (fun g => bi (ix2 1 g)) (fun g => bf (ix2 1 g)) g]
  by_cases h' : g.val < 4
  · rw [if_pos h', dif_pos h', dif_pos h']
  · rw [if_neg h', dif_neg h', dif_neg h']
    exact lsg_kernel _

variable (m : (ℓ : Loc nD τ sig) → Buf (Elt Ideal) ℓ) (c : Dev nD)

abbrev kBi : Fin 4 → EReal := fun g => (m ((c.tc : Thread nD τ).loc main_arg6) : Vec Ideal S2x4 .f32) (ix2 1 g)
abbrev kBf : Fin 4 → EReal := fun g => (m ((c.tc : Thread nD τ).loc main_arg7) : Vec Ideal S2x4 .f32) (ix2 1 g)

theorem idx0 (t : Fin grid0.N) : win0_0.index t 0 = 0 ∧ win0_0.index t 1 = 0 :=
  (by decide +kernel : ∀ t : Fin grid0.N, win0_0.index t 0 = 0 ∧ win0_0.index t 1 = 0) t
theorem idx1 (t : Fin grid0.N) : win0_1.index t 0 = 0 ∧ win0_1.index t 1 = 0 :=
  (by decide +kernel : ∀ t : Fin grid0.N, win0_1.index t 0 = 0 ∧ win0_1.index t 1 = 0) t

theorem iblk0_at (t : Fin grid0.N) (y0 : Fin 2) (y1 : Fin 4) : iblk m c 0 t (ix2 y0 y1) = V m c main_arg6 (ix2 y0 y1) := by
  have hi := idx0 t
  unfold iblk
  rw [View.read_apply]
  show V m c main_arg6 _ = V m c main_arg6 _
  refine congrArg (V m c main_arg6) (funext fun a => Fin.ext ?_)
  match a with
  | ⟨0, _⟩ => show win0_0.index t 0 * 2 + 1 * y0.val = y0.val; rw [hi.1]; omega
  | ⟨1, _⟩ => show win0_0.index t 1 * 4 + 1 * y1.val = y1.val; rw [hi.2]; omega

theorem iblk1_at (t : Fin grid0.N) (y0 : Fin 2) (y1 : Fin 4) : iblk m c 1 t (ix2 y0 y1) = V m c main_arg7 (ix2 y0 y1) := by
  have hi := idx1 t
  unfold iblk
  rw [View.read_apply]
  show V m c main_arg7 _ = V m c main_arg7 _
  refine congrArg (V m c main_arg7) (funext fun a => Fin.ext ?_)
  match a with
  | ⟨0, _⟩ => show win0_1.index t 0 * 2 + 1 * y0.val = y0.val; rw [hi.1]; omega
  | ⟨1, _⟩ => show win0_1.index t 1 * 4 + 1 * y1.val = y1.val; rw [hi.2]; omega

/-- The gates left at a point. -/
theorem gv_at (t : Fin grid0.N) (ht : 1 ≤ t.val) (y : Vec Ideal S1x24x256 .f32) (g : Fin 24) (l : Fin 256) (b : Fin 4) (s : Fin 2048) (hb : b.val = (t.val - 1) / 8)
    (hs : s.val = (t.val - 1) % 8 * 256 + l.val) : gvB m c t y (ix3 0 g l) = gatesR (kQ m c) (kBi m c) (kBf m c) b g s := by
  have hd : s.val / 256 = (t.val - 1) % 8 := by omega
  have hm : (⟨s.val % 256, Nat.mod_lt _ (by decide)⟩ : Fin 256) = l := Fin.ext (by show s.val % 256 = l.val; omega)
  unfold gvB gatesR
  rw [pSums_eq, hm]
  refine pGv_at _ _ (fun g j => ?_) y g l
  rw [pLogs_at]
  unfold lgt
  have e := prodP_at m c t ht j b ⟨s.val / 256 * 256 + j.val, by omega⟩ hb (by show s.val / 256 * 256 + j.val = (t.val - 1) % 8 * 256 + j.val; rw [hd]) 128 4608 inb_S2048x4736_S2048x128_0_4608 ⟨g.val, by omega⟩ (by decide)
  by_cases h : g.val < 4
  · rw [dif_pos h, dif_pos h, iblk0_at, V_main_arg6]
    exact congrArg₂ (· + ·) e rfl
  · rw [dif_neg h, dif_neg h, iblk1_at, V_main_arg7]
    exact congrArg lsg (congrArg₂ (· + ·) e rfl)

end Cert.Proof.In

end
-- ==== Proof.In.Ref.lean ====
module

public import proofs.«01_k».proof.Proof.In.Spec
public import proofs.«01_k».proof.Proof.Gen.Reference4Ideal.Run
public import Idealize.ShloMosaic.Lib.KernelVsHost

@[expose] public section

set_option maxRecDepth 16384

noncomputable section

namespace Cert.Proof.In

open Cert.Reference4Ideal Cert.Reference4Ideal.Gen Cert.Reference4Ideal.Value
open Cert.Proof.Mlp (rms)

open Idealize.ShloMosaic Idealize.ShloMosaic.TcCoe Idealize.SL.Sem

/-! ## What the reference computes, at an index -/

variable (V0 : Valuation τ sig (Elt Ideal))

/-- The reference's arguments, by index. -/
abbrev rX : Fin 4 → Fin 2048 → Fin 2048 → EReal := fun b s d => (V0 (Proc.devRef .tc main_arg0) : Vec Ideal S4x2048x2048 .f32) (ix3 b s d)
abbrev rMod : Fin 4 → Fin 12288 → EReal := fun b j => (V0 (Proc.devRef .tc main_arg1) : Vec Ideal S4x12288 .f32) (ix2 b j)
abbrev rG : Fin 2048 → EReal := fun d => (V0 (Proc.devRef .tc main_arg2) : Vec Ideal S2x2048 .f32) (ix2 1 d)
abbrev rW : Fin 2048 → Fin 4736 → EReal := fun k j => (V0 (Proc.devRef .tc main_arg3) : Vec Ideal S2048x4736 .bf16) (ix2 k j)
abbrev rCw : Fin 4 → Fin 1024 → EReal := fun j d => (V0 (Proc.devRef .tc main_arg4) : Vec Ideal S2x4x1024 .f32) (ix3 1 j d)
abbrev rCb : Fin 1024 → EReal := fun d => (V0 (Proc.devRef .tc main_arg5) : Vec Ideal S2x1024 .f32) (ix2 1 d)

theorem v30_at (b : Fin 4) (s : Fin 2048) (j : Fin 4736) : res_main_v30 V0 (ix3 b s j) = proj (rX V0) (rMod V0) (rG V0) (rW V0) b s j := by
  unfold res_main_v30 proj hid rms rX rMod rG rW
  generalize V0 (Proc.devRef .tc main_arg0) = x
  generalize V0 (Proc.devRef .tc main_arg1) = mod
  generalize V0 (Proc.devRef .tc main_arg2) = gp
  generalize V0 (Proc.devRef .tc main_arg3) = wp
  pointwise

/-- The reference's projection, by index. -/
abbrev rQ : Fin 4 → Fin 2048 → Fin 4736 → EReal := fun b s j => (res_main_v30 V0 : Vec Ideal S4x2048x4736 .f32) (ix3 b s j)

/-- The padded row a tap reads. -/
theorem tap_pad (q : Fin 4 → Fin 2048 → Fin 4736 → EReal) (b : Fin 4) (s : Fin 2048) (j : Fin 4) (d : Fin 1024) (n : ℕ) (hn : n = s.val + j.val) :
    (if h : 3 ≤ n ∧ n - 3 < 2048 then q b ⟨n - 3, h.2⟩ ⟨d.val, by omega⟩ else (FloatOps.sitofp FTy.f32 0#32 : Ideal .f32)) = tap q b s j d := by
  subst hn
  unfold tap
  by_cases h : 3 ≤ s.val + j.val
  · rw [dif_pos ⟨h, by omega⟩, dif_pos h]
  · rw [dif_neg (fun h' => h h'.1), dif_neg h]
    exact sitofp_zero (φ := .f32)

theorem v69_at (b : Fin 4) (s : Fin 2048) (d : Fin 1024) : res_main_v69 V0 (ix3 b s d) = cnv (rQ V0) (rCw V0) (rCb V0) b s d := by
  unfold res_main_v69 res_main_v37 cnv rQ rCw rCb
  generalize res_main_v30 V0 = q
  generalize V0 (Proc.devRef .tc main_arg4) = cw
  generalize V0 (Proc.devRef .tc main_arg5) = cb
  pointwise
  refine congrArg₂ (· + ·) (congrArg₂ (· + ·) (congrArg₂ (· + ·) (congrArg₂ (· + ·) rfl (congrArg₂ (· * ·) rfl ?_)) (congrArg₂ (· * ·) rfl ?_))
    (congrArg₂ (· * ·) rfl ?_)) (congrArg₂ (· * ·) rfl ?_)
  · exact tap_pad (fun b s j => q (ix3 b s j)) b s 0 d _ (by show s.val = s.val + 0; omega)
  · exact tap_pad (fun b s j => q (ix3 b s j)) b s 1 d _ (by show 1 + s.val = s.val + 1; omega)
  · exact tap_pad (fun b s j => q (ix3 b s j)) b s 2 d _ (by show 2 + s.val = s.val + 2; omega)
  · unfold tap
    rw [dif_pos (by show 3 ≤ s.val + 3; omega)]
    exact congrArg (fun s' => q (ix3 b s' ⟨d.val, by omega⟩)) (Fin.ext (by show s.val = s.val + 3 - 3; omega))

theorem v111_at (b : Fin 4) (s : Fin 2048) (d : Fin 1024) :
    (truncf (F := Ideal) (φ := .f32) .bf16 (concatenate S4x2048x1024 2 [⟨S4x2048x512, (mulf (extractStridedSlice S4x2048x512 ![0, 0, 0] (res_main_v70 V0) slices_S4x2048x1024_S4x2048x512_0_0_0) (broadcastInDim S4x2048x512 ![] bcast_S_S4x2048x512 (constant (F := Ideal) S_ .f32 0x3DB504F3#32)))⟩, ⟨S4x2048x512, (extractStridedSlice S4x2048x512 ![0, 0, 512] (res_main_v70 V0) slices_S4x2048x1024_S4x2048x512_0_0_512)⟩] concatenates_S4x2048x512_S4x2048x512_S4x2048x1024_d2) bitsLt_bf16_f32 : FVec Ideal S4x2048x1024 .bf16) (ix3 b s d)
      = qkR (rQ V0) (rCw V0) (rCb V0) b s d := by
  have e : ∀ d, res_main_v70 V0 (ix3 b s d) = cnv (rQ V0) (rCw V0) (rCb V0) b s d * sgm (cnv (rQ V0) (rCw V0) (rCb V0) b s d) := fun d => by
    rw [← v69_at]
    unfold res_main_v70 sgm
    generalize res_main_v69 V0 = u
    pointwise
  unfold qkR
  simp only [← e]
  generalize res_main_v70 V0 = u
  pointwise
  by_cases h : d.val < 512
  · rw [dif_pos h, if_pos h]
  · rw [dif_neg h, if_neg h]
    exact congrArg (fun d' => u (ix3 b s d')) (Fin.ext (by show 512 + (d.val - 512) = d.val; omega))

theorem v112_at (b : Fin 4) (s : Fin 2048) (d : Fin 1024) :
    (truncf (F := Ideal) (φ := .f32) .bf16 (extractStridedSlice S4x2048x1024 ![0, 0, 1024] (res_main_v30 V0) slices_S4x2048x4736_S4x2048x1024_0_0_1024) bitsLt_bf16_f32 : FVec Ideal S4x2048x1024 .bf16) (ix3 b s d)
      = rQ V0 b s ⟨1024 + d.val, by omega⟩ := by
  unfold rQ
  generalize res_main_v30 V0 = q
  pointwise

theorem v119_at (b : Fin 4) (s : Fin 2048) (d : Fin 1024) :
    (truncf (F := Ideal) (φ := .f32) .bf16 (Host.divf (broadcastInDim S4x2048x1024 ![] bcast_S_S4x2048x1024 (constant (F := Ideal) S_ .f32 0x3F800000#32)) (addf (broadcastInDim S4x2048x1024 ![] bcast_S_S4x2048x1024 (constant (F := Ideal) S_ .f32 0x3F800000#32)) (Host.exp (Host.negf (extractStridedSlice S4x2048x1024 ![0, 0, 2048] (res_main_v30 V0) slices_S4x2048x4736_S4x2048x1024_0_0_2048))))) bitsLt_bf16_f32 : FVec Ideal S4x2048x1024 .bf16) (ix3 b s d)
      = sgm (rQ V0 b s ⟨2048 + d.val, by omega⟩) := by
  unfold rQ sgm
  generalize res_main_v30 V0 = q
  pointwise

theorem v123_at (b : Fin 4) (s : Fin 2048) (d : Fin 1536) :
    (truncf (F := Ideal) (φ := .f32) .bf16 (concatenate S4x2048x1536 2 [⟨S4x2048x1024, (mulf (extractStridedSlice S4x2048x1024 ![0, 0, 0] (res_main_v34 V0) slices_S4x2048x1536_S4x2048x1024_0_0_0) (broadcastInDim S4x2048x1024 ![] bcast_S_S4x2048x1024 (constant (F := Ideal) S_ .f32 0x3E000000#32)))⟩, ⟨S4x2048x512, (extractStridedSlice S4x2048x512 ![0, 0, 1024] (res_main_v34 V0) slices_S4x2048x1536_S4x2048x512_0_0_1024)⟩] concatenates_S4x2048x1024_S4x2048x512_S4x2048x1536_d2) bitsLt_bf16_f32 : FVec Ideal S4x2048x1536 .bf16) (ix3 b s d)
      = attR (rQ V0) b s d := by
  unfold rQ attR res_main_v34
  generalize res_main_v30 V0 = q
  pointwise
  by_cases h : d.val < 1024
  · rw [dif_pos h, if_pos h]
  · rw [dif_neg h, if_neg h]
    exact congrArg (fun d' => q (ix3 b s d')) (Fin.ext (by show 3072 + (1024 + (d.val - 1024)) = 3072 + d.val; omega))

theorem v126_at (r : Fin 2048) (k : Fin 8192) :
    (truncf (F := Ideal) (φ := .f32) .bf16 (shapeCast S2048x8192 (extractStridedSlice S1x2048x8192 ![1, 0, 0] (V0 (Proc.devRef .tc main_arg8)) slices_S2x2048x8192_S1x2048x8192_1_0_0) shapeCasts_S1x2048x8192_S2048x8192) bitsLt_bf16_f32 : FVec Ideal S2048x8192 .bf16) (ix2 r k)
      = (V0 (Proc.devRef .tc main_arg8) : Vec Ideal S2x2048x8192 .f32) (ix3 1 r k) := by
  generalize V0 (Proc.devRef .tc main_arg8) = x
  pointwise

theorem v129_at (r : Fin 8192) (k : Fin 2048) :
    (truncf (F := Ideal) (φ := .f32) .bf16 (shapeCast S8192x2048 (extractStridedSlice S1x8192x2048 ![1, 0, 0] (V0 (Proc.devRef .tc main_arg9)) slices_S2x8192x2048_S1x8192x2048_1_0_0) shapeCasts_S1x8192x2048_S8192x2048) bitsLt_bf16_f32 : FVec Ideal S8192x2048 .bf16) (ix2 r k)
      = (V0 (Proc.devRef .tc main_arg9) : Vec Ideal S2x8192x2048 .f32) (ix3 1 r k) := by
  generalize V0 (Proc.devRef .tc main_arg9) = x
  pointwise

end Cert.Proof.In

end
-- ==== Proof.In.GateRef.lean ====
module

public import proofs.«01_k».proof.Proof.In.Scan
public import proofs.«01_k».proof.Proof.In.Ref

@[expose] public section

set_option maxRecDepth 16384

noncomputable section

namespace Cert.Proof.In

open Cert.Reference4Ideal Cert.Reference4Ideal.Gen Cert.Reference4Ideal.Value

open Idealize.ShloMosaic Idealize.ShloMosaic.TcCoe Idealize.SL.Sem

/-! ## The reference's gates, at an index -/

variable (V0 : Valuation τ sig (Elt Ideal))

abbrev rBi : Fin 4 → EReal := fun g => (V0 (Proc.devRef .tc main_arg6) : Vec Ideal S2x4 .f32) (ix2 1 g)
abbrev rBf : Fin 4 → EReal := fun g => (V0 (Proc.devRef .tc main_arg7) : Vec Ideal S2x4 .f32) (ix2 1 g)

theorem v90_at (b : Fin 4) (g ti : Fin 8) (l : Fin 256) :
    res_main_v90 V0 (ix4 b g ti l) = lgt (rQ V0) (rBi V0) (rBf V0) b ⟨ti.val * 256 + l.val, by omega⟩ g := by
  unfold res_main_v90 res_main_call2_call0_v3 res_main_call2_v0 res_main_call2_call0_cst res_main_v35 lgt rQ rBi rBf
  generalize res_main_v30 V0 = q
  generalize V0 (Proc.devRef .tc main_arg6) = bi
  generalize V0 (Proc.devRef .tc main_arg7) = bf
  pointwise
  by_cases h : g.val < 4
  · rw [dif_pos h, dif_pos h]
  · refine (dif_neg h).trans (Eq.trans ?_ (dif_neg h).symm)
    refine (congrArg (fun z : EReal => -z) (if_neg (not_not.2 rfl))).trans ?_
    refine (lsg_ref _).trans (congrArg lsg (congrArg₂ (· + ·) (congrArg q (congrArg (fun e : Fin 4736 => ix3 b _ e) (Fin.ext ?_))) rfl))
    show 4608 + (4 + (g.val - 4)) = 4608 + g.val
    omega

theorem v100_at (b : Fin 4) (g ti : Fin 8) (l : Fin 256) :
    res_main_v100 V0 (ix4 b g ti l) = cumS (fun g j => res_main_v90 V0 (ix4 b g ti j)) g l := by
  unfold res_main_v100 res_main_v97 cumS
  generalize res_main_v90 V0 = q
  simp only [id]
  pointwise
  simp only [select_le]

theorem v101_at (b : Fin 4) (g ti : Fin 8) (l : Fin 256) :
    res_main_v101 V0 (ix4 b g ti l) = decS (fun g j => res_main_v90 V0 (ix4 b g ti j)) g l := by
  unfold decS
  rw [← v100_at]
  unfold res_main_v101
  generalize res_main_v100 V0 = q
  pointwise
  by_cases h : g.val < 4
  · rw [dif_pos h]
    exact congrArg (fun e => q (ix4 b e ti l)) (Fin.ext (by show 4 + g.val = (g.val + 4) % 8; omega))
  · rw [dif_neg h]
    exact congrArg (fun e => q (ix4 b e ti l)) (Fin.ext (by show g.val - 4 = (g.val + 4) % 8; omega))

theorem v102_at (b : Fin 4) (g ti : Fin 8) (l : Fin 256) :
    res_main_v102 V0 (ix4 b g ti l) = difS (fun g j => res_main_v90 V0 (ix4 b g ti j)) g l := by
  unfold difS
  rw [← v101_at]
  unfold res_main_v102
  generalize res_main_v101 V0 = p
  generalize res_main_v90 V0 = q
  pointwise

/-- The running maximum of the reference. -/
def refTop (x : FVec Ideal S4x8x8x256 .f32) : FVec Ideal S4x8x8x256 .f32 :=
  Host.reduce FloatOps.maximumf (select (broadcastInDim S4x8x8x256x256 ![3, 4] bcast_S256x256_S4x8x8x256x256_3_4 (res_main_v97 V0)) (broadcastInDim S4x8x8x256x256 ![0, 1, 2, 3, 4] bcast_S4x8x8x1x256_S4x8x8x256x256_0_1_2_3_4 (broadcastInDim S4x8x8x1x256 ![0, 1, 2, 4] bcast_S4x8x8x256_S4x8x8x1x256_0_1_2_4 x)) (broadcastInDim S4x8x8x256x256 ![] bcast_S_S4x8x8x256x256 (id (constant (F := Ideal) S_ .f32 0xFF800000#32)))) (constant (F := Ideal) S_ .f32 0xFF800000#32) reducesTo_S4x8x8x256x256_S4x8x8x256_d4 h_S_

theorem refTop_at (x : FVec Ideal S4x8x8x256 .f32) (b : Fin 4) (g ti : Fin 8) (l : Fin 256) :
    refTop V0 x (ix4 b g ti l) = Finset.univ.sup fun j : Fin 256 => if j.val ≤ l.val then x (ix4 b g ti j) else (⊥ : EReal) := by
  unfold refTop res_main_v97
  simp only [id]
  pointwise
  rw [ninf_eq]
  simp only [select_le]
  rfl

theorem top_at (b : Fin 4) (g ti : Fin 8) (l : Fin 256) :
    refTop V0 (res_main_v102 V0) (ix4 b g ti l) = topS (fun g j => res_main_v90 V0 (ix4 b g ti j)) g l :=
  (refTop_at V0 _ b g ti l).trans (congrArg (fun h : Fin 256 → EReal => Finset.univ.sup h) (funext fun j => if_congr Iff.rfl (v102_at V0 b g ti j) rfl))

theorem v107_at (b : Fin 4) (g : Fin 24) (s : Fin 2048) :
    (shapeCast S4x24x2048 ((concatenate S4x24x8x256 1 [⟨S4x8x8x256, ((res_main_v102 V0) : (⟨S4x8x8x256, .f32⟩ : BufTy).Contents (Elt Ideal))⟩, ⟨S4x8x8x256, ((refTop V0 (res_main_v102 V0)) : (⟨S4x8x8x256, .f32⟩ : BufTy).Contents (Elt Ideal))⟩, ⟨S4x8x8x256, ((res_main_v101 V0) : (⟨S4x8x8x256, .f32⟩ : BufTy).Contents (Elt Ideal))⟩] concatenates_S4x8x8x256_S4x8x8x256_S4x8x8x256_S4x24x8x256_d1 : (⟨S4x24x8x256, .f32⟩ : BufTy).Contents (Elt Ideal))) shapeCasts_S4x24x8x256_S4x24x2048 : FVec Ideal S4x24x2048 .f32) (ix3 b g s)
      = gatesR (rQ V0) (rBi V0) (rBf V0) b g s := by
  unfold gatesR gatesS
  have e : ∀ ti : Fin 8, (fun (g : Fin 8) (j : Fin 256) => lgt (rQ V0) (rBi V0) (rBf V0) b ⟨ti.val * 256 + j.val, by omega⟩ g) = fun g j => res_main_v90 V0 (ix4 b g ti j) := fun ti =>
    funext fun g => funext fun j => (v90_at V0 b g ti j).symm
  have e' := e ⟨s.val / 256, by omega⟩
  dsimp only at e'
  rw [e']
  simp only [← v101_at, ← v102_at, ← top_at]
  generalize refTop V0 (res_main_v102 V0) = y
  generalize res_main_v102 V0 = x
  generalize res_main_v101 V0 = z
  pointwise

end Cert.Proof.In

end
-- ==== Proof.In.Algebraic.lean ====
module

public import proofs.«01_k».proof.Proof.In.Frames
public import proofs.«01_k».proof.Proof.In.Gates
public import proofs.«01_k».proof.Proof.In.GateRef
public import Idealize.ShloMosaic.Lib.Pipeline.ArrRel
public import Idealize.ShloMosaic.Lib.Pipeline.ValueKit

@[expose] public section

set_option maxRecDepth 16384

noncomputable section

namespace Cert.Proof.In

open Cert.Kernel4Ideal Cert.Kernel4Ideal.Gen

open Idealize.ShloMosaic Idealize.ShloMosaic.TcCoe Idealize.SL.Sem

/-! ## The seven results, of the arguments -/

variable (m : (ℓ : Loc nD τ sig) → Buf (Elt Ideal) ℓ) (c : Dev nD)

/-- The values, of the projection. -/
def vR (q : Fin 4 → Fin 2048 → Fin 4736 → EReal) (b : Fin 4) (s : Fin 2048) (d : Fin 1024) : EReal := q b s ⟨1024 + d.val, by omega⟩
/-- The output gates, of the projection. -/
def ogR (q : Fin 4 → Fin 2048 → Fin 4736 → EReal) (b : Fin 4) (s : Fin 2048) (d : Fin 1024) : EReal := sgm (q b s ⟨2048 + d.val, by omega⟩)

def out0 : Vec Ideal S4x2048x1024 .bf16 := fun y => qkR (kQ m c) (kCw m c) (kCb m c) (y 0) (y 1) (y 2)
def out1 : Vec Ideal S4x2048x1024 .bf16 := fun y => vR (kQ m c) (y 0) (y 1) (y 2)
def out2 : Vec Ideal S4x2048x1024 .bf16 := fun y => ogR (kQ m c) (y 0) (y 1) (y 2)
def out3 : Vec Ideal S4x2048x1536 .bf16 := fun y => attR (kQ m c) (y 0) (y 1) (y 2)
def out4 : Vec Ideal S4x24x2048 .f32 := fun y => gatesR (kQ m c) (kBi m c) (kBf m c) (y 0) (y 1) (y 2)
def out5 : Vec Ideal S2048x8192 .bf16 := fun y => (m ((c.tc : Thread nD τ).loc main_arg8) : Vec Ideal S2x2048x8192 .f32) (ix3 (n0 := 2) (n1 := 2048) (n2 := 8192) 1 (y 0) (y 1))
def out6 : Vec Ideal S8192x2048 .bf16 := fun y => (m ((c.tc : Thread nD τ).loc main_arg9) : Vec Ideal S2x8192x2048 .f32) (ix3 (n0 := 2) (n1 := 8192) (n2 := 2048) 1 (y 0) (y 1))

theorem flush_ge : ∀ w : Fin cfg0.W, fgt w = true → ∀ t : Fin cfg0.N, (cfg0.win w).flush t = true → 1 ≤ t.val := by decide +kernel

/-- A block whose first axis has one place, at an index. -/
theorem unit_ix {n1 n2 : ℕ} (y : (⟨3, ![1, n1, n2]⟩ : Shape).Idx) : y = ix3 (n0 := 1) (n1 := n1) (n2 := n2) 0 (y 1) (y 2) :=
  (eq_ix3 (n0 := 1) (n1 := n1) (n2 := n2) y).trans (congrArg (fun a : Fin 1 => ix3 (n0 := 1) (n1 := n1) (n2 := n2) a (y 1) (y 2)) (Subsingleton.elim (α := Fin 1) _ _))

/-- Where a tile's row lies in its array. -/
theorem row_vals (t i0 i1 i2 y0 y1 y2 n : ℕ) (hy : y0 < 1) (hi : i0 = (t - 1) / 8 ∧ i1 = (t - 1) % 8 ∧ i2 = 0) :
    i0 * 1 + 1 * y0 = (t - 1) / 8 ∧ i1 * 256 + 1 * y1 = (t - 1) % 8 * 256 + y1 ∧ i2 * n + 1 * y2 = y2 := by
  obtain ⟨h0, h1, h2⟩ := hi
  rw [h2, Nat.zero_mul]
  omega

section
variable (r : PUnit × MemSt nD τ sig (Elt Ideal)) (h : Pipeline.RDat.FramePost cfg0 (rdats m) (V m) r)
include h

/-- The array of a window that the body writes, of what it may have left in the window. -/
theorem arr_of (w : Fin cfg0.W) (hw : fgt w = true) (G : Buf (Elt Ideal) ((cfg0.win w).arr.view.loc (c.tc : Thread nD τ))) (hcov : (cfg0.win w).Covers)
    (harr : (cfg0.win w).arr.IsWhole)
    (hG : ∀ t : Fin cfg0.N, 1 ≤ t.val → ∀ X : (cfg0.win w).block.Idx → Elt Ideal (cfg0.win w).elt, Rl m c w t X → ∀ y : ((cfg0.win w).xblock (cfg0.grid.coords t)).Idx,
      _root_.cast (congrArg (Elt Ideal) ((cfg0.win w).blk t).view.elt_eq.symm) (X ((cfg0.win w).xinj (cfg0.grid.coords t) y)) = G (((cfg0.win w).blk t).view.emb y)) :
    r.2.mem ((cfg0.spec w).arr.view.loc (c.tc : Thread nD τ)) = G := by
  obtain ⟨after, hL, hA⟩ := h.exists_exact c
  refine (hA w).trans (((rdats m c).withAfter after).arrAt_eq_of_covers w G hcov (fun t hf y => ?_) harr)
  rw [Pipeline.RDat.withAfter_after]
  have ht := flush_ge w hw t hf
  exact hG t ht _ ((dats m 0 c).toRRel_leaves (fgt := fgt) (Rl := Rl m c) hw (hL w t hf)) y

theorem arr0 : r.2.mem ((c.tc : Thread nD τ).loc main_v1_0) = out0 m c :=
  arr_of m c r h 11 rfl (out0 m c) (by decide +kernel) (Memref.isWhole_whole _) fun t ht X hX y => by
    obtain ⟨e0, e1, e2⟩ : (((cfg0.win 11).blk t).view.emb y 0).val = (t.val - 1) / 8 ∧ (((cfg0.win 11).blk t).view.emb y 1).val = (t.val - 1) % 8 * 256 + (y 1).val
        ∧ (((cfg0.win 11).blk t).view.emb y 2).val = (y 2).val := row_vals _ _ _ _ _ _ _ 1024 (y 0).isLt (idx11 t)
    obtain ⟨y0, B, cr, hcr, rfl⟩ := (hX : Ok11 m c t X) ht
    rw [cast_eq]
    refine (congrArg _ (unit_ix (n1 := 256) (n2 := 1024) _)).trans ((qk_at m c t ht (y 1) _ _ e0 e1 y0 B cr hcr (y 2)).trans ?_)
    exact congrArg (qkR (kQ m c) (kCw m c) (kCb m c) _ _) (Fin.ext e2.symm)

theorem arr1 : r.2.mem ((c.tc : Thread nD τ).loc main_v1_1) = out1 m c :=
  arr_of m c r h 12 rfl (out1 m c) (by decide +kernel) (Memref.isWhole_whole _) fun t ht X hX y => by
    obtain ⟨e0, e1, e2⟩ : (((cfg0.win 12).blk t).view.emb y 0).val = (t.val - 1) / 8 ∧ (((cfg0.win 12).blk t).view.emb y 1).val = (t.val - 1) % 8 * 256 + (y 1).val
        ∧ (((cfg0.win 12).blk t).view.emb y 2).val = (y 2).val := row_vals _ _ _ _ _ _ _ 1024 (y 0).isLt (idx12 t)
    have hX := (hX : Ok12 m c t X) ht
    subst hX
    rw [cast_eq]
    refine (congrArg _ (unit_ix (n1 := 256) (n2 := 1024) _)).trans ((v_at m c t ht (y 1) _ _ e0 e1 (y 2)).trans ?_)
    exact congrArg (vR (kQ m c) _ _) (Fin.ext e2.symm)

theorem arr2 : r.2.mem ((c.tc : Thread nD τ).loc main_v1_2) = out2 m c :=
  arr_of m c r h 13 rfl (out2 m c) (by decide +kernel) (Memref.isWhole_whole _) fun t ht X hX y => by
    obtain ⟨e0, e1, e2⟩ : (((cfg0.win 13).blk t).view.emb y 0).val = (t.val - 1) / 8 ∧ (((cfg0.win 13).blk t).view.emb y 1).val = (t.val - 1) % 8 * 256 + (y 1).val
        ∧ (((cfg0.win 13).blk t).view.emb y 2).val = (y 2).val := row_vals _ _ _ _ _ _ _ 1024 (y 0).isLt (idx13 t)
    have hX := (hX : Ok13 m c t X) ht
    subst hX
    rw [cast_eq]
    refine (congrArg _ (unit_ix (n1 := 256) (n2 := 1024) _)).trans ((og_at m c t ht (y 1) _ _ e0 e1 (y 2)).trans ?_)
    exact congrArg (ogR (kQ m c) _ _) (Fin.ext e2.symm)

theorem arr3 : r.2.mem ((c.tc : Thread nD τ).loc main_v1_3) = out3 m c :=
  arr_of m c r h 14 rfl (out3 m c) (by decide +kernel) (Memref.isWhole_whole _) fun t ht X hX y => by
    obtain ⟨e0, e1, e2⟩ : (((cfg0.win 14).blk t).view.emb y 0).val = (t.val - 1) / 8 ∧ (((cfg0.win 14).blk t).view.emb y 1).val = (t.val - 1) % 8 * 256 + (y 1).val
        ∧ (((cfg0.win 14).blk t).view.emb y 2).val = (y 2).val := row_vals _ _ _ _ _ _ _ 1536 (y 0).isLt (idx14 t)
    obtain ⟨y0, rfl⟩ := (hX : Ok14 m c t X) ht
    rw [cast_eq]
    refine (congrArg _ (unit_ix (n1 := 256) (n2 := 1536) _)).trans ((att_at m c t ht (y 1) _ _ e0 e1 y0 (y 2)).trans ?_)
    exact congrArg (attR (kQ m c) _ _) (Fin.ext e2.symm)

theorem arr4 : r.2.mem ((c.tc : Thread nD τ).loc main_v1_4) = out4 m c :=
  arr_of m c r h 15 rfl (out4 m c) (by decide +kernel) (Memref.isWhole_whole _) fun t ht X hX y => by
    have hi := idx15 t
    have e0 : (((cfg0.win 15).blk t).view.emb y 0).val = (t.val - 1) / 8 := by
      show win0_15.index t 0 * 1 + 1 * (y 0).val = _
      have h0 : (y 0).val < 1 := (y 0).isLt
      rw [hi.1]; omega
    have e1 : (((cfg0.win 15).blk t).view.emb y 1).val = (y 1).val := by
      show win0_15.index t 1 * 24 + 1 * (y 1).val = _
      rw [hi.2.1]; omega
    have e2 : (((cfg0.win 15).blk t).view.emb y 2).val = (t.val - 1) % 8 * 256 + (y 2).val := by
      show win0_15.index t 2 * 256 + 1 * (y 2).val = _
      rw [hi.2.2]; omega
    obtain ⟨y0, rfl⟩ := (hX : Ok15 m c t X) ht
    rw [cast_eq]
    refine (congrArg _ (unit_ix (n1 := 24) (n2 := 256) _)).trans ((gv_at m c t ht y0 (y 1) (y 2) _ _ e0 e2).trans ?_)
    exact congrArg (fun g : Fin 24 => gatesR (kQ m c) (kBi m c) (kBf m c) _ g _) (Fin.ext e1.symm)

theorem arr5 : r.2.mem ((c.tc : Thread nD τ).loc main_v1_5) = out5 m c :=
  arr_of m c r h 16 rfl (out5 m c) (by decide +kernel) (Memref.isWhole_whole _) fun t ht X hX y => by
    have hi := idx16 t
    have e0 : (((cfg0.win 16).blk t).view.emb y 0).val = (t.val - 1) * 64 + (y 0).val := by
      show win0_16.index t 0 * 64 + 1 * (y 0).val = _
      rw [hi.1]; omega
    have e1 : (((cfg0.win 16).blk t).view.emb y 1).val = 0 * 8192 + (y 1).val := by
      show win0_16.index t 1 * 8192 + 1 * (y 1).val = _
      rw [hi.2]; omega
    have hX := (hX : Ok16 m c t X) ht
    subst hX
    rw [cast_eq]
    refine (congrArg _ (eq_ix2 (n0 := 64) (n1 := 8192) _)).trans ((pay6_at _ (y 0) (y 1)).trans ?_)
    refine (iblk9_at m c t 0 (y 0) (y 1) 1 (((cfg0.win 16).blk t).view.emb y 0) (((cfg0.win 16).blk t).view.emb y 1) rfl e0 e1).trans ?_
    rw [V_main_arg8]
    rfl

theorem arr6 : r.2.mem ((c.tc : Thread nD τ).loc main_v1_6) = out6 m c :=
  arr_of m c r h 17 rfl (out6 m c) (by decide +kernel) (Memref.isWhole_whole _) fun t ht X hX y => by
    have hi := idx17 t
    have e0 : (((cfg0.win 17).blk t).view.emb y 0).val = (t.val - 1) * 256 + (y 0).val := by
      show win0_17.index t 0 * 256 + 1 * (y 0).val = _
      rw [hi.1]; omega
    have e1 : (((cfg0.win 17).blk t).view.emb y 1).val = 0 * 2048 + (y 1).val := by
      show win0_17.index t 1 * 2048 + 1 * (y 1).val = _
      rw [hi.2]; omega
    have hX := (hX : Ok17 m c t X) ht
    subst hX
    rw [cast_eq]
    refine (congrArg _ (eq_ix2 (n0 := 256) (n1 := 2048) _)).trans ((pay7_at _ (y 0) (y 1)).trans ?_)
    refine (iblk10_at m c t 0 (y 0) (y 1) 1 (((cfg0.win 17).blk t).view.emb y 0) (((cfg0.win 17).blk t).view.emb y 1) rfl e0 e1).trans ?_
    rw [V_main_arg9]
    rfl

end

/-! ## The claim -/

/-- The projection of the reference, of its own arguments. -/
theorem rQ_eq (V0 : Valuation Cert.Reference4Ideal.τ Cert.Reference4Ideal.sig (Elt Ideal)) : rQ V0 = proj (rX V0) (rMod V0) (rG V0) (rW V0) :=
  funext fun b => funext fun s => funext fun j => v30_at V0 b s j

/-- The call and the reference leave the same results, and their arguments as they were. -/
theorem algebraic : Cert.algebraic_Kernel4Ideal_Reference4Ideal := fun m g m' g' _ hm => by
  refine ⟨fun c => out0 m c, fun c => out1 m c, fun c => out2 m c, fun c => out3 m c, fun c => out4 m c, fun c => out5 m c, fun c => out6 m c, ?_, ?_⟩
  · exact (θ_run defs _ _).mono (fun r h c => ⟨arr0 m c r h.1, arr1 m c r h.1, arr2 m c r h.1, arr3 m c r h.1, arr4 m c r h.1, arr5 m c r h.1, arr6 m c r h.1, args_kept m r h.1 c⟩) (run_main m g)
  · refine (θ_run Cert.Reference4Ideal.defs _ _).mono (fun r h c => ?_) (Cert.Reference4Ideal.Value.run (F := Ideal) m' g')
    obtain ⟨h0, h1, h2, h3, h4, h5, h6, hk⟩ := h c
    obtain ⟨a0, a1, a2, a3, a4, a5, a6, a7, a8, a9⟩ := hm c
    have qX : rX (StableHlo.launchContents m' c) = kX m c := funext fun b => funext fun s => funext fun d => congrFun a0 (ix3 b s d)
    have qM : rMod (StableHlo.launchContents m' c) = kMod m c := funext fun b => funext fun j => congrFun a1 (ix2 b j)
    have qG : rG (StableHlo.launchContents m' c) = kG m c := funext fun d => congrFun a2 (ix2 1 d)
    have qW : rW (StableHlo.launchContents m' c) = kW m c := funext fun k => funext fun j => congrFun a3 (ix2 k j)
    have qCw : rCw (StableHlo.launchContents m' c) = kCw m c := funext fun j => funext fun d => congrFun a4 (ix3 1 j d)
    have qCb : rCb (StableHlo.launchContents m' c) = kCb m c := funext fun d => congrFun a5 (ix2 1 d)
    have qBi : rBi (StableHlo.launchContents m' c) = kBi m c := funext fun g => congrFun a6 (ix2 1 g)
    have qBf : rBf (StableHlo.launchContents m' c) = kBf m c := funext fun g => congrFun a7 (ix2 1 g)
    have qQ : rQ (StableHlo.launchContents m' c) = kQ m c := by rw [rQ_eq, qX, qM, qG, qW]
    refine ⟨h0.trans (funext fun y => ?_), h1.trans (funext fun y => ?_), h2.trans (funext fun y => ?_), h3.trans (funext fun y => ?_), h4.trans (funext fun y => ?_),
      h5.trans (funext fun y => ?_), h6.trans (funext fun y => ?_), hk⟩
    · refine (congrArg _ (eq_ix3 (n0 := 4) (n1 := 2048) (n2 := 1024) y)).trans ((v111_at _ _ _ _).trans ?_)
      rw [qQ, qCw, qCb]
      rfl
    · refine (congrArg _ (eq_ix3 (n0 := 4) (n1 := 2048) (n2 := 1024) y)).trans ((v112_at _ _ _ _).trans ?_)
      rw [qQ]
      rfl
    · refine (congrArg _ (eq_ix3 (n0 := 4) (n1 := 2048) (n2 := 1024) y)).trans ((v119_at _ _ _ _).trans ?_)
      rw [qQ]
      rfl
    · refine (congrArg _ (eq_ix3 (n0 := 4) (n1 := 2048) (n2 := 1536) y)).trans ((v123_at _ _ _ _).trans ?_)
      rw [qQ]
      rfl
    · refine (congrArg _ (eq_ix3 (n0 := 4) (n1 := 24) (n2 := 2048) y)).trans ((v107_at _ _ _ _).trans ?_)
      rw [qQ, qBi, qBf]
      rfl
    · refine (congrArg _ (eq_ix2 (n0 := 2048) (n1 := 8192) y)).trans ((v126_at _ _ _).trans ?_)
      exact congrFun a8 _
    · refine (congrArg _ (eq_ix2 (n0 := 8192) (n1 := 2048) y)).trans ((v129_at _ _ _).trans ?_)
      exact congrFun a9 _

end Cert.Proof.In

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Mlp.Frames
public import proofs.«01_k».proof.Proof.Mlp.Algebraic
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Mlp2.Frames
public import proofs.«01_k».proof.Proof.Mlp2.Algebraic
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Out.Frames
public import proofs.«01_k».proof.Proof.Out.Algebraic
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.In.Frames
public import proofs.«01_k».proof.Proof.In.Algebraic

@[expose] public section

noncomputable section

namespace Cert.Proof

open Idealize.ShloMosaic Idealize.SL.Sem

/-- The frame of the first reference: its operations write none of its arguments, and it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The frame of the second reference: its operations write none of its arguments, and it declares no semaphore. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The frame of the third reference: its operations write none of its arguments, and it declares no semaphore. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The frame of the fourth reference: its operations write none of its arguments, and it declares no semaphore. -/
theorem frame_reference4 : Cert.quiescent_Reference4Ideal := fun m ρ _ =>
  (θ_run Cert.Reference4Ideal.defs _ _).mono
    (fun r h => ⟨fun c => (h c).2.2.2.2.2.2.2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Mlp.frame_kernel, Mlp.frame_kernelIdeal, frame_reference,
    Mlp2.frame_kernel, Mlp2.frame_kernelIdeal, frame_reference2,
    Out.frame_kernel, Out.frame_kernelIdeal, frame_reference3,
    In.frame_kernel, In.frame_kernelIdeal, frame_reference4,
    trivial, Mlp.algebraic, trivial, Mlp2.algebraic, trivial, Out.algebraic, trivial, In.algebraic⟩

end Cert.Proof

end
